-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_finite_and_not_negative_KernelIdeal [hPre_scale_is_finite_and_not_negative_KernelIdeal : Cert.Pre_scale_is_finite_and_not_negative_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_finite_and_not_negative_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_finite_and_not_negative_ReferenceIdeal [hPre_scale_is_finite_and_not_negative_ReferenceIdeal : Cert.Pre_scale_is_finite_and_not_negative_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_finite_and_not_negative_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_is_finite_and_not_negative_KernelIdeal [hKernelIdeal : Cert.KernelIdeal.Facts] [hPre_scale_is_finite_and_not_negative_KernelIdeal : Cert.Pre_scale_is_finite_and_not_negative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_finite_and_not_negative_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_is_finite_and_not_negative_ReferenceIdeal [hReferenceIdeal : Cert.ReferenceIdeal.Facts] [hPre_scale_is_finite_and_not_negative_ReferenceIdeal : Cert.Pre_scale_is_finite_and_not_negative_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_finite_and_not_negative_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_is_finite_and_not_negative_KernelIdeal [hKernelIdeal : Cert.KernelIdeal.Facts] [hReferenceIdeal : Cert.ReferenceIdeal.Facts] [hPre_scale_is_finite_and_not_negative_KernelIdeal : Cert.Pre_scale_is_finite_and_not_negative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_finite_and_not_negative_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_is_finite_and_not_negative_KernelIdeal : Cert.Pre_scale_is_finite_and_not_negative_KernelIdeal.Facts) (hPre_scale_is_finite_and_not_negative_ReferenceIdeal : Cert.Pre_scale_is_finite_and_not_negative_ReferenceIdeal.Facts),
    quiescent_Kernel (hKernel := hKernel)
    ∧ quiescent_KernelIdeal (hKernelIdeal := hKernelIdeal)
    ∧ quiescent_KernelIdeal_pre_scale_is_finite_and_not_negative_KernelIdeal (hKernelIdeal := hKernelIdeal) (hPre_scale_is_finite_and_not_negative_KernelIdeal := hPre_scale_is_finite_and_not_negative_KernelIdeal)
    ∧ quiescent_ReferenceIdeal (hReferenceIdeal := hReferenceIdeal)
    ∧ quiescent_ReferenceIdeal_pre_scale_is_finite_and_not_negative_ReferenceIdeal (hReferenceIdeal := hReferenceIdeal) (hPre_scale_is_finite_and_not_negative_ReferenceIdeal := hPre_scale_is_finite_and_not_negative_ReferenceIdeal)
    ∧ preserves_Kernel_KernelIdeal
    ∧ algebraic_KernelIdeal_ReferenceIdeal_pre_scale_is_finite_and_not_negative_KernelIdeal (hKernelIdeal := hKernelIdeal) (hReferenceIdeal := hReferenceIdeal) (hPre_scale_is_finite_and_not_negative_KernelIdeal := hPre_scale_is_finite_and_not_negative_KernelIdeal)
-- ==== Pre_scale_is_finite_and_not_negative_KernelIdeal.lean ====
abbrev S4096x128 : Shape := ⟨2, ![4096, 128]⟩
abbrev S128x2048 : Shape := ⟨2, ![128, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x128 .fp8e4m3) (main_arg1 : FVec F S128x2048 .fp8e4m3) (main_arg2 : FVec F S1 .f32) (main_arg3 : FVec F S1 .f32) : IVec S_ 1 :=
  let main_v0 : FVec F S_ .f32 := shapeCast S_ main_arg2 shapeCasts_S1_S_
  let main_v1 : FVec F S_ .f32 := shapeCast S_ main_arg3 shapeCasts_S1_S_
  let main_v2 : FVec F S_ .f32 := mulf main_v0 main_v1
  let main_cst : FVec F S_ .f32 := constant S_ .f32 0x00000000#32
  let main_v3 : IVec S_ 1 := cmpf .oge main_v2 main_cst
  let main_cst_0 : FVec F S_ .f32 := constant S_ .f32 0x7F800000#32
  let main_v4 : IVec S_ 1 := cmpf .olt main_v2 main_cst_0
  let main_v5 : IVec S_ 1 := andi main_v3 main_v4
  main_v5
-- ==== Pre_scale_is_finite_and_not_negative_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x4096 .fp8e4m3) (main_arg1 : FVec F S4096x2048 .fp8e4m3) (main_arg2 : FVec F S1 .f32) (main_arg3 : FVec F S1 .f32) : IVec S_ 1 :=
  let main_v0 : FVec F S_ .f32 := shapeCast S_ main_arg2 shapeCasts_S1_S_
  let main_v1 : FVec F S_ .f32 := shapeCast S_ main_arg3 shapeCasts_S1_S_
  let main_v2 : FVec F S_ .f32 := mulf main_v0 main_v1
  let main_cst : FVec F S_ .f32 := constant S_ .f32 0x00000000#32
  let main_v3 : IVec S_ 1 := cmpf .oge main_v2 main_cst
  let main_cst_0 : FVec F S_ .f32 := constant S_ .f32 0x7F800000#32
  let main_v4 : IVec S_ 1 := cmpf .olt main_v2 main_cst_0
  let main_v5 : IVec S_ 1 := andi main_v3 main_v4
  main_v5
-- ==== Kernel.lean ====
abbrev S4096x128 : Shape := ⟨2, ![4096, 128]⟩
abbrev S128x2048 : Shape := ⟨2, ![128, 2048]⟩
abbrev S1 : Shape := ⟨1, ![1]⟩
abbrev S4096x2048 : Shape := ⟨2, ![4096, 2048]⟩
abbrev S4x2x32x2048 : Shape := ⟨4, ![4, 2, 32, 2048]⟩
abbrev S4x2 : Shape := ⟨2, ![4, 2]⟩
abbrev S4 : Shape := ⟨1, ![4]⟩
abbrev S_ : Shape := ⟨0, ![]⟩
abbrev S32x2048 : Shape := ⟨2, ![32, 2048]⟩
abbrev S1x1x32x2048 : Shape := ⟨4, ![1, 1, 32, 2048]⟩
abbrev S1x1 : Shape := ⟨2, ![1, 1]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .fp8e4m3⟩
  | .hbm, ⟨1, _⟩ => ⟨S128x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x128, .fp8e4m3⟩
  | .local _ .vmem, ⟨1, _⟩ => ⟨S128x2048, .fp8e4m3⟩
  | .local _ .vmem, ⟨2, _⟩ => ⟨S4096x2048, .f32⟩
  | .local _ .vmem, ⟨3, _⟩ => ⟨S4x2x32x2048, .bf16⟩
  | .local _ .vmem, ⟨4, _⟩ => ⟨S4x2x32x2048, .bf16⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_17 : BitVec 32) (c32_i32_18 : BitVec 32) (c0_i32_20 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : BitVec 32 := Scalar.subi v2 c0_i32_17
  let v26 : BitVec 32 := Scalar.addi v25 c32_i32_18
  let c32_i32_19 : BitVec 32 := 32#32
  let v27 : BitVec 32 := Scalar.remsi v26 c32_i32_19
  let c128_i32 : BitVec 32 := 128#32
  let v28 : BitVec 32 := Scalar.muli v27 c128_i32
  let v29 : BitVec 32 := Scalar.addi v28 c0_i32_20
  let v30 : Index := Scalar.indexCast v29
  let c0_21 : Index := 0#32
  ![v30.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_34 : BitVec 32 := 1#32
  let v37 : BitVec 32 := Scalar.muli v7 c1_i32_34
  let v38 : BitVec 32 := Scalar.addi c0_i32_35 v37
  v38.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_57 : BitVec 32 := 1#32
  let v59 : BitVec 32 := Scalar.muli v7 c1_i32_57
  let v60 : BitVec 32 := Scalar.addi c0_i32_58 v59
  v60.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_79 : BitVec 32 := 1#32
  let v81 : BitVec 32 := Scalar.muli v7 c1_i32_79
  let v82 : BitVec 32 := Scalar.addi c0_i32_80 v81
  v82.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_100 : BitVec 32 := 1#32
  let v103 : BitVec 32 := Scalar.muli v7 c1_i32_100
  let v104 : BitVec 32 := Scalar.addi c0_i32_101 v103
  v104.toNat
def k0_off2 (d0 : Dev nD) (c0_i32_106 : BitVec 32) (c0_i32_142 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v113 : BitVec 32 := Scalar.subi v2 c0_i32_106
  let c1_i32_107 : BitVec 32 := 1#32
  let v114 : BitVec 32 := Scalar.subi v113 c1_i32_107
  let c32_i32_108 : BitVec 32 := 32#32
  let v115 : BitVec 32 := Scalar.addi v114 c32_i32_108
  let c32_i32_109 : BitVec 32 := 32#32
  let v116 : BitVec 32 := Scalar.remsi v115 c32_i32_109
  let c128_i32_141 : BitVec 32 := 128#32
  let v134 : BitVec 32 := Scalar.muli v116 c128_i32_141
  let v135 : BitVec 32 := Scalar.addi v134 c0_i32_142
  let v136 : Index := Scalar.indexCast v135
  let c0_143 : Index := 0#32
  ![v136.toNat, 0]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_149 : BitVec 32 := 1#32
  let v146 : BitVec 32 := Scalar.muli v5 c1_i32_149
  let v147 : BitVec 32 := Scalar.addi c0_i32_150 v146
  v147.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_169 : BitVec 32 := 1#32
  let v160 : BitVec 32 := Scalar.muli v7 c1_i32_169
  let v161 : BitVec 32 := Scalar.addi c0_i32_170 v160
  v161.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_218 : BitVec 32 := 1#32
  let v203 : BitVec 32 := Scalar.muli v5 c1_i32_218
  let v204 : BitVec 32 := Scalar.addi c0_i32_219 v203
  v204.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_238 : BitVec 32 := 1#32
  let v217 : BitVec 32 := Scalar.muli v7 c1_i32_238
  let v218 : BitVec 32 := Scalar.addi c0_i32_239 v217
  v218.toNat
def k0_dev11 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_287 : BitVec 32 := 1#32
  let v260 : BitVec 32 := Scalar.muli v5 c1_i32_287
  let v261 : BitVec 32 := Scalar.addi c0_i32_288 v260
  v261.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_307 : BitVec 32 := 1#32
  let v274 : BitVec 32 := Scalar.muli v7 c1_i32_307
  let v275 : BitVec 32 := Scalar.addi c0_i32_308 v274
  v275.toNat
def k0_dev13 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_356 : BitVec 32 := 1#32
  let v317 : BitVec 32 := Scalar.muli v5 c1_i32_356
  let v318 : BitVec 32 := Scalar.addi c0_i32_357 v317
  v318.toNat
def k0_dev14 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_376 : BitVec 32 := 1#32
  let v331 : BitVec 32 := Scalar.muli v7 c1_i32_376
  let v332 : BitVec 32 := Scalar.addi c0_i32_377 v331
  v332.toNat
def k0_dev15 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_425 : BitVec 32 := 1#32
  let v374 : BitVec 32 := Scalar.muli v5 c1_i32_425
  let v375 : BitVec 32 := Scalar.addi c0_i32_426 v374
  v375.toNat
def k0_dev16 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_448 : BitVec 32 := 1#32
  let v390 : BitVec 32 := Scalar.muli v7 c1_i32_448
  let v391 : BitVec 32 := Scalar.addi c0_i32_449 v390
  v391.toNat
def k0_dev17 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_497 : BitVec 32 := 1#32
  let v433 : BitVec 32 := Scalar.muli v5 c1_i32_497
  let v434 : BitVec 32 := Scalar.addi c0_i32_498 v433
  v434.toNat
def k0_dev18 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_520 : BitVec 32 := 1#32
  let v449 : BitVec 32 := Scalar.muli v7 c1_i32_520
  let v450 : BitVec 32 := Scalar.addi c0_i32_521 v449
  v450.toNat
def k0_dev19 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_569 : BitVec 32 := 1#32
  let v492 : BitVec 32 := Scalar.muli v5 c1_i32_569
  let v493 : BitVec 32 := Scalar.addi c0_i32_570 v492
  v493.toNat
def k0_dev20 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_592 : BitVec 32 := 1#32
  let v508 : BitVec 32 := Scalar.muli v7 c1_i32_592
  let v509 : BitVec 32 := Scalar.addi c0_i32_593 v508
  v509.toNat
def k0_dev21 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_641 : BitVec 32 := 1#32
  let v551 : BitVec 32 := Scalar.muli v5 c1_i32_641
  let v552 : BitVec 32 := Scalar.addi c0_i32_642 v551
  v552.toNat
def k0_dev22 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_664 : BitVec 32 := 1#32
  let v567 : BitVec 32 := Scalar.muli v7 c1_i32_664
  let v568 : BitVec 32 := Scalar.addi c0_i32_665 v567
  v568.toNat
def k0_dev23 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_713 : BitVec 32 := 1#32
  let v610 : BitVec 32 := Scalar.muli v5 c1_i32_713
  let v611 : BitVec 32 := Scalar.addi c0_i32_714 v610
  v611.toNat
def k0_dev24 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_736 : BitVec 32 := 1#32
  let v626 : BitVec 32 := Scalar.muli v7 c1_i32_736
  let v627 : BitVec 32 := Scalar.addi c0_i32_737 v626
  v627.toNat
def k0_dev25 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_785 : BitVec 32 := 1#32
  let v669 : BitVec 32 := Scalar.muli v5 c1_i32_785
  let v670 : BitVec 32 := Scalar.addi c0_i32_786 v669
  v670.toNat
def k0_dev26 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_808 : BitVec 32 := 1#32
  let v685 : BitVec 32 := Scalar.muli v7 c1_i32_808
  let v686 : BitVec 32 := Scalar.addi c0_i32_809 v685
  v686.toNat
def k0_dev27 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_857 : BitVec 32 := 1#32
  let v728 : BitVec 32 := Scalar.muli v5 c1_i32_857
  let v729 : BitVec 32 := Scalar.addi c0_i32_858 v728
  v729.toNat
def k0_dev28 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_880 : BitVec 32 := 1#32
  let v744 : BitVec 32 := Scalar.muli v7 c1_i32_880
  let v745 : BitVec 32 := Scalar.addi c0_i32_881 v744
  v745.toNat
def k0_dev29 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_929 : BitVec 32 := 1#32
  let v787 : BitVec 32 := Scalar.muli v5 c1_i32_929
  let v788 : BitVec 32 := Scalar.addi c0_i32_930 v787
  v788.toNat
def k0_dev30 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_952 : BitVec 32 := 1#32
  let v803 : BitVec 32 := Scalar.muli v7 c1_i32_952
  let v804 : BitVec 32 := Scalar.addi c0_i32_953 v803
  v804.toNat
def k0_dev31 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1001 : BitVec 32 := 1#32
  let v846 : BitVec 32 := Scalar.muli v5 c1_i32_1001
  let v847 : BitVec 32 := Scalar.addi c0_i32_1002 v846
  v847.toNat
def k0_dev32 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1023 : BitVec 32 := 1#32
  let v862 : BitVec 32 := Scalar.muli v7 c1_i32_1023
  let v863 : BitVec 32 := Scalar.addi c0_i32_1024 v862
  v863.toNat
def k0_dev33 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1072 : BitVec 32 := 1#32
  let v905 : BitVec 32 := Scalar.muli v5 c1_i32_1072
  let v906 : BitVec 32 := Scalar.addi c0_i32_1073 v905
  v906.toNat
def k0_dev34 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1095 : BitVec 32 := 1#32
  let v921 : BitVec 32 := Scalar.muli v7 c1_i32_1095
  let v922 : BitVec 32 := Scalar.addi c0_i32_1096 v921
  v922.toNat
def k0_dev35 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1144 : BitVec 32 := 1#32
  let v964 : BitVec 32 := Scalar.muli v5 c1_i32_1144
  let v965 : BitVec 32 := Scalar.addi c0_i32_1145 v964
  v965.toNat
def k0_dev36 (d0 : Dev nD) : Nat :=
  let c0_i32_1168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1167 : BitVec 32 := 1#32
  let v980 : BitVec 32 := Scalar.muli v7 c1_i32_1167
  let v981 : BitVec 32 := Scalar.addi c0_i32_1168 v980
  v981.toNat
def k0_dev37 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1216 : BitVec 32 := 1#32
  let v1023 : BitVec 32 := Scalar.muli v5 c1_i32_1216
  let v1024 : BitVec 32 := Scalar.addi c0_i32_1217 v1023
  v1024.toNat
def k0_dev38 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1239 : BitVec 32 := 1#32
  let v1039 : BitVec 32 := Scalar.muli v7 c1_i32_1239
  let v1040 : BitVec 32 := Scalar.addi c0_i32_1240 v1039
  v1040.toNat
def k0_dev39 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1288 : BitVec 32 := 1#32
  let v1082 : BitVec 32 := Scalar.muli v5 c1_i32_1288
  let v1083 : BitVec 32 := Scalar.addi c0_i32_1289 v1082
  v1083.toNat
def k0_dev40 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1310 : BitVec 32 := 1#32
  let v1098 : BitVec 32 := Scalar.muli v7 c1_i32_1310
  let v1099 : BitVec 32 := Scalar.addi c0_i32_1311 v1098
  v1099.toNat
def k0_dev41 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1359 : BitVec 32 := 1#32
  let v1141 : BitVec 32 := Scalar.muli v5 c1_i32_1359
  let v1142 : BitVec 32 := Scalar.addi c0_i32_1360 v1141
  v1142.toNat
def k0_dev42 (d0 : Dev nD) : Nat :=
  let c0_i32_1383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1382 : BitVec 32 := 1#32
  let v1157 : BitVec 32 := Scalar.muli v7 c1_i32_1382
  let v1158 : BitVec 32 := Scalar.addi c0_i32_1383 v1157
  v1158.toNat
def k0_dev43 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1431 : BitVec 32 := 1#32
  let v1200 : BitVec 32 := Scalar.muli v5 c1_i32_1431
  let v1201 : BitVec 32 := Scalar.addi c0_i32_1432 v1200
  v1201.toNat
def k0_dev44 (d0 : Dev nD) : Nat :=
  let c0_i32_1455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1454 : BitVec 32 := 1#32
  let v1216 : BitVec 32 := Scalar.muli v7 c1_i32_1454
  let v1217 : BitVec 32 := Scalar.addi c0_i32_1455 v1216
  v1217.toNat
def k0_dev45 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1503 : BitVec 32 := 1#32
  let v1259 : BitVec 32 := Scalar.muli v5 c1_i32_1503
  let v1260 : BitVec 32 := Scalar.addi c0_i32_1504 v1259
  v1260.toNat
def k0_dev46 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1526 : BitVec 32 := 1#32
  let v1275 : BitVec 32 := Scalar.muli v7 c1_i32_1526
  let v1276 : BitVec 32 := Scalar.addi c0_i32_1527 v1275
  v1276.toNat
def k0_dev47 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1575 : BitVec 32 := 1#32
  let v1318 : BitVec 32 := Scalar.muli v5 c1_i32_1575
  let v1319 : BitVec 32 := Scalar.addi c0_i32_1576 v1318
  v1319.toNat
def k0_dev48 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1597 : BitVec 32 := 1#32
  let v1334 : BitVec 32 := Scalar.muli v7 c1_i32_1597
  let v1335 : BitVec 32 := Scalar.addi c0_i32_1598 v1334
  v1335.toNat
def k0_dev49 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1646 : BitVec 32 := 1#32
  let v1377 : BitVec 32 := Scalar.muli v5 c1_i32_1646
  let v1378 : BitVec 32 := Scalar.addi c0_i32_1647 v1377
  v1378.toNat
def k0_dev50 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1669 : BitVec 32 := 1#32
  let v1393 : BitVec 32 := Scalar.muli v7 c1_i32_1669
  let v1394 : BitVec 32 := Scalar.addi c0_i32_1670 v1393
  v1394.toNat
def k0_dev51 (d0 : Dev nD) : Nat :=
  let c0_i32_1719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1718 : BitVec 32 := 1#32
  let v1436 : BitVec 32 := Scalar.muli v5 c1_i32_1718
  let v1437 : BitVec 32 := Scalar.addi c0_i32_1719 v1436
  v1437.toNat
def k0_dev52 (d0 : Dev nD) : Nat :=
  let c0_i32_1742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1741 : BitVec 32 := 1#32
  let v1452 : BitVec 32 := Scalar.muli v7 c1_i32_1741
  let v1453 : BitVec 32 := Scalar.addi c0_i32_1742 v1452
  v1453.toNat
def k0_dev53 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1790 : BitVec 32 := 1#32
  let v1495 : BitVec 32 := Scalar.muli v5 c1_i32_1790
  let v1496 : BitVec 32 := Scalar.addi c0_i32_1791 v1495
  v1496.toNat
def k0_dev54 (d0 : Dev nD) : Nat :=
  let c0_i32_1814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1813 : BitVec 32 := 1#32
  let v1511 : BitVec 32 := Scalar.muli v7 c1_i32_1813
  let v1512 : BitVec 32 := Scalar.addi c0_i32_1814 v1511
  v1512.toNat
def k0_dev55 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1862 : BitVec 32 := 1#32
  let v1554 : BitVec 32 := Scalar.muli v5 c1_i32_1862
  let v1555 : BitVec 32 := Scalar.addi c0_i32_1863 v1554
  v1555.toNat
def k0_dev56 (d0 : Dev nD) : Nat :=
  let c0_i32_1885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1884 : BitVec 32 := 1#32
  let v1570 : BitVec 32 := Scalar.muli v7 c1_i32_1884
  let v1571 : BitVec 32 := Scalar.addi c0_i32_1885 v1570
  v1571.toNat
def k0_dev57 (d0 : Dev nD) : Nat :=
  let c0_i32_1934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1933 : BitVec 32 := 1#32
  let v1613 : BitVec 32 := Scalar.muli v5 c1_i32_1933
  let v1614 : BitVec 32 := Scalar.addi c0_i32_1934 v1613
  v1614.toNat
def k0_dev58 (d0 : Dev nD) : Nat :=
  let c0_i32_1957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1956 : BitVec 32 := 1#32
  let v1629 : BitVec 32 := Scalar.muli v7 c1_i32_1956
  let v1630 : BitVec 32 := Scalar.addi c0_i32_1957 v1629
  v1630.toNat
def k0_dev59 (d0 : Dev nD) : Nat :=
  let c0_i32_2006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2005 : BitVec 32 := 1#32
  let v1672 : BitVec 32 := Scalar.muli v5 c1_i32_2005
  let v1673 : BitVec 32 := Scalar.addi c0_i32_2006 v1672
  v1673.toNat
def k0_dev60 (d0 : Dev nD) : Nat :=
  let c0_i32_2029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2028 : BitVec 32 := 1#32
  let v1688 : BitVec 32 := Scalar.muli v7 c1_i32_2028
  let v1689 : BitVec 32 := Scalar.addi c0_i32_2029 v1688
  v1689.toNat
def k0_dev61 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2077 : BitVec 32 := 1#32
  let v1731 : BitVec 32 := Scalar.muli v5 c1_i32_2077
  let v1732 : BitVec 32 := Scalar.addi c0_i32_2078 v1731
  v1732.toNat
def k0_dev62 (d0 : Dev nD) : Nat :=
  let c0_i32_2101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2100 : BitVec 32 := 1#32
  let v1747 : BitVec 32 := Scalar.muli v7 c1_i32_2100
  let v1748 : BitVec 32 := Scalar.addi c0_i32_2101 v1747
  v1748.toNat
def k0_dev63 (d0 : Dev nD) : Nat :=
  let c0_i32_2150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2149 : BitVec 32 := 1#32
  let v1790 : BitVec 32 := Scalar.muli v5 c1_i32_2149
  let v1791 : BitVec 32 := Scalar.addi c0_i32_2150 v1790
  v1791.toNat
def k0_dev64 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2171 : BitVec 32 := 1#32
  let v1806 : BitVec 32 := Scalar.muli v7 c1_i32_2171
  let v1807 : BitVec 32 := Scalar.addi c0_i32_2172 v1806
  v1807.toNat
def k0_dev65 (d0 : Dev nD) : Nat :=
  let c0_i32_2221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2220 : BitVec 32 := 1#32
  let v1849 : BitVec 32 := Scalar.muli v5 c1_i32_2220
  let v1850 : BitVec 32 := Scalar.addi c0_i32_2221 v1849
  v1850.toNat
def k0_dev66 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2243 : BitVec 32 := 1#32
  let v1865 : BitVec 32 := Scalar.muli v7 c1_i32_2243
  let v1866 : BitVec 32 := Scalar.addi c0_i32_2244 v1865
  v1866.toNat
def k0_dev67 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2292 : BitVec 32 := 1#32
  let v1908 : BitVec 32 := Scalar.muli v5 c1_i32_2292
  let v1909 : BitVec 32 := Scalar.addi c0_i32_2293 v1908
  v1909.toNat
def k0_dev68 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2315 : BitVec 32 := 1#32
  let v1924 : BitVec 32 := Scalar.muli v7 c1_i32_2315
  let v1925 : BitVec 32 := Scalar.addi c0_i32_2316 v1924
  v1925.toNat
def k0_dev69 (d0 : Dev nD) : Nat :=
  let c0_i32_2365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2364 : BitVec 32 := 1#32
  let v1967 : BitVec 32 := Scalar.muli v5 c1_i32_2364
  let v1968 : BitVec 32 := Scalar.addi c0_i32_2365 v1967
  v1968.toNat
def k0_dev70 (d0 : Dev nD) : Nat :=
  let c0_i32_2388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2387 : BitVec 32 := 1#32
  let v1983 : BitVec 32 := Scalar.muli v7 c1_i32_2387
  let v1984 : BitVec 32 := Scalar.addi c0_i32_2388 v1983
  v1984.toNat
def k0_dev71 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2436 : BitVec 32 := 1#32
  let v2026 : BitVec 32 := Scalar.muli v5 c1_i32_2436
  let v2027 : BitVec 32 := Scalar.addi c0_i32_2437 v2026
  v2027.toNat
def k0_dev72 (d0 : Dev nD) : Nat :=
  let c0_i32_2459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2458 : BitVec 32 := 1#32
  let v2042 : BitVec 32 := Scalar.muli v7 c1_i32_2458
  let v2043 : BitVec 32 := Scalar.addi c0_i32_2459 v2042
  v2043.toNat
def k0_dev73 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2507 : BitVec 32 := 1#32
  let v2085 : BitVec 32 := Scalar.muli v5 c1_i32_2507
  let v2086 : BitVec 32 := Scalar.addi c0_i32_2508 v2085
  v2086.toNat
def k0_dev74 (d0 : Dev nD) : Nat :=
  let c0_i32_2531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2530 : BitVec 32 := 1#32
  let v2101 : BitVec 32 := Scalar.muli v7 c1_i32_2530
  let v2102 : BitVec 32 := Scalar.addi c0_i32_2531 v2101
  v2102.toNat
def k0_dev75 (d0 : Dev nD) : Nat :=
  let c0_i32_2580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2579 : BitVec 32 := 1#32
  let v2144 : BitVec 32 := Scalar.muli v5 c1_i32_2579
  let v2145 : BitVec 32 := Scalar.addi c0_i32_2580 v2144
  v2145.toNat
def k0_dev76 (d0 : Dev nD) : Nat :=
  let c0_i32_2603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2602 : BitVec 32 := 1#32
  let v2160 : BitVec 32 := Scalar.muli v7 c1_i32_2602
  let v2161 : BitVec 32 := Scalar.addi c0_i32_2603 v2160
  v2161.toNat
def k0_dev77 (d0 : Dev nD) : Nat :=
  let c0_i32_2652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2651 : BitVec 32 := 1#32
  let v2203 : BitVec 32 := Scalar.muli v5 c1_i32_2651
  let v2204 : BitVec 32 := Scalar.addi c0_i32_2652 v2203
  v2204.toNat
def k0_dev78 (d0 : Dev nD) : Nat :=
  let c0_i32_2675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2674 : BitVec 32 := 1#32
  let v2219 : BitVec 32 := Scalar.muli v7 c1_i32_2674
  let v2220 : BitVec 32 := Scalar.addi c0_i32_2675 v2219
  v2220.toNat
def k0_dev79 (d0 : Dev nD) : Nat :=
  let c0_i32_2724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2723 : BitVec 32 := 1#32
  let v2262 : BitVec 32 := Scalar.muli v5 c1_i32_2723
  let v2263 : BitVec 32 := Scalar.addi c0_i32_2724 v2262
  v2263.toNat
def k0_dev80 (d0 : Dev nD) : Nat :=
  let c0_i32_2746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2745 : BitVec 32 := 1#32
  let v2278 : BitVec 32 := Scalar.muli v7 c1_i32_2745
  let v2279 : BitVec 32 := Scalar.addi c0_i32_2746 v2278
  v2279.toNat
def k0_dev81 (d0 : Dev nD) : Nat :=
  let c0_i32_2795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2794 : BitVec 32 := 1#32
  let v2321 : BitVec 32 := Scalar.muli v5 c1_i32_2794
  let v2322 : BitVec 32 := Scalar.addi c0_i32_2795 v2321
  v2322.toNat
def k0_dev82 (d0 : Dev nD) : Nat :=
  let c0_i32_2818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2817 : BitVec 32 := 1#32
  let v2337 : BitVec 32 := Scalar.muli v7 c1_i32_2817
  let v2338 : BitVec 32 := Scalar.addi c0_i32_2818 v2337
  v2338.toNat
def k0_dev83 (d0 : Dev nD) : Nat :=
  let c0_i32_2867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2866 : BitVec 32 := 1#32
  let v2380 : BitVec 32 := Scalar.muli v5 c1_i32_2866
  let v2381 : BitVec 32 := Scalar.addi c0_i32_2867 v2380
  v2381.toNat
def k0_dev84 (d0 : Dev nD) : Nat :=
  let c0_i32_2890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2889 : BitVec 32 := 1#32
  let v2396 : BitVec 32 := Scalar.muli v7 c1_i32_2889
  let v2397 : BitVec 32 := Scalar.addi c0_i32_2890 v2396
  v2397.toNat
def k0_dev85 (d0 : Dev nD) : Nat :=
  let c0_i32_2939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2938 : BitVec 32 := 1#32
  let v2439 : BitVec 32 := Scalar.muli v5 c1_i32_2938
  let v2440 : BitVec 32 := Scalar.addi c0_i32_2939 v2439
  v2440.toNat
def k0_dev86 (d0 : Dev nD) : Nat :=
  let c0_i32_2962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2961 : BitVec 32 := 1#32
  let v2455 : BitVec 32 := Scalar.muli v7 c1_i32_2961
  let v2456 : BitVec 32 := Scalar.addi c0_i32_2962 v2455
  v2456.toNat
def k0_dev87 (d0 : Dev nD) : Nat :=
  let c0_i32_3011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3010 : BitVec 32 := 1#32
  let v2498 : BitVec 32 := Scalar.muli v5 c1_i32_3010
  let v2499 : BitVec 32 := Scalar.addi c0_i32_3011 v2498
  v2499.toNat
def k0_dev88 (d0 : Dev nD) : Nat :=
  let c0_i32_3033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3032 : BitVec 32 := 1#32
  let v2514 : BitVec 32 := Scalar.muli v7 c1_i32_3032
  let v2515 : BitVec 32 := Scalar.addi c0_i32_3033 v2514
  v2515.toNat
def k0_dev89 (d0 : Dev nD) : Nat :=
  let c0_i32_3082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3081 : BitVec 32 := 1#32
  let v2557 : BitVec 32 := Scalar.muli v5 c1_i32_3081
  let v2558 : BitVec 32 := Scalar.addi c0_i32_3082 v2557
  v2558.toNat
def k0_dev90 (d0 : Dev nD) : Nat :=
  let c0_i32_3105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3104 : BitVec 32 := 1#32
  let v2573 : BitVec 32 := Scalar.muli v7 c1_i32_3104
  let v2574 : BitVec 32 := Scalar.addi c0_i32_3105 v2573
  v2574.toNat
def k0_dev91 (d0 : Dev nD) : Nat :=
  let c0_i32_3154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3153 : BitVec 32 := 1#32
  let v2616 : BitVec 32 := Scalar.muli v5 c1_i32_3153
  let v2617 : BitVec 32 := Scalar.addi c0_i32_3154 v2616
  v2617.toNat
def k0_dev92 (d0 : Dev nD) : Nat :=
  let c0_i32_3177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3176 : BitVec 32 := 1#32
  let v2632 : BitVec 32 := Scalar.muli v7 c1_i32_3176
  let v2633 : BitVec 32 := Scalar.addi c0_i32_3177 v2632
  v2633.toNat
def k0_dev93 (d0 : Dev nD) : Nat :=
  let c0_i32_3226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3225 : BitVec 32 := 1#32
  let v2675 : BitVec 32 := Scalar.muli v5 c1_i32_3225
  let v2676 : BitVec 32 := Scalar.addi c0_i32_3226 v2675
  v2676.toNat
def k0_dev94 (d0 : Dev nD) : Nat :=
  let c0_i32_3249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3248 : BitVec 32 := 1#32
  let v2691 : BitVec 32 := Scalar.muli v7 c1_i32_3248
  let v2692 : BitVec 32 := Scalar.addi c0_i32_3249 v2691
  v2692.toNat
def k0_dev95 (d0 : Dev nD) : Nat :=
  let c0_i32_3298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3297 : BitVec 32 := 1#32
  let v2734 : BitVec 32 := Scalar.muli v5 c1_i32_3297
  let v2735 : BitVec 32 := Scalar.addi c0_i32_3298 v2734
  v2735.toNat
def k0_dev96 (d0 : Dev nD) : Nat :=
  let c0_i32_3320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3319 : BitVec 32 := 1#32
  let v2750 : BitVec 32 := Scalar.muli v7 c1_i32_3319
  let v2751 : BitVec 32 := Scalar.addi c0_i32_3320 v2750
  v2751.toNat
def k0_dev97 (d0 : Dev nD) : Nat :=
  let c0_i32_3369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3368 : BitVec 32 := 1#32
  let v2793 : BitVec 32 := Scalar.muli v5 c1_i32_3368
  let v2794 : BitVec 32 := Scalar.addi c0_i32_3369 v2793
  v2794.toNat
def k0_dev98 (d0 : Dev nD) : Nat :=
  let c0_i32_3392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3391 : BitVec 32 := 1#32
  let v2809 : BitVec 32 := Scalar.muli v7 c1_i32_3391
  let v2810 : BitVec 32 := Scalar.addi c0_i32_3392 v2809
  v2810.toNat
def k0_dev99 (d0 : Dev nD) : Nat :=
  let c0_i32_3441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3440 : BitVec 32 := 1#32
  let v2852 : BitVec 32 := Scalar.muli v5 c1_i32_3440
  let v2853 : BitVec 32 := Scalar.addi c0_i32_3441 v2852
  v2853.toNat
def k0_dev100 (d0 : Dev nD) : Nat :=
  let c0_i32_3464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3463 : BitVec 32 := 1#32
  let v2868 : BitVec 32 := Scalar.muli v7 c1_i32_3463
  let v2869 : BitVec 32 := Scalar.addi c0_i32_3464 v2868
  v2869.toNat
def k0_dev101 (d0 : Dev nD) : Nat :=
  let c0_i32_3513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3512 : BitVec 32 := 1#32
  let v2911 : BitVec 32 := Scalar.muli v5 c1_i32_3512
  let v2912 : BitVec 32 := Scalar.addi c0_i32_3513 v2911
  v2912.toNat
def k0_dev102 (d0 : Dev nD) : Nat :=
  let c0_i32_3536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3535 : BitVec 32 := 1#32
  let v2927 : BitVec 32 := Scalar.muli v7 c1_i32_3535
  let v2928 : BitVec 32 := Scalar.addi c0_i32_3536 v2927
  v2928.toNat
def k0_dev103 (d0 : Dev nD) : Nat :=
  let c0_i32_3585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3584 : BitVec 32 := 1#32
  let v2970 : BitVec 32 := Scalar.muli v5 c1_i32_3584
  let v2971 : BitVec 32 := Scalar.addi c0_i32_3585 v2970
  v2971.toNat
def k0_dev104 (d0 : Dev nD) : Nat :=
  let c0_i32_3607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3606 : BitVec 32 := 1#32
  let v2986 : BitVec 32 := Scalar.muli v7 c1_i32_3606
  let v2987 : BitVec 32 := Scalar.addi c0_i32_3607 v2986
  v2987.toNat
def k0_dev105 (d0 : Dev nD) : Nat :=
  let c0_i32_3656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3655 : BitVec 32 := 1#32
  let v3029 : BitVec 32 := Scalar.muli v5 c1_i32_3655
  let v3030 : BitVec 32 := Scalar.addi c0_i32_3656 v3029
  v3030.toNat
def k0_dev106 (d0 : Dev nD) : Nat :=
  let c0_i32_3679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3678 : BitVec 32 := 1#32
  let v3045 : BitVec 32 := Scalar.muli v7 c1_i32_3678
  let v3046 : BitVec 32 := Scalar.addi c0_i32_3679 v3045
  v3046.toNat
def k0_dev107 (d0 : Dev nD) : Nat :=
  let c0_i32_3728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3727 : BitVec 32 := 1#32
  let v3088 : BitVec 32 := Scalar.muli v5 c1_i32_3727
  let v3089 : BitVec 32 := Scalar.addi c0_i32_3728 v3088
  v3089.toNat
def k0_dev108 (d0 : Dev nD) : Nat :=
  let c0_i32_3751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3750 : BitVec 32 := 1#32
  let v3104 : BitVec 32 := Scalar.muli v7 c1_i32_3750
  let v3105 : BitVec 32 := Scalar.addi c0_i32_3751 v3104
  v3105.toNat
def k0_dev109 (d0 : Dev nD) : Nat :=
  let c0_i32_3800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3799 : BitVec 32 := 1#32
  let v3147 : BitVec 32 := Scalar.muli v5 c1_i32_3799
  let v3148 : BitVec 32 := Scalar.addi c0_i32_3800 v3147
  v3148.toNat
def k0_dev110 (d0 : Dev nD) : Nat :=
  let c0_i32_3823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3822 : BitVec 32 := 1#32
  let v3163 : BitVec 32 := Scalar.muli v7 c1_i32_3822
  let v3164 : BitVec 32 := Scalar.addi c0_i32_3823 v3163
  v3164.toNat
def k0_dev111 (d0 : Dev nD) : Nat :=
  let c0_i32_3872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3871 : BitVec 32 := 1#32
  let v3206 : BitVec 32 := Scalar.muli v5 c1_i32_3871
  let v3207 : BitVec 32 := Scalar.addi c0_i32_3872 v3206
  v3207.toNat
def k0_dev112 (d0 : Dev nD) : Nat :=
  let c0_i32_3894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3893 : BitVec 32 := 1#32
  let v3222 : BitVec 32 := Scalar.muli v7 c1_i32_3893
  let v3223 : BitVec 32 := Scalar.addi c0_i32_3894 v3222
  v3223.toNat
def k0_dev113 (d0 : Dev nD) : Nat :=
  let c0_i32_3943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3942 : BitVec 32 := 1#32
  let v3265 : BitVec 32 := Scalar.muli v5 c1_i32_3942
  let v3266 : BitVec 32 := Scalar.addi c0_i32_3943 v3265
  v3266.toNat
def k0_dev114 (d0 : Dev nD) : Nat :=
  let c0_i32_3966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3965 : BitVec 32 := 1#32
  let v3281 : BitVec 32 := Scalar.muli v7 c1_i32_3965
  let v3282 : BitVec 32 := Scalar.addi c0_i32_3966 v3281
  v3282.toNat
def k0_dev115 (d0 : Dev nD) : Nat :=
  let c0_i32_4015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4014 : BitVec 32 := 1#32
  let v3324 : BitVec 32 := Scalar.muli v5 c1_i32_4014
  let v3325 : BitVec 32 := Scalar.addi c0_i32_4015 v3324
  v3325.toNat
def k0_dev116 (d0 : Dev nD) : Nat :=
  let c0_i32_4038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4037 : BitVec 32 := 1#32
  let v3340 : BitVec 32 := Scalar.muli v7 c1_i32_4037
  let v3341 : BitVec 32 := Scalar.addi c0_i32_4038 v3340
  v3341.toNat
def k0_dev117 (d0 : Dev nD) : Nat :=
  let c0_i32_4087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4086 : BitVec 32 := 1#32
  let v3383 : BitVec 32 := Scalar.muli v5 c1_i32_4086
  let v3384 : BitVec 32 := Scalar.addi c0_i32_4087 v3383
  v3384.toNat
def k0_dev118 (d0 : Dev nD) : Nat :=
  let c0_i32_4110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4109 : BitVec 32 := 1#32
  let v3399 : BitVec 32 := Scalar.muli v7 c1_i32_4109
  let v3400 : BitVec 32 := Scalar.addi c0_i32_4110 v3399
  v3400.toNat
def k0_dev119 (d0 : Dev nD) : Nat :=
  let c0_i32_4159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4158 : BitVec 32 := 1#32
  let v3442 : BitVec 32 := Scalar.muli v5 c1_i32_4158
  let v3443 : BitVec 32 := Scalar.addi c0_i32_4159 v3442
  v3443.toNat
def k0_dev120 (d0 : Dev nD) : Nat :=
  let c0_i32_4181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4180 : BitVec 32 := 1#32
  let v3458 : BitVec 32 := Scalar.muli v7 c1_i32_4180
  let v3459 : BitVec 32 := Scalar.addi c0_i32_4181 v3458
  v3459.toNat
def k0_dev121 (d0 : Dev nD) : Nat :=
  let c0_i32_4230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4229 : BitVec 32 := 1#32
  let v3501 : BitVec 32 := Scalar.muli v5 c1_i32_4229
  let v3502 : BitVec 32 := Scalar.addi c0_i32_4230 v3501
  v3502.toNat
def k0_dev122 (d0 : Dev nD) : Nat :=
  let c0_i32_4253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4252 : BitVec 32 := 1#32
  let v3517 : BitVec 32 := Scalar.muli v7 c1_i32_4252
  let v3518 : BitVec 32 := Scalar.addi c0_i32_4253 v3517
  v3518.toNat
def k0_dev123 (d0 : Dev nD) : Nat :=
  let c0_i32_4302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4301 : BitVec 32 := 1#32
  let v3560 : BitVec 32 := Scalar.muli v5 c1_i32_4301
  let v3561 : BitVec 32 := Scalar.addi c0_i32_4302 v3560
  v3561.toNat
def k0_dev124 (d0 : Dev nD) : Nat :=
  let c0_i32_4325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4324 : BitVec 32 := 1#32
  let v3576 : BitVec 32 := Scalar.muli v7 c1_i32_4324
  let v3577 : BitVec 32 := Scalar.addi c0_i32_4325 v3576
  v3577.toNat
def k0_dev125 (d0 : Dev nD) : Nat :=
  let c0_i32_4374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4373 : BitVec 32 := 1#32
  let v3619 : BitVec 32 := Scalar.muli v5 c1_i32_4373
  let v3620 : BitVec 32 := Scalar.addi c0_i32_4374 v3619
  v3620.toNat
def k0_dev126 (d0 : Dev nD) : Nat :=
  let c0_i32_4397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4396 : BitVec 32 := 1#32
  let v3635 : BitVec 32 := Scalar.muli v7 c1_i32_4396
  let v3636 : BitVec 32 := Scalar.addi c0_i32_4397 v3635
  v3636.toNat
def k0_dev127 (d0 : Dev nD) : Nat :=
  let c0_i32_4446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4445 : BitVec 32 := 1#32
  let v3678 : BitVec 32 := Scalar.muli v5 c1_i32_4445
  let v3679 : BitVec 32 := Scalar.addi c0_i32_4446 v3678
  v3679.toNat
def k0_dev128 (d0 : Dev nD) : Nat :=
  let c0_i32_4468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4467 : BitVec 32 := 1#32
  let v3694 : BitVec 32 := Scalar.muli v7 c1_i32_4467
  let v3695 : BitVec 32 := Scalar.addi c0_i32_4468 v3694
  v3695.toNat
def k0_dev129 (d0 : Dev nD) : Nat :=
  let c0_i32_4517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4516 : BitVec 32 := 1#32
  let v3737 : BitVec 32 := Scalar.muli v5 c1_i32_4516
  let v3738 : BitVec 32 := Scalar.addi c0_i32_4517 v3737
  v3738.toNat
def k0_dev130 (d0 : Dev nD) : Nat :=
  let c0_i32_4540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4539 : BitVec 32 := 1#32
  let v3753 : BitVec 32 := Scalar.muli v7 c1_i32_4539
  let v3754 : BitVec 32 := Scalar.addi c0_i32_4540 v3753
  v3754.toNat
def k0_dev131 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4588 : BitVec 32 := 1#32
  let v3796 : BitVec 32 := Scalar.muli v5 c1_i32_4588
  let v3797 : BitVec 32 := Scalar.addi c0_i32_4589 v3796
  v3797.toNat
def k0_dev132 (d0 : Dev nD) : Nat :=
  let c0_i32_4612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4611 : BitVec 32 := 1#32
  let v3812 : BitVec 32 := Scalar.muli v7 c1_i32_4611
  let v3813 : BitVec 32 := Scalar.addi c0_i32_4612 v3812
  v3813.toNat
def k0_dev133 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4660 : BitVec 32 := 1#32
  let v3855 : BitVec 32 := Scalar.muli v5 c1_i32_4660
  let v3856 : BitVec 32 := Scalar.addi c0_i32_4661 v3855
  v3856.toNat
def k0_dev134 (d0 : Dev nD) : Nat :=
  let c0_i32_4684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4683 : BitVec 32 := 1#32
  let v3871 : BitVec 32 := Scalar.muli v7 c1_i32_4683
  let v3872 : BitVec 32 := Scalar.addi c0_i32_4684 v3871
  v3872.toNat
def k0_dev135 (d0 : Dev nD) : Nat :=
  let c0_i32_4733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4732 : BitVec 32 := 1#32
  let v3914 : BitVec 32 := Scalar.muli v5 c1_i32_4732
  let v3915 : BitVec 32 := Scalar.addi c0_i32_4733 v3914
  v3915.toNat
def k0_dev136 (d0 : Dev nD) : Nat :=
  let c0_i32_4755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4754 : BitVec 32 := 1#32
  let v3930 : BitVec 32 := Scalar.muli v7 c1_i32_4754
  let v3931 : BitVec 32 := Scalar.addi c0_i32_4755 v3930
  v3931.toNat
def k0_dev137 (d0 : Dev nD) : Nat :=
  let c0_i32_4804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4803 : BitVec 32 := 1#32
  let v3973 : BitVec 32 := Scalar.muli v5 c1_i32_4803
  let v3974 : BitVec 32 := Scalar.addi c0_i32_4804 v3973
  v3974.toNat
def k0_dev138 (d0 : Dev nD) : Nat :=
  let c0_i32_4827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4826 : BitVec 32 := 1#32
  let v3989 : BitVec 32 := Scalar.muli v7 c1_i32_4826
  let v3990 : BitVec 32 := Scalar.addi c0_i32_4827 v3989
  v3990.toNat
def k0_dev139 (d0 : Dev nD) : Nat :=
  let c0_i32_4876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4875 : BitVec 32 := 1#32
  let v4032 : BitVec 32 := Scalar.muli v5 c1_i32_4875
  let v4033 : BitVec 32 := Scalar.addi c0_i32_4876 v4032
  v4033.toNat
def k0_dev140 (d0 : Dev nD) : Nat :=
  let c0_i32_4899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4898 : BitVec 32 := 1#32
  let v4048 : BitVec 32 := Scalar.muli v7 c1_i32_4898
  let v4049 : BitVec 32 := Scalar.addi c0_i32_4899 v4048
  v4049.toNat
def k0_dev141 (d0 : Dev nD) : Nat :=
  let c0_i32_4948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4947 : BitVec 32 := 1#32
  let v4091 : BitVec 32 := Scalar.muli v5 c1_i32_4947
  let v4092 : BitVec 32 := Scalar.addi c0_i32_4948 v4091
  v4092.toNat
def k0_dev142 (d0 : Dev nD) : Nat :=
  let c0_i32_4971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4970 : BitVec 32 := 1#32
  let v4107 : BitVec 32 := Scalar.muli v7 c1_i32_4970
  let v4108 : BitVec 32 := Scalar.addi c0_i32_4971 v4107
  v4108.toNat
def k0_dev143 (d0 : Dev nD) : Nat :=
  let c0_i32_5020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5019 : BitVec 32 := 1#32
  let v4150 : BitVec 32 := Scalar.muli v5 c1_i32_5019
  let v4151 : BitVec 32 := Scalar.addi c0_i32_5020 v4150
  v4151.toNat
def k0_dev144 (d0 : Dev nD) : Nat :=
  let c0_i32_5042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5041 : BitVec 32 := 1#32
  let v4166 : BitVec 32 := Scalar.muli v7 c1_i32_5041
  let v4167 : BitVec 32 := Scalar.addi c0_i32_5042 v4166
  v4167.toNat
def k0_dev145 (d0 : Dev nD) : Nat :=
  let c0_i32_5091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5090 : BitVec 32 := 1#32
  let v4209 : BitVec 32 := Scalar.muli v5 c1_i32_5090
  let v4210 : BitVec 32 := Scalar.addi c0_i32_5091 v4209
  v4210.toNat
def k0_dev146 (d0 : Dev nD) : Nat :=
  let c0_i32_5114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5113 : BitVec 32 := 1#32
  let v4225 : BitVec 32 := Scalar.muli v7 c1_i32_5113
  let v4226 : BitVec 32 := Scalar.addi c0_i32_5114 v4225
  v4226.toNat
def k0_dev147 (d0 : Dev nD) : Nat :=
  let c0_i32_5163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5162 : BitVec 32 := 1#32
  let v4268 : BitVec 32 := Scalar.muli v5 c1_i32_5162
  let v4269 : BitVec 32 := Scalar.addi c0_i32_5163 v4268
  v4269.toNat
def k0_dev148 (d0 : Dev nD) : Nat :=
  let c0_i32_5186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5185 : BitVec 32 := 1#32
  let v4284 : BitVec 32 := Scalar.muli v7 c1_i32_5185
  let v4285 : BitVec 32 := Scalar.addi c0_i32_5186 v4284
  v4285.toNat
def k0_dev149 (d0 : Dev nD) : Nat :=
  let c0_i32_5235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5234 : BitVec 32 := 1#32
  let v4327 : BitVec 32 := Scalar.muli v5 c1_i32_5234
  let v4328 : BitVec 32 := Scalar.addi c0_i32_5235 v4327
  v4328.toNat
def k0_dev150 (d0 : Dev nD) : Nat :=
  let c0_i32_5258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5257 : BitVec 32 := 1#32
  let v4343 : BitVec 32 := Scalar.muli v7 c1_i32_5257
  let v4344 : BitVec 32 := Scalar.addi c0_i32_5258 v4343
  v4344.toNat
def k0_dev151 (d0 : Dev nD) : Nat :=
  let c0_i32_5307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5306 : BitVec 32 := 1#32
  let v4386 : BitVec 32 := Scalar.muli v5 c1_i32_5306
  let v4387 : BitVec 32 := Scalar.addi c0_i32_5307 v4386
  v4387.toNat
def k0_dev152 (d0 : Dev nD) : Nat :=
  let c0_i32_5329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5328 : BitVec 32 := 1#32
  let v4402 : BitVec 32 := Scalar.muli v7 c1_i32_5328
  let v4403 : BitVec 32 := Scalar.addi c0_i32_5329 v4402
  v4403.toNat
def k0_dev153 (d0 : Dev nD) : Nat :=
  let c0_i32_5378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5377 : BitVec 32 := 1#32
  let v4445 : BitVec 32 := Scalar.muli v5 c1_i32_5377
  let v4446 : BitVec 32 := Scalar.addi c0_i32_5378 v4445
  v4446.toNat
def k0_dev154 (d0 : Dev nD) : Nat :=
  let c0_i32_5401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5400 : BitVec 32 := 1#32
  let v4461 : BitVec 32 := Scalar.muli v7 c1_i32_5400
  let v4462 : BitVec 32 := Scalar.addi c0_i32_5401 v4461
  v4462.toNat
def k0_dev155 (d0 : Dev nD) : Nat :=
  let c0_i32_5450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5449 : BitVec 32 := 1#32
  let v4504 : BitVec 32 := Scalar.muli v5 c1_i32_5449
  let v4505 : BitVec 32 := Scalar.addi c0_i32_5450 v4504
  v4505.toNat
def k0_dev156 (d0 : Dev nD) : Nat :=
  let c0_i32_5473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5472 : BitVec 32 := 1#32
  let v4520 : BitVec 32 := Scalar.muli v7 c1_i32_5472
  let v4521 : BitVec 32 := Scalar.addi c0_i32_5473 v4520
  v4521.toNat
def k0_dev157 (d0 : Dev nD) : Nat :=
  let c0_i32_5522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5521 : BitVec 32 := 1#32
  let v4563 : BitVec 32 := Scalar.muli v5 c1_i32_5521
  let v4564 : BitVec 32 := Scalar.addi c0_i32_5522 v4563
  v4564.toNat
def k0_dev158 (d0 : Dev nD) : Nat :=
  let c0_i32_5545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5544 : BitVec 32 := 1#32
  let v4579 : BitVec 32 := Scalar.muli v7 c1_i32_5544
  let v4580 : BitVec 32 := Scalar.addi c0_i32_5545 v4579
  v4580.toNat
def k0_dev159 (d0 : Dev nD) : Nat :=
  let c0_i32_5594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5593 : BitVec 32 := 1#32
  let v4622 : BitVec 32 := Scalar.muli v5 c1_i32_5593
  let v4623 : BitVec 32 := Scalar.addi c0_i32_5594 v4622
  v4623.toNat
def k0_dev160 (d0 : Dev nD) : Nat :=
  let c0_i32_5616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5615 : BitVec 32 := 1#32
  let v4638 : BitVec 32 := Scalar.muli v7 c1_i32_5615
  let v4639 : BitVec 32 := Scalar.addi c0_i32_5616 v4638
  v4639.toNat
def k0_dev161 (d0 : Dev nD) : Nat :=
  let c0_i32_5665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5664 : BitVec 32 := 1#32
  let v4681 : BitVec 32 := Scalar.muli v5 c1_i32_5664
  let v4682 : BitVec 32 := Scalar.addi c0_i32_5665 v4681
  v4682.toNat
def k0_dev162 (d0 : Dev nD) : Nat :=
  let c0_i32_5688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5687 : BitVec 32 := 1#32
  let v4697 : BitVec 32 := Scalar.muli v7 c1_i32_5687
  let v4698 : BitVec 32 := Scalar.addi c0_i32_5688 v4697
  v4698.toNat
def k0_dev163 (d0 : Dev nD) : Nat :=
  let c0_i32_5737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5736 : BitVec 32 := 1#32
  let v4740 : BitVec 32 := Scalar.muli v5 c1_i32_5736
  let v4741 : BitVec 32 := Scalar.addi c0_i32_5737 v4740
  v4741.toNat
def k0_dev164 (d0 : Dev nD) : Nat :=
  let c0_i32_5760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5759 : BitVec 32 := 1#32
  let v4756 : BitVec 32 := Scalar.muli v7 c1_i32_5759
  let v4757 : BitVec 32 := Scalar.addi c0_i32_5760 v4756
  v4757.toNat
def k0_dev165 (d0 : Dev nD) : Nat :=
  let c0_i32_5809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5808 : BitVec 32 := 1#32
  let v4799 : BitVec 32 := Scalar.muli v5 c1_i32_5808
  let v4800 : BitVec 32 := Scalar.addi c0_i32_5809 v4799
  v4800.toNat
def k0_dev166 (d0 : Dev nD) : Nat :=
  let c0_i32_5832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5831 : BitVec 32 := 1#32
  let v4815 : BitVec 32 := Scalar.muli v7 c1_i32_5831
  let v4816 : BitVec 32 := Scalar.addi c0_i32_5832 v4815
  v4816.toNat
def k0_dev167 (d0 : Dev nD) : Nat :=
  let c0_i32_5881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5880 : BitVec 32 := 1#32
  let v4858 : BitVec 32 := Scalar.muli v5 c1_i32_5880
  let v4859 : BitVec 32 := Scalar.addi c0_i32_5881 v4858
  v4859.toNat
def k0_dev168 (d0 : Dev nD) : Nat :=
  let c0_i32_5903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5902 : BitVec 32 := 1#32
  let v4874 : BitVec 32 := Scalar.muli v7 c1_i32_5902
  let v4875 : BitVec 32 := Scalar.addi c0_i32_5903 v4874
  v4875.toNat
def k0_dev169 (d0 : Dev nD) : Nat :=
  let c0_i32_5952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5951 : BitVec 32 := 1#32
  let v4917 : BitVec 32 := Scalar.muli v5 c1_i32_5951
  let v4918 : BitVec 32 := Scalar.addi c0_i32_5952 v4917
  v4918.toNat
def k0_dev170 (d0 : Dev nD) : Nat :=
  let c0_i32_5975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5974 : BitVec 32 := 1#32
  let v4933 : BitVec 32 := Scalar.muli v7 c1_i32_5974
  let v4934 : BitVec 32 := Scalar.addi c0_i32_5975 v4933
  v4934.toNat
def k0_dev171 (d0 : Dev nD) : Nat :=
  let c0_i32_6024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6023 : BitVec 32 := 1#32
  let v4976 : BitVec 32 := Scalar.muli v5 c1_i32_6023
  let v4977 : BitVec 32 := Scalar.addi c0_i32_6024 v4976
  v4977.toNat
def k0_dev172 (d0 : Dev nD) : Nat :=
  let c0_i32_6047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6046 : BitVec 32 := 1#32
  let v4992 : BitVec 32 := Scalar.muli v7 c1_i32_6046
  let v4993 : BitVec 32 := Scalar.addi c0_i32_6047 v4992
  v4993.toNat
def k0_dev173 (d0 : Dev nD) : Nat :=
  let c0_i32_6096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6095 : BitVec 32 := 1#32
  let v5035 : BitVec 32 := Scalar.muli v5 c1_i32_6095
  let v5036 : BitVec 32 := Scalar.addi c0_i32_6096 v5035
  v5036.toNat
def k0_dev174 (d0 : Dev nD) : Nat :=
  let c0_i32_6119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6118 : BitVec 32 := 1#32
  let v5051 : BitVec 32 := Scalar.muli v7 c1_i32_6118
  let v5052 : BitVec 32 := Scalar.addi c0_i32_6119 v5051
  v5052.toNat
def k0_dev175 (d0 : Dev nD) : Nat :=
  let c0_i32_6168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6167 : BitVec 32 := 1#32
  let v5094 : BitVec 32 := Scalar.muli v5 c1_i32_6167
  let v5095 : BitVec 32 := Scalar.addi c0_i32_6168 v5094
  v5095.toNat
def k0_dev176 (d0 : Dev nD) : Nat :=
  let c0_i32_6190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6189 : BitVec 32 := 1#32
  let v5110 : BitVec 32 := Scalar.muli v7 c1_i32_6189
  let v5111 : BitVec 32 := Scalar.addi c0_i32_6190 v5110
  v5111.toNat
def k0_dev177 (d0 : Dev nD) : Nat :=
  let c0_i32_6239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6238 : BitVec 32 := 1#32
  let v5153 : BitVec 32 := Scalar.muli v5 c1_i32_6238
  let v5154 : BitVec 32 := Scalar.addi c0_i32_6239 v5153
  v5154.toNat
def k0_dev178 (d0 : Dev nD) : Nat :=
  let c0_i32_6262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6261 : BitVec 32 := 1#32
  let v5169 : BitVec 32 := Scalar.muli v7 c1_i32_6261
  let v5170 : BitVec 32 := Scalar.addi c0_i32_6262 v5169
  v5170.toNat
def k0_dev179 (d0 : Dev nD) : Nat :=
  let c0_i32_6311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6310 : BitVec 32 := 1#32
  let v5212 : BitVec 32 := Scalar.muli v5 c1_i32_6310
  let v5213 : BitVec 32 := Scalar.addi c0_i32_6311 v5212
  v5213.toNat
def k0_dev180 (d0 : Dev nD) : Nat :=
  let c0_i32_6334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6333 : BitVec 32 := 1#32
  let v5228 : BitVec 32 := Scalar.muli v7 c1_i32_6333
  let v5229 : BitVec 32 := Scalar.addi c0_i32_6334 v5228
  v5229.toNat
def k0_dev181 (d0 : Dev nD) : Nat :=
  let c0_i32_6383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6382 : BitVec 32 := 1#32
  let v5271 : BitVec 32 := Scalar.muli v5 c1_i32_6382
  let v5272 : BitVec 32 := Scalar.addi c0_i32_6383 v5271
  v5272.toNat
def k0_dev182 (d0 : Dev nD) : Nat :=
  let c0_i32_6406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6405 : BitVec 32 := 1#32
  let v5287 : BitVec 32 := Scalar.muli v7 c1_i32_6405
  let v5288 : BitVec 32 := Scalar.addi c0_i32_6406 v5287
  v5288.toNat
def k0_dev183 (d0 : Dev nD) : Nat :=
  let c0_i32_6455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6454 : BitVec 32 := 1#32
  let v5330 : BitVec 32 := Scalar.muli v5 c1_i32_6454
  let v5331 : BitVec 32 := Scalar.addi c0_i32_6455 v5330
  v5331.toNat
def k0_dev184 (d0 : Dev nD) : Nat :=
  let c0_i32_6477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6476 : BitVec 32 := 1#32
  let v5346 : BitVec 32 := Scalar.muli v7 c1_i32_6476
  let v5347 : BitVec 32 := Scalar.addi c0_i32_6477 v5346
  v5347.toNat
def k0_dev185 (d0 : Dev nD) : Nat :=
  let c0_i32_6526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6525 : BitVec 32 := 1#32
  let v5389 : BitVec 32 := Scalar.muli v5 c1_i32_6525
  let v5390 : BitVec 32 := Scalar.addi c0_i32_6526 v5389
  v5390.toNat
def k0_dev186 (d0 : Dev nD) : Nat :=
  let c0_i32_6549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6548 : BitVec 32 := 1#32
  let v5405 : BitVec 32 := Scalar.muli v7 c1_i32_6548
  let v5406 : BitVec 32 := Scalar.addi c0_i32_6549 v5405
  v5406.toNat
def k0_dev187 (d0 : Dev nD) : Nat :=
  let c0_i32_6598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6597 : BitVec 32 := 1#32
  let v5448 : BitVec 32 := Scalar.muli v5 c1_i32_6597
  let v5449 : BitVec 32 := Scalar.addi c0_i32_6598 v5448
  v5449.toNat
def k0_dev188 (d0 : Dev nD) : Nat :=
  let c0_i32_6621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6620 : BitVec 32 := 1#32
  let v5464 : BitVec 32 := Scalar.muli v7 c1_i32_6620
  let v5465 : BitVec 32 := Scalar.addi c0_i32_6621 v5464
  v5465.toNat
def k0_dev189 (d0 : Dev nD) : Nat :=
  let c0_i32_6670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6669 : BitVec 32 := 1#32
  let v5507 : BitVec 32 := Scalar.muli v5 c1_i32_6669
  let v5508 : BitVec 32 := Scalar.addi c0_i32_6670 v5507
  v5508.toNat
def k0_dev190 (d0 : Dev nD) : Nat :=
  let c0_i32_6693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6692 : BitVec 32 := 1#32
  let v5523 : BitVec 32 := Scalar.muli v7 c1_i32_6692
  let v5524 : BitVec 32 := Scalar.addi c0_i32_6693 v5523
  v5524.toNat
def k0_dev191 (d0 : Dev nD) : Nat :=
  let c0_i32_6742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6741 : BitVec 32 := 1#32
  let v5566 : BitVec 32 := Scalar.muli v5 c1_i32_6741
  let v5567 : BitVec 32 := Scalar.addi c0_i32_6742 v5566
  v5567.toNat
def k0_dev192 (d0 : Dev nD) : Nat :=
  let c0_i32_6764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6763 : BitVec 32 := 1#32
  let v5582 : BitVec 32 := Scalar.muli v7 c1_i32_6763
  let v5583 : BitVec 32 := Scalar.addi c0_i32_6764 v5582
  v5583.toNat
def k0_dev193 (d0 : Dev nD) : Nat :=
  let c0_i32_6813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6812 : BitVec 32 := 1#32
  let v5625 : BitVec 32 := Scalar.muli v5 c1_i32_6812
  let v5626 : BitVec 32 := Scalar.addi c0_i32_6813 v5625
  v5626.toNat
def k0_dev194 (d0 : Dev nD) : Nat :=
  let c0_i32_6836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6835 : BitVec 32 := 1#32
  let v5641 : BitVec 32 := Scalar.muli v7 c1_i32_6835
  let v5642 : BitVec 32 := Scalar.addi c0_i32_6836 v5641
  v5642.toNat
def k0_dev195 (d0 : Dev nD) : Nat :=
  let c0_i32_6885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6884 : BitVec 32 := 1#32
  let v5684 : BitVec 32 := Scalar.muli v5 c1_i32_6884
  let v5685 : BitVec 32 := Scalar.addi c0_i32_6885 v5684
  v5685.toNat
def k0_dev196 (d0 : Dev nD) : Nat :=
  let c0_i32_6908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6907 : BitVec 32 := 1#32
  let v5700 : BitVec 32 := Scalar.muli v7 c1_i32_6907
  let v5701 : BitVec 32 := Scalar.addi c0_i32_6908 v5700
  v5701.toNat
def k0_dev197 (d0 : Dev nD) : Nat :=
  let c0_i32_6957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6956 : BitVec 32 := 1#32
  let v5743 : BitVec 32 := Scalar.muli v5 c1_i32_6956
  let v5744 : BitVec 32 := Scalar.addi c0_i32_6957 v5743
  v5744.toNat
def k0_dev198 (d0 : Dev nD) : Nat :=
  let c0_i32_6980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6979 : BitVec 32 := 1#32
  let v5759 : BitVec 32 := Scalar.muli v7 c1_i32_6979
  let v5760 : BitVec 32 := Scalar.addi c0_i32_6980 v5759
  v5760.toNat
def k0_dev199 (d0 : Dev nD) : Nat :=
  let c0_i32_7029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7028 : BitVec 32 := 1#32
  let v5802 : BitVec 32 := Scalar.muli v5 c1_i32_7028
  let v5803 : BitVec 32 := Scalar.addi c0_i32_7029 v5802
  v5803.toNat
def k0_dev200 (d0 : Dev nD) : Nat :=
  let c0_i32_7051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7050 : BitVec 32 := 1#32
  let v5818 : BitVec 32 := Scalar.muli v7 c1_i32_7050
  let v5819 : BitVec 32 := Scalar.addi c0_i32_7051 v5818
  v5819.toNat
def k0_dev201 (d0 : Dev nD) : Nat :=
  let c0_i32_7100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7099 : BitVec 32 := 1#32
  let v5861 : BitVec 32 := Scalar.muli v5 c1_i32_7099
  let v5862 : BitVec 32 := Scalar.addi c0_i32_7100 v5861
  v5862.toNat
def k0_dev202 (d0 : Dev nD) : Nat :=
  let c0_i32_7123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7122 : BitVec 32 := 1#32
  let v5877 : BitVec 32 := Scalar.muli v7 c1_i32_7122
  let v5878 : BitVec 32 := Scalar.addi c0_i32_7123 v5877
  v5878.toNat
def k0_dev203 (d0 : Dev nD) : Nat :=
  let c0_i32_7172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7171 : BitVec 32 := 1#32
  let v5920 : BitVec 32 := Scalar.muli v5 c1_i32_7171
  let v5921 : BitVec 32 := Scalar.addi c0_i32_7172 v5920
  v5921.toNat
def k0_dev204 (d0 : Dev nD) : Nat :=
  let c0_i32_7195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7194 : BitVec 32 := 1#32
  let v5936 : BitVec 32 := Scalar.muli v7 c1_i32_7194
  let v5937 : BitVec 32 := Scalar.addi c0_i32_7195 v5936
  v5937.toNat
def k0_dev205 (d0 : Dev nD) : Nat :=
  let c0_i32_7244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7243 : BitVec 32 := 1#32
  let v5979 : BitVec 32 := Scalar.muli v5 c1_i32_7243
  let v5980 : BitVec 32 := Scalar.addi c0_i32_7244 v5979
  v5980.toNat
def k0_dev206 (d0 : Dev nD) : Nat :=
  let c0_i32_7267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7266 : BitVec 32 := 1#32
  let v5995 : BitVec 32 := Scalar.muli v7 c1_i32_7266
  let v5996 : BitVec 32 := Scalar.addi c0_i32_7267 v5995
  v5996.toNat
def k0_dev207 (d0 : Dev nD) : Nat :=
  let c0_i32_7316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7315 : BitVec 32 := 1#32
  let v6038 : BitVec 32 := Scalar.muli v5 c1_i32_7315
  let v6039 : BitVec 32 := Scalar.addi c0_i32_7316 v6038
  v6039.toNat
def k0_dev208 (d0 : Dev nD) : Nat :=
  let c0_i32_7338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7337 : BitVec 32 := 1#32
  let v6054 : BitVec 32 := Scalar.muli v7 c1_i32_7337
  let v6055 : BitVec 32 := Scalar.addi c0_i32_7338 v6054
  v6055.toNat
def k0_dev209 (d0 : Dev nD) : Nat :=
  let c0_i32_7387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7386 : BitVec 32 := 1#32
  let v6097 : BitVec 32 := Scalar.muli v5 c1_i32_7386
  let v6098 : BitVec 32 := Scalar.addi c0_i32_7387 v6097
  v6098.toNat
def k0_dev210 (d0 : Dev nD) : Nat :=
  let c0_i32_7410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7409 : BitVec 32 := 1#32
  let v6113 : BitVec 32 := Scalar.muli v7 c1_i32_7409
  let v6114 : BitVec 32 := Scalar.addi c0_i32_7410 v6113
  v6114.toNat
def k0_dev211 (d0 : Dev nD) : Nat :=
  let c0_i32_7459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7458 : BitVec 32 := 1#32
  let v6156 : BitVec 32 := Scalar.muli v5 c1_i32_7458
  let v6157 : BitVec 32 := Scalar.addi c0_i32_7459 v6156
  v6157.toNat
def k0_dev212 (d0 : Dev nD) : Nat :=
  let c0_i32_7482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7481 : BitVec 32 := 1#32
  let v6172 : BitVec 32 := Scalar.muli v7 c1_i32_7481
  let v6173 : BitVec 32 := Scalar.addi c0_i32_7482 v6172
  v6173.toNat
def k0_dev213 (d0 : Dev nD) : Nat :=
  let c0_i32_7531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7530 : BitVec 32 := 1#32
  let v6215 : BitVec 32 := Scalar.muli v5 c1_i32_7530
  let v6216 : BitVec 32 := Scalar.addi c0_i32_7531 v6215
  v6216.toNat
def k0_dev214 (d0 : Dev nD) : Nat :=
  let c0_i32_7554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7553 : BitVec 32 := 1#32
  let v6231 : BitVec 32 := Scalar.muli v7 c1_i32_7553
  let v6232 : BitVec 32 := Scalar.addi c0_i32_7554 v6231
  v6232.toNat
def k0_dev215 (d0 : Dev nD) : Nat :=
  let c0_i32_7603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7602 : BitVec 32 := 1#32
  let v6274 : BitVec 32 := Scalar.muli v5 c1_i32_7602
  let v6275 : BitVec 32 := Scalar.addi c0_i32_7603 v6274
  v6275.toNat
def k0_dev216 (d0 : Dev nD) : Nat :=
  let c0_i32_7625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7624 : BitVec 32 := 1#32
  let v6290 : BitVec 32 := Scalar.muli v7 c1_i32_7624
  let v6291 : BitVec 32 := Scalar.addi c0_i32_7625 v6290
  v6291.toNat
def k0_dev217 (d0 : Dev nD) : Nat :=
  let c0_i32_7674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7673 : BitVec 32 := 1#32
  let v6333 : BitVec 32 := Scalar.muli v5 c1_i32_7673
  let v6334 : BitVec 32 := Scalar.addi c0_i32_7674 v6333
  v6334.toNat
def k0_dev218 (d0 : Dev nD) : Nat :=
  let c0_i32_7697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7696 : BitVec 32 := 1#32
  let v6349 : BitVec 32 := Scalar.muli v7 c1_i32_7696
  let v6350 : BitVec 32 := Scalar.addi c0_i32_7697 v6349
  v6350.toNat
def k0_dev219 (d0 : Dev nD) : Nat :=
  let c0_i32_7746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7745 : BitVec 32 := 1#32
  let v6392 : BitVec 32 := Scalar.muli v5 c1_i32_7745
  let v6393 : BitVec 32 := Scalar.addi c0_i32_7746 v6392
  v6393.toNat
def k0_dev220 (d0 : Dev nD) : Nat :=
  let c0_i32_7769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7768 : BitVec 32 := 1#32
  let v6408 : BitVec 32 := Scalar.muli v7 c1_i32_7768
  let v6409 : BitVec 32 := Scalar.addi c0_i32_7769 v6408
  v6409.toNat
def k0_dev221 (d0 : Dev nD) : Nat :=
  let c0_i32_7818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7817 : BitVec 32 := 1#32
  let v6451 : BitVec 32 := Scalar.muli v5 c1_i32_7817
  let v6452 : BitVec 32 := Scalar.addi c0_i32_7818 v6451
  v6452.toNat
def k0_dev222 (d0 : Dev nD) : Nat :=
  let c0_i32_7841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7840 : BitVec 32 := 1#32
  let v6467 : BitVec 32 := Scalar.muli v7 c1_i32_7840
  let v6468 : BitVec 32 := Scalar.addi c0_i32_7841 v6467
  v6468.toNat
def k0_dev223 (d0 : Dev nD) : Nat :=
  let c0_i32_7890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7889 : BitVec 32 := 1#32
  let v6510 : BitVec 32 := Scalar.muli v5 c1_i32_7889
  let v6511 : BitVec 32 := Scalar.addi c0_i32_7890 v6510
  v6511.toNat
def k0_dev224 (d0 : Dev nD) : Nat :=
  let c0_i32_7912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7911 : BitVec 32 := 1#32
  let v6526 : BitVec 32 := Scalar.muli v7 c1_i32_7911
  let v6527 : BitVec 32 := Scalar.addi c0_i32_7912 v6526
  v6527.toNat
def k0_dev225 (d0 : Dev nD) : Nat :=
  let c0_i32_7961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_7960 : BitVec 32 := 1#32
  let v6569 : BitVec 32 := Scalar.muli v5 c1_i32_7960
  let v6570 : BitVec 32 := Scalar.addi c0_i32_7961 v6569
  v6570.toNat
def k0_dev226 (d0 : Dev nD) : Nat :=
  let c0_i32_7984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7983 : BitVec 32 := 1#32
  let v6585 : BitVec 32 := Scalar.muli v7 c1_i32_7983
  let v6586 : BitVec 32 := Scalar.addi c0_i32_7984 v6585
  v6586.toNat
def k0_dev227 (d0 : Dev nD) : Nat :=
  let c0_i32_8033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8032 : BitVec 32 := 1#32
  let v6628 : BitVec 32 := Scalar.muli v5 c1_i32_8032
  let v6629 : BitVec 32 := Scalar.addi c0_i32_8033 v6628
  v6629.toNat
def k0_dev228 (d0 : Dev nD) : Nat :=
  let c0_i32_8056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8055 : BitVec 32 := 1#32
  let v6644 : BitVec 32 := Scalar.muli v7 c1_i32_8055
  let v6645 : BitVec 32 := Scalar.addi c0_i32_8056 v6644
  v6645.toNat
def k0_dev229 (d0 : Dev nD) : Nat :=
  let c0_i32_8105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8104 : BitVec 32 := 1#32
  let v6687 : BitVec 32 := Scalar.muli v5 c1_i32_8104
  let v6688 : BitVec 32 := Scalar.addi c0_i32_8105 v6687
  v6688.toNat
def k0_dev230 (d0 : Dev nD) : Nat :=
  let c0_i32_8128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8127 : BitVec 32 := 1#32
  let v6703 : BitVec 32 := Scalar.muli v7 c1_i32_8127
  let v6704 : BitVec 32 := Scalar.addi c0_i32_8128 v6703
  v6704.toNat
def k0_dev231 (d0 : Dev nD) : Nat :=
  let c0_i32_8177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8176 : BitVec 32 := 1#32
  let v6746 : BitVec 32 := Scalar.muli v5 c1_i32_8176
  let v6747 : BitVec 32 := Scalar.addi c0_i32_8177 v6746
  v6747.toNat
def k0_dev232 (d0 : Dev nD) : Nat :=
  let c0_i32_8199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8198 : BitVec 32 := 1#32
  let v6762 : BitVec 32 := Scalar.muli v7 c1_i32_8198
  let v6763 : BitVec 32 := Scalar.addi c0_i32_8199 v6762
  v6763.toNat
def k0_dev233 (d0 : Dev nD) : Nat :=
  let c0_i32_8248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8247 : BitVec 32 := 1#32
  let v6805 : BitVec 32 := Scalar.muli v5 c1_i32_8247
  let v6806 : BitVec 32 := Scalar.addi c0_i32_8248 v6805
  v6806.toNat
def k0_dev234 (d0 : Dev nD) : Nat :=
  let c0_i32_8271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8270 : BitVec 32 := 1#32
  let v6821 : BitVec 32 := Scalar.muli v7 c1_i32_8270
  let v6822 : BitVec 32 := Scalar.addi c0_i32_8271 v6821
  v6822.toNat
def k0_dev235 (d0 : Dev nD) : Nat :=
  let c0_i32_8320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8319 : BitVec 32 := 1#32
  let v6864 : BitVec 32 := Scalar.muli v5 c1_i32_8319
  let v6865 : BitVec 32 := Scalar.addi c0_i32_8320 v6864
  v6865.toNat
def k0_dev236 (d0 : Dev nD) : Nat :=
  let c0_i32_8343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8342 : BitVec 32 := 1#32
  let v6880 : BitVec 32 := Scalar.muli v7 c1_i32_8342
  let v6881 : BitVec 32 := Scalar.addi c0_i32_8343 v6880
  v6881.toNat
def k0_dev237 (d0 : Dev nD) : Nat :=
  let c0_i32_8392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8391 : BitVec 32 := 1#32
  let v6923 : BitVec 32 := Scalar.muli v5 c1_i32_8391
  let v6924 : BitVec 32 := Scalar.addi c0_i32_8392 v6923
  v6924.toNat
def k0_dev238 (d0 : Dev nD) : Nat :=
  let c0_i32_8415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8414 : BitVec 32 := 1#32
  let v6939 : BitVec 32 := Scalar.muli v7 c1_i32_8414
  let v6940 : BitVec 32 := Scalar.addi c0_i32_8415 v6939
  v6940.toNat
def k0_dev239 (d0 : Dev nD) : Nat :=
  let c0_i32_8464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8463 : BitVec 32 := 1#32
  let v6982 : BitVec 32 := Scalar.muli v5 c1_i32_8463
  let v6983 : BitVec 32 := Scalar.addi c0_i32_8464 v6982
  v6983.toNat
def k0_dev240 (d0 : Dev nD) : Nat :=
  let c0_i32_8486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8485 : BitVec 32 := 1#32
  let v6998 : BitVec 32 := Scalar.muli v7 c1_i32_8485
  let v6999 : BitVec 32 := Scalar.addi c0_i32_8486 v6998
  v6999.toNat
def k0_dev241 (d0 : Dev nD) : Nat :=
  let c0_i32_8535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8534 : BitVec 32 := 1#32
  let v7041 : BitVec 32 := Scalar.muli v5 c1_i32_8534
  let v7042 : BitVec 32 := Scalar.addi c0_i32_8535 v7041
  v7042.toNat
def k0_dev242 (d0 : Dev nD) : Nat :=
  let c0_i32_8558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8557 : BitVec 32 := 1#32
  let v7057 : BitVec 32 := Scalar.muli v7 c1_i32_8557
  let v7058 : BitVec 32 := Scalar.addi c0_i32_8558 v7057
  v7058.toNat
def k0_dev243 (d0 : Dev nD) : Nat :=
  let c0_i32_8607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8606 : BitVec 32 := 1#32
  let v7100 : BitVec 32 := Scalar.muli v5 c1_i32_8606
  let v7101 : BitVec 32 := Scalar.addi c0_i32_8607 v7100
  v7101.toNat
def k0_dev244 (d0 : Dev nD) : Nat :=
  let c0_i32_8630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8629 : BitVec 32 := 1#32
  let v7116 : BitVec 32 := Scalar.muli v7 c1_i32_8629
  let v7117 : BitVec 32 := Scalar.addi c0_i32_8630 v7116
  v7117.toNat
def k0_dev245 (d0 : Dev nD) : Nat :=
  let c0_i32_8679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8678 : BitVec 32 := 1#32
  let v7159 : BitVec 32 := Scalar.muli v5 c1_i32_8678
  let v7160 : BitVec 32 := Scalar.addi c0_i32_8679 v7159
  v7160.toNat
def k0_dev246 (d0 : Dev nD) : Nat :=
  let c0_i32_8702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8701 : BitVec 32 := 1#32
  let v7175 : BitVec 32 := Scalar.muli v7 c1_i32_8701
  let v7176 : BitVec 32 := Scalar.addi c0_i32_8702 v7175
  v7176.toNat
def k0_dev247 (d0 : Dev nD) : Nat :=
  let c0_i32_8751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8750 : BitVec 32 := 1#32
  let v7218 : BitVec 32 := Scalar.muli v5 c1_i32_8750
  let v7219 : BitVec 32 := Scalar.addi c0_i32_8751 v7218
  v7219.toNat
def k0_off3 (d0 : Dev nD) (c0_i32_8753 : BitVec 32) (c0_i32_8760 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_8752 : BitVec 32 := 1#32
  let v7220 : BitVec 32 := Scalar.addi v2 c1_i32_8752
  let v7221 : BitVec 32 := Scalar.subi v7220 c0_i32_8753
  let c64_i32_8754 : BitVec 32 := 64#32
  let v7222 : BitVec 32 := Scalar.addi v7221 c64_i32_8754
  let c32_i32_8755 : BitVec 32 := 32#32
  let v7223 : BitVec 32 := Scalar.remsi v7222 c32_i32_8755
  let c128_i32_8759 : BitVec 32 := 128#32
  let v7226 : BitVec 32 := Scalar.muli v7223 c128_i32_8759
  let v7227 : BitVec 32 := Scalar.addi v7226 c0_i32_8760
  let v7228 : Index := Scalar.indexCast v7227
  let c0_8761 : Index := 0#32
  ![v7228.toNat, 0]
def k0_dev248 (d0 : Dev nD) : Nat :=
  let c0_i32_8775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8774 : BitVec 32 := 1#32
  let v7235 : BitVec 32 := Scalar.muli v7 c1_i32_8774
  let v7236 : BitVec 32 := Scalar.addi c0_i32_8775 v7235
  v7236.toNat
def k0_dev249 (d0 : Dev nD) : Nat :=
  let c0_i32_8824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8823 : BitVec 32 := 1#32
  let v7278 : BitVec 32 := Scalar.muli v5 c1_i32_8823
  let v7279 : BitVec 32 := Scalar.addi c0_i32_8824 v7278
  v7279.toNat
def k0_dev250 (d0 : Dev nD) : Nat :=
  let c0_i32_8848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8847 : BitVec 32 := 1#32
  let v7295 : BitVec 32 := Scalar.muli v7 c1_i32_8847
  let v7296 : BitVec 32 := Scalar.addi c0_i32_8848 v7295
  v7296.toNat
def k0_dev251 (d0 : Dev nD) : Nat :=
  let c0_i32_8897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8896 : BitVec 32 := 1#32
  let v7338 : BitVec 32 := Scalar.muli v5 c1_i32_8896
  let v7339 : BitVec 32 := Scalar.addi c0_i32_8897 v7338
  v7339.toNat
def k0_dev252 (d0 : Dev nD) : Nat :=
  let c0_i32_8921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8920 : BitVec 32 := 1#32
  let v7355 : BitVec 32 := Scalar.muli v7 c1_i32_8920
  let v7356 : BitVec 32 := Scalar.addi c0_i32_8921 v7355
  v7356.toNat
def k0_dev253 (d0 : Dev nD) : Nat :=
  let c0_i32_8970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_8969 : BitVec 32 := 1#32
  let v7398 : BitVec 32 := Scalar.muli v5 c1_i32_8969
  let v7399 : BitVec 32 := Scalar.addi c0_i32_8970 v7398
  v7399.toNat
def k0_dev254 (d0 : Dev nD) : Nat :=
  let c0_i32_8994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8993 : BitVec 32 := 1#32
  let v7415 : BitVec 32 := Scalar.muli v7 c1_i32_8993
  let v7416 : BitVec 32 := Scalar.addi c0_i32_8994 v7415
  v7416.toNat
def k0_dev255 (d0 : Dev nD) : Nat :=
  let c0_i32_9039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9038 : BitVec 32 := 1#32
  let v7451 : BitVec 32 := Scalar.muli v5 c1_i32_9038
  let v7452 : BitVec 32 := Scalar.addi c0_i32_9039 v7451
  v7452.toNat
def k0_dev256 (d0 : Dev nD) : Nat :=
  let c0_i32_9063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9062 : BitVec 32 := 1#32
  let v7468 : BitVec 32 := Scalar.muli v7 c1_i32_9062
  let v7469 : BitVec 32 := Scalar.addi c0_i32_9063 v7468
  v7469.toNat
def k0_dev257 (d0 : Dev nD) : Nat :=
  let c0_i32_9108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9107 : BitVec 32 := 1#32
  let v7504 : BitVec 32 := Scalar.muli v5 c1_i32_9107
  let v7505 : BitVec 32 := Scalar.addi c0_i32_9108 v7504
  v7505.toNat
def k0_dev258 (d0 : Dev nD) : Nat :=
  let c0_i32_9132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9131 : BitVec 32 := 1#32
  let v7521 : BitVec 32 := Scalar.muli v7 c1_i32_9131
  let v7522 : BitVec 32 := Scalar.addi c0_i32_9132 v7521
  v7522.toNat
def k0_dev259 (d0 : Dev nD) : Nat :=
  let c0_i32_9177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9176 : BitVec 32 := 1#32
  let v7557 : BitVec 32 := Scalar.muli v5 c1_i32_9176
  let v7558 : BitVec 32 := Scalar.addi c0_i32_9177 v7557
  v7558.toNat
def k0_dev260 (d0 : Dev nD) : Nat :=
  let c0_i32_9201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9200 : BitVec 32 := 1#32
  let v7574 : BitVec 32 := Scalar.muli v7 c1_i32_9200
  let v7575 : BitVec 32 := Scalar.addi c0_i32_9201 v7574
  v7575.toNat
def k0_dev261 (d0 : Dev nD) : Nat :=
  let c0_i32_9246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9245 : BitVec 32 := 1#32
  let v7610 : BitVec 32 := Scalar.muli v5 c1_i32_9245
  let v7611 : BitVec 32 := Scalar.addi c0_i32_9246 v7610
  v7611.toNat
def k0_dev262 (d0 : Dev nD) : Nat :=
  let c0_i32_9270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9269 : BitVec 32 := 1#32
  let v7627 : BitVec 32 := Scalar.muli v7 c1_i32_9269
  let v7628 : BitVec 32 := Scalar.addi c0_i32_9270 v7627
  v7628.toNat
def k0_dev263 (d0 : Dev nD) : Nat :=
  let c0_i32_9315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9314 : BitVec 32 := 1#32
  let v7663 : BitVec 32 := Scalar.muli v5 c1_i32_9314
  let v7664 : BitVec 32 := Scalar.addi c0_i32_9315 v7663
  v7664.toNat
def k0_dev264 (d0 : Dev nD) : Nat :=
  let c0_i32_9339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9338 : BitVec 32 := 1#32
  let v7680 : BitVec 32 := Scalar.muli v7 c1_i32_9338
  let v7681 : BitVec 32 := Scalar.addi c0_i32_9339 v7680
  v7681.toNat
def k0_dev265 (d0 : Dev nD) : Nat :=
  let c0_i32_9384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9383 : BitVec 32 := 1#32
  let v7716 : BitVec 32 := Scalar.muli v5 c1_i32_9383
  let v7717 : BitVec 32 := Scalar.addi c0_i32_9384 v7716
  v7717.toNat
def k0_dev266 (d0 : Dev nD) : Nat :=
  let c0_i32_9408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9407 : BitVec 32 := 1#32
  let v7733 : BitVec 32 := Scalar.muli v7 c1_i32_9407
  let v7734 : BitVec 32 := Scalar.addi c0_i32_9408 v7733
  v7734.toNat
def k0_dev267 (d0 : Dev nD) : Nat :=
  let c0_i32_9453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9452 : BitVec 32 := 1#32
  let v7769 : BitVec 32 := Scalar.muli v5 c1_i32_9452
  let v7770 : BitVec 32 := Scalar.addi c0_i32_9453 v7769
  v7770.toNat
def k0_dev268 (d0 : Dev nD) : Nat :=
  let c0_i32_9477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9476 : BitVec 32 := 1#32
  let v7786 : BitVec 32 := Scalar.muli v7 c1_i32_9476
  let v7787 : BitVec 32 := Scalar.addi c0_i32_9477 v7786
  v7787.toNat
def k0_dev269 (d0 : Dev nD) : Nat :=
  let c0_i32_9522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9521 : BitVec 32 := 1#32
  let v7822 : BitVec 32 := Scalar.muli v5 c1_i32_9521
  let v7823 : BitVec 32 := Scalar.addi c0_i32_9522 v7822
  v7823.toNat
def k0_dev270 (d0 : Dev nD) : Nat :=
  let c0_i32_9546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9545 : BitVec 32 := 1#32
  let v7839 : BitVec 32 := Scalar.muli v7 c1_i32_9545
  let v7840 : BitVec 32 := Scalar.addi c0_i32_9546 v7839
  v7840.toNat
def k0_dev271 (d0 : Dev nD) : Nat :=
  let c0_i32_9591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9590 : BitVec 32 := 1#32
  let v7875 : BitVec 32 := Scalar.muli v5 c1_i32_9590
  let v7876 : BitVec 32 := Scalar.addi c0_i32_9591 v7875
  v7876.toNat
def k0_dev272 (d0 : Dev nD) : Nat :=
  let c0_i32_9615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9614 : BitVec 32 := 1#32
  let v7892 : BitVec 32 := Scalar.muli v7 c1_i32_9614
  let v7893 : BitVec 32 := Scalar.addi c0_i32_9615 v7892
  v7893.toNat
def k0_dev273 (d0 : Dev nD) : Nat :=
  let c0_i32_9660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9659 : BitVec 32 := 1#32
  let v7928 : BitVec 32 := Scalar.muli v5 c1_i32_9659
  let v7929 : BitVec 32 := Scalar.addi c0_i32_9660 v7928
  v7929.toNat
def k0_dev274 (d0 : Dev nD) : Nat :=
  let c0_i32_9684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9683 : BitVec 32 := 1#32
  let v7945 : BitVec 32 := Scalar.muli v7 c1_i32_9683
  let v7946 : BitVec 32 := Scalar.addi c0_i32_9684 v7945
  v7946.toNat
def k0_dev275 (d0 : Dev nD) : Nat :=
  let c0_i32_9729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9728 : BitVec 32 := 1#32
  let v7981 : BitVec 32 := Scalar.muli v5 c1_i32_9728
  let v7982 : BitVec 32 := Scalar.addi c0_i32_9729 v7981
  v7982.toNat
def k0_dev276 (d0 : Dev nD) : Nat :=
  let c0_i32_9753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9752 : BitVec 32 := 1#32
  let v7998 : BitVec 32 := Scalar.muli v7 c1_i32_9752
  let v7999 : BitVec 32 := Scalar.addi c0_i32_9753 v7998
  v7999.toNat
def k0_dev277 (d0 : Dev nD) : Nat :=
  let c0_i32_9798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9797 : BitVec 32 := 1#32
  let v8034 : BitVec 32 := Scalar.muli v5 c1_i32_9797
  let v8035 : BitVec 32 := Scalar.addi c0_i32_9798 v8034
  v8035.toNat
def k0_dev278 (d0 : Dev nD) : Nat :=
  let c0_i32_9822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9821 : BitVec 32 := 1#32
  let v8051 : BitVec 32 := Scalar.muli v7 c1_i32_9821
  let v8052 : BitVec 32 := Scalar.addi c0_i32_9822 v8051
  v8052.toNat
def k0_dev279 (d0 : Dev nD) : Nat :=
  let c0_i32_9867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9866 : BitVec 32 := 1#32
  let v8087 : BitVec 32 := Scalar.muli v5 c1_i32_9866
  let v8088 : BitVec 32 := Scalar.addi c0_i32_9867 v8087
  v8088.toNat
def k0_dev280 (d0 : Dev nD) : Nat :=
  let c0_i32_9891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9890 : BitVec 32 := 1#32
  let v8104 : BitVec 32 := Scalar.muli v7 c1_i32_9890
  let v8105 : BitVec 32 := Scalar.addi c0_i32_9891 v8104
  v8105.toNat
def k0_dev281 (d0 : Dev nD) : Nat :=
  let c0_i32_9936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_9935 : BitVec 32 := 1#32
  let v8140 : BitVec 32 := Scalar.muli v5 c1_i32_9935
  let v8141 : BitVec 32 := Scalar.addi c0_i32_9936 v8140
  v8141.toNat
def k0_dev282 (d0 : Dev nD) : Nat :=
  let c0_i32_9960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9959 : BitVec 32 := 1#32
  let v8157 : BitVec 32 := Scalar.muli v7 c1_i32_9959
  let v8158 : BitVec 32 := Scalar.addi c0_i32_9960 v8157
  v8158.toNat
def k0_dev283 (d0 : Dev nD) : Nat :=
  let c0_i32_10005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10004 : BitVec 32 := 1#32
  let v8193 : BitVec 32 := Scalar.muli v5 c1_i32_10004
  let v8194 : BitVec 32 := Scalar.addi c0_i32_10005 v8193
  v8194.toNat
def k0_dev284 (d0 : Dev nD) : Nat :=
  let c0_i32_10029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10028 : BitVec 32 := 1#32
  let v8210 : BitVec 32 := Scalar.muli v7 c1_i32_10028
  let v8211 : BitVec 32 := Scalar.addi c0_i32_10029 v8210
  v8211.toNat
def k0_dev285 (d0 : Dev nD) : Nat :=
  let c0_i32_10074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10073 : BitVec 32 := 1#32
  let v8246 : BitVec 32 := Scalar.muli v5 c1_i32_10073
  let v8247 : BitVec 32 := Scalar.addi c0_i32_10074 v8246
  v8247.toNat
def k0_dev286 (d0 : Dev nD) : Nat :=
  let c0_i32_10098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10097 : BitVec 32 := 1#32
  let v8263 : BitVec 32 := Scalar.muli v7 c1_i32_10097
  let v8264 : BitVec 32 := Scalar.addi c0_i32_10098 v8263
  v8264.toNat
def k0_dev287 (d0 : Dev nD) : Nat :=
  let c0_i32_10143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10142 : BitVec 32 := 1#32
  let v8299 : BitVec 32 := Scalar.muli v5 c1_i32_10142
  let v8300 : BitVec 32 := Scalar.addi c0_i32_10143 v8299
  v8300.toNat
def k0_dev288 (d0 : Dev nD) : Nat :=
  let c0_i32_10167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10166 : BitVec 32 := 1#32
  let v8316 : BitVec 32 := Scalar.muli v7 c1_i32_10166
  let v8317 : BitVec 32 := Scalar.addi c0_i32_10167 v8316
  v8317.toNat
def k0_dev289 (d0 : Dev nD) : Nat :=
  let c0_i32_10212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10211 : BitVec 32 := 1#32
  let v8352 : BitVec 32 := Scalar.muli v5 c1_i32_10211
  let v8353 : BitVec 32 := Scalar.addi c0_i32_10212 v8352
  v8353.toNat
def k0_dev290 (d0 : Dev nD) : Nat :=
  let c0_i32_10236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10235 : BitVec 32 := 1#32
  let v8369 : BitVec 32 := Scalar.muli v7 c1_i32_10235
  let v8370 : BitVec 32 := Scalar.addi c0_i32_10236 v8369
  v8370.toNat
def k0_dev291 (d0 : Dev nD) : Nat :=
  let c0_i32_10281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10280 : BitVec 32 := 1#32
  let v8405 : BitVec 32 := Scalar.muli v5 c1_i32_10280
  let v8406 : BitVec 32 := Scalar.addi c0_i32_10281 v8405
  v8406.toNat
def k0_dev292 (d0 : Dev nD) : Nat :=
  let c0_i32_10305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10304 : BitVec 32 := 1#32
  let v8422 : BitVec 32 := Scalar.muli v7 c1_i32_10304
  let v8423 : BitVec 32 := Scalar.addi c0_i32_10305 v8422
  v8423.toNat
def k0_dev293 (d0 : Dev nD) : Nat :=
  let c0_i32_10350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10349 : BitVec 32 := 1#32
  let v8458 : BitVec 32 := Scalar.muli v5 c1_i32_10349
  let v8459 : BitVec 32 := Scalar.addi c0_i32_10350 v8458
  v8459.toNat
def k0_dev294 (d0 : Dev nD) : Nat :=
  let c0_i32_10374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10373 : BitVec 32 := 1#32
  let v8475 : BitVec 32 := Scalar.muli v7 c1_i32_10373
  let v8476 : BitVec 32 := Scalar.addi c0_i32_10374 v8475
  v8476.toNat
def k0_dev295 (d0 : Dev nD) : Nat :=
  let c0_i32_10419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10418 : BitVec 32 := 1#32
  let v8511 : BitVec 32 := Scalar.muli v5 c1_i32_10418
  let v8512 : BitVec 32 := Scalar.addi c0_i32_10419 v8511
  v8512.toNat
def k0_dev296 (d0 : Dev nD) : Nat :=
  let c0_i32_10443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10442 : BitVec 32 := 1#32
  let v8528 : BitVec 32 := Scalar.muli v7 c1_i32_10442
  let v8529 : BitVec 32 := Scalar.addi c0_i32_10443 v8528
  v8529.toNat
def k0_dev297 (d0 : Dev nD) : Nat :=
  let c0_i32_10488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10487 : BitVec 32 := 1#32
  let v8564 : BitVec 32 := Scalar.muli v5 c1_i32_10487
  let v8565 : BitVec 32 := Scalar.addi c0_i32_10488 v8564
  v8565.toNat
def k0_dev298 (d0 : Dev nD) : Nat :=
  let c0_i32_10512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10511 : BitVec 32 := 1#32
  let v8581 : BitVec 32 := Scalar.muli v7 c1_i32_10511
  let v8582 : BitVec 32 := Scalar.addi c0_i32_10512 v8581
  v8582.toNat
def k0_dev299 (d0 : Dev nD) : Nat :=
  let c0_i32_10557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10556 : BitVec 32 := 1#32
  let v8617 : BitVec 32 := Scalar.muli v5 c1_i32_10556
  let v8618 : BitVec 32 := Scalar.addi c0_i32_10557 v8617
  v8618.toNat
def k0_dev300 (d0 : Dev nD) : Nat :=
  let c0_i32_10581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10580 : BitVec 32 := 1#32
  let v8634 : BitVec 32 := Scalar.muli v7 c1_i32_10580
  let v8635 : BitVec 32 := Scalar.addi c0_i32_10581 v8634
  v8635.toNat
def k0_dev301 (d0 : Dev nD) : Nat :=
  let c0_i32_10626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10625 : BitVec 32 := 1#32
  let v8670 : BitVec 32 := Scalar.muli v5 c1_i32_10625
  let v8671 : BitVec 32 := Scalar.addi c0_i32_10626 v8670
  v8671.toNat
def k0_dev302 (d0 : Dev nD) : Nat :=
  let c0_i32_10650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10649 : BitVec 32 := 1#32
  let v8687 : BitVec 32 := Scalar.muli v7 c1_i32_10649
  let v8688 : BitVec 32 := Scalar.addi c0_i32_10650 v8687
  v8688.toNat
def k0_dev303 (d0 : Dev nD) : Nat :=
  let c0_i32_10695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10694 : BitVec 32 := 1#32
  let v8723 : BitVec 32 := Scalar.muli v5 c1_i32_10694
  let v8724 : BitVec 32 := Scalar.addi c0_i32_10695 v8723
  v8724.toNat
def k0_dev304 (d0 : Dev nD) : Nat :=
  let c0_i32_10719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10718 : BitVec 32 := 1#32
  let v8740 : BitVec 32 := Scalar.muli v7 c1_i32_10718
  let v8741 : BitVec 32 := Scalar.addi c0_i32_10719 v8740
  v8741.toNat
def k0_dev305 (d0 : Dev nD) : Nat :=
  let c0_i32_10764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10763 : BitVec 32 := 1#32
  let v8776 : BitVec 32 := Scalar.muli v5 c1_i32_10763
  let v8777 : BitVec 32 := Scalar.addi c0_i32_10764 v8776
  v8777.toNat
def k0_dev306 (d0 : Dev nD) : Nat :=
  let c0_i32_10788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10787 : BitVec 32 := 1#32
  let v8793 : BitVec 32 := Scalar.muli v7 c1_i32_10787
  let v8794 : BitVec 32 := Scalar.addi c0_i32_10788 v8793
  v8794.toNat
def k0_dev307 (d0 : Dev nD) : Nat :=
  let c0_i32_10833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10832 : BitVec 32 := 1#32
  let v8829 : BitVec 32 := Scalar.muli v5 c1_i32_10832
  let v8830 : BitVec 32 := Scalar.addi c0_i32_10833 v8829
  v8830.toNat
def k0_dev308 (d0 : Dev nD) : Nat :=
  let c0_i32_10857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10856 : BitVec 32 := 1#32
  let v8846 : BitVec 32 := Scalar.muli v7 c1_i32_10856
  let v8847 : BitVec 32 := Scalar.addi c0_i32_10857 v8846
  v8847.toNat
def k0_dev309 (d0 : Dev nD) : Nat :=
  let c0_i32_10902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10901 : BitVec 32 := 1#32
  let v8882 : BitVec 32 := Scalar.muli v5 c1_i32_10901
  let v8883 : BitVec 32 := Scalar.addi c0_i32_10902 v8882
  v8883.toNat
def k0_dev310 (d0 : Dev nD) : Nat :=
  let c0_i32_10926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10925 : BitVec 32 := 1#32
  let v8899 : BitVec 32 := Scalar.muli v7 c1_i32_10925
  let v8900 : BitVec 32 := Scalar.addi c0_i32_10926 v8899
  v8900.toNat
def k0_dev311 (d0 : Dev nD) : Nat :=
  let c0_i32_10971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_10970 : BitVec 32 := 1#32
  let v8935 : BitVec 32 := Scalar.muli v5 c1_i32_10970
  let v8936 : BitVec 32 := Scalar.addi c0_i32_10971 v8935
  v8936.toNat
def k0_dev312 (d0 : Dev nD) : Nat :=
  let c0_i32_10995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10994 : BitVec 32 := 1#32
  let v8952 : BitVec 32 := Scalar.muli v7 c1_i32_10994
  let v8953 : BitVec 32 := Scalar.addi c0_i32_10995 v8952
  v8953.toNat
def k0_dev313 (d0 : Dev nD) : Nat :=
  let c0_i32_11040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11039 : BitVec 32 := 1#32
  let v8988 : BitVec 32 := Scalar.muli v5 c1_i32_11039
  let v8989 : BitVec 32 := Scalar.addi c0_i32_11040 v8988
  v8989.toNat
def k0_dev314 (d0 : Dev nD) : Nat :=
  let c0_i32_11064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11063 : BitVec 32 := 1#32
  let v9005 : BitVec 32 := Scalar.muli v7 c1_i32_11063
  let v9006 : BitVec 32 := Scalar.addi c0_i32_11064 v9005
  v9006.toNat
def k0_dev315 (d0 : Dev nD) : Nat :=
  let c0_i32_11109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11108 : BitVec 32 := 1#32
  let v9041 : BitVec 32 := Scalar.muli v5 c1_i32_11108
  let v9042 : BitVec 32 := Scalar.addi c0_i32_11109 v9041
  v9042.toNat
def k0_dev316 (d0 : Dev nD) : Nat :=
  let c0_i32_11133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11132 : BitVec 32 := 1#32
  let v9058 : BitVec 32 := Scalar.muli v7 c1_i32_11132
  let v9059 : BitVec 32 := Scalar.addi c0_i32_11133 v9058
  v9059.toNat
def k0_dev317 (d0 : Dev nD) : Nat :=
  let c0_i32_11178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11177 : BitVec 32 := 1#32
  let v9094 : BitVec 32 := Scalar.muli v5 c1_i32_11177
  let v9095 : BitVec 32 := Scalar.addi c0_i32_11178 v9094
  v9095.toNat
def k0_dev318 (d0 : Dev nD) : Nat :=
  let c0_i32_11202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11201 : BitVec 32 := 1#32
  let v9111 : BitVec 32 := Scalar.muli v7 c1_i32_11201
  let v9112 : BitVec 32 := Scalar.addi c0_i32_11202 v9111
  v9112.toNat
def k0_dev319 (d0 : Dev nD) : Nat :=
  let c0_i32_11247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11246 : BitVec 32 := 1#32
  let v9147 : BitVec 32 := Scalar.muli v5 c1_i32_11246
  let v9148 : BitVec 32 := Scalar.addi c0_i32_11247 v9147
  v9148.toNat
def k0_dev320 (d0 : Dev nD) : Nat :=
  let c0_i32_11271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11270 : BitVec 32 := 1#32
  let v9164 : BitVec 32 := Scalar.muli v7 c1_i32_11270
  let v9165 : BitVec 32 := Scalar.addi c0_i32_11271 v9164
  v9165.toNat
def k0_dev321 (d0 : Dev nD) : Nat :=
  let c0_i32_11316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11315 : BitVec 32 := 1#32
  let v9200 : BitVec 32 := Scalar.muli v5 c1_i32_11315
  let v9201 : BitVec 32 := Scalar.addi c0_i32_11316 v9200
  v9201.toNat
def k0_dev322 (d0 : Dev nD) : Nat :=
  let c0_i32_11340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11339 : BitVec 32 := 1#32
  let v9217 : BitVec 32 := Scalar.muli v7 c1_i32_11339
  let v9218 : BitVec 32 := Scalar.addi c0_i32_11340 v9217
  v9218.toNat
def k0_dev323 (d0 : Dev nD) : Nat :=
  let c0_i32_11385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11384 : BitVec 32 := 1#32
  let v9253 : BitVec 32 := Scalar.muli v5 c1_i32_11384
  let v9254 : BitVec 32 := Scalar.addi c0_i32_11385 v9253
  v9254.toNat
def k0_dev324 (d0 : Dev nD) : Nat :=
  let c0_i32_11409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11408 : BitVec 32 := 1#32
  let v9270 : BitVec 32 := Scalar.muli v7 c1_i32_11408
  let v9271 : BitVec 32 := Scalar.addi c0_i32_11409 v9270
  v9271.toNat
def k0_dev325 (d0 : Dev nD) : Nat :=
  let c0_i32_11454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11453 : BitVec 32 := 1#32
  let v9306 : BitVec 32 := Scalar.muli v5 c1_i32_11453
  let v9307 : BitVec 32 := Scalar.addi c0_i32_11454 v9306
  v9307.toNat
def k0_dev326 (d0 : Dev nD) : Nat :=
  let c0_i32_11478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11477 : BitVec 32 := 1#32
  let v9323 : BitVec 32 := Scalar.muli v7 c1_i32_11477
  let v9324 : BitVec 32 := Scalar.addi c0_i32_11478 v9323
  v9324.toNat
def k0_dev327 (d0 : Dev nD) : Nat :=
  let c0_i32_11523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11522 : BitVec 32 := 1#32
  let v9359 : BitVec 32 := Scalar.muli v5 c1_i32_11522
  let v9360 : BitVec 32 := Scalar.addi c0_i32_11523 v9359
  v9360.toNat
def k0_dev328 (d0 : Dev nD) : Nat :=
  let c0_i32_11547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11546 : BitVec 32 := 1#32
  let v9376 : BitVec 32 := Scalar.muli v7 c1_i32_11546
  let v9377 : BitVec 32 := Scalar.addi c0_i32_11547 v9376
  v9377.toNat
def k0_dev329 (d0 : Dev nD) : Nat :=
  let c0_i32_11592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11591 : BitVec 32 := 1#32
  let v9412 : BitVec 32 := Scalar.muli v5 c1_i32_11591
  let v9413 : BitVec 32 := Scalar.addi c0_i32_11592 v9412
  v9413.toNat
def k0_dev330 (d0 : Dev nD) : Nat :=
  let c0_i32_11616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11615 : BitVec 32 := 1#32
  let v9429 : BitVec 32 := Scalar.muli v7 c1_i32_11615
  let v9430 : BitVec 32 := Scalar.addi c0_i32_11616 v9429
  v9430.toNat
def k0_dev331 (d0 : Dev nD) : Nat :=
  let c0_i32_11661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11660 : BitVec 32 := 1#32
  let v9465 : BitVec 32 := Scalar.muli v5 c1_i32_11660
  let v9466 : BitVec 32 := Scalar.addi c0_i32_11661 v9465
  v9466.toNat
def k0_dev332 (d0 : Dev nD) : Nat :=
  let c0_i32_11685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11684 : BitVec 32 := 1#32
  let v9482 : BitVec 32 := Scalar.muli v7 c1_i32_11684
  let v9483 : BitVec 32 := Scalar.addi c0_i32_11685 v9482
  v9483.toNat
def k0_dev333 (d0 : Dev nD) : Nat :=
  let c0_i32_11730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11729 : BitVec 32 := 1#32
  let v9518 : BitVec 32 := Scalar.muli v5 c1_i32_11729
  let v9519 : BitVec 32 := Scalar.addi c0_i32_11730 v9518
  v9519.toNat
def k0_dev334 (d0 : Dev nD) : Nat :=
  let c0_i32_11754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11753 : BitVec 32 := 1#32
  let v9535 : BitVec 32 := Scalar.muli v7 c1_i32_11753
  let v9536 : BitVec 32 := Scalar.addi c0_i32_11754 v9535
  v9536.toNat
def k0_dev335 (d0 : Dev nD) : Nat :=
  let c0_i32_11799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11798 : BitVec 32 := 1#32
  let v9571 : BitVec 32 := Scalar.muli v5 c1_i32_11798
  let v9572 : BitVec 32 := Scalar.addi c0_i32_11799 v9571
  v9572.toNat
def k0_dev336 (d0 : Dev nD) : Nat :=
  let c0_i32_11823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11822 : BitVec 32 := 1#32
  let v9588 : BitVec 32 := Scalar.muli v7 c1_i32_11822
  let v9589 : BitVec 32 := Scalar.addi c0_i32_11823 v9588
  v9589.toNat
def k0_dev337 (d0 : Dev nD) : Nat :=
  let c0_i32_11868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11867 : BitVec 32 := 1#32
  let v9624 : BitVec 32 := Scalar.muli v5 c1_i32_11867
  let v9625 : BitVec 32 := Scalar.addi c0_i32_11868 v9624
  v9625.toNat
def k0_dev338 (d0 : Dev nD) : Nat :=
  let c0_i32_11892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11891 : BitVec 32 := 1#32
  let v9641 : BitVec 32 := Scalar.muli v7 c1_i32_11891
  let v9642 : BitVec 32 := Scalar.addi c0_i32_11892 v9641
  v9642.toNat
def k0_dev339 (d0 : Dev nD) : Nat :=
  let c0_i32_11937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_11936 : BitVec 32 := 1#32
  let v9677 : BitVec 32 := Scalar.muli v5 c1_i32_11936
  let v9678 : BitVec 32 := Scalar.addi c0_i32_11937 v9677
  v9678.toNat
def k0_dev340 (d0 : Dev nD) : Nat :=
  let c0_i32_11961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11960 : BitVec 32 := 1#32
  let v9694 : BitVec 32 := Scalar.muli v7 c1_i32_11960
  let v9695 : BitVec 32 := Scalar.addi c0_i32_11961 v9694
  v9695.toNat
def k0_dev341 (d0 : Dev nD) : Nat :=
  let c0_i32_12006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12005 : BitVec 32 := 1#32
  let v9730 : BitVec 32 := Scalar.muli v5 c1_i32_12005
  let v9731 : BitVec 32 := Scalar.addi c0_i32_12006 v9730
  v9731.toNat
def k0_dev342 (d0 : Dev nD) : Nat :=
  let c0_i32_12030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12029 : BitVec 32 := 1#32
  let v9747 : BitVec 32 := Scalar.muli v7 c1_i32_12029
  let v9748 : BitVec 32 := Scalar.addi c0_i32_12030 v9747
  v9748.toNat
def k0_dev343 (d0 : Dev nD) : Nat :=
  let c0_i32_12075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12074 : BitVec 32 := 1#32
  let v9783 : BitVec 32 := Scalar.muli v5 c1_i32_12074
  let v9784 : BitVec 32 := Scalar.addi c0_i32_12075 v9783
  v9784.toNat
def k0_dev344 (d0 : Dev nD) : Nat :=
  let c0_i32_12099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12098 : BitVec 32 := 1#32
  let v9800 : BitVec 32 := Scalar.muli v7 c1_i32_12098
  let v9801 : BitVec 32 := Scalar.addi c0_i32_12099 v9800
  v9801.toNat
def k0_dev345 (d0 : Dev nD) : Nat :=
  let c0_i32_12144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12143 : BitVec 32 := 1#32
  let v9836 : BitVec 32 := Scalar.muli v5 c1_i32_12143
  let v9837 : BitVec 32 := Scalar.addi c0_i32_12144 v9836
  v9837.toNat
def k0_dev346 (d0 : Dev nD) : Nat :=
  let c0_i32_12168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12167 : BitVec 32 := 1#32
  let v9853 : BitVec 32 := Scalar.muli v7 c1_i32_12167
  let v9854 : BitVec 32 := Scalar.addi c0_i32_12168 v9853
  v9854.toNat
def k0_dev347 (d0 : Dev nD) : Nat :=
  let c0_i32_12213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12212 : BitVec 32 := 1#32
  let v9889 : BitVec 32 := Scalar.muli v5 c1_i32_12212
  let v9890 : BitVec 32 := Scalar.addi c0_i32_12213 v9889
  v9890.toNat
def k0_dev348 (d0 : Dev nD) : Nat :=
  let c0_i32_12237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12236 : BitVec 32 := 1#32
  let v9906 : BitVec 32 := Scalar.muli v7 c1_i32_12236
  let v9907 : BitVec 32 := Scalar.addi c0_i32_12237 v9906
  v9907.toNat
def k0_dev349 (d0 : Dev nD) : Nat :=
  let c0_i32_12282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12281 : BitVec 32 := 1#32
  let v9942 : BitVec 32 := Scalar.muli v5 c1_i32_12281
  let v9943 : BitVec 32 := Scalar.addi c0_i32_12282 v9942
  v9943.toNat
def k0_dev350 (d0 : Dev nD) : Nat :=
  let c0_i32_12306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12305 : BitVec 32 := 1#32
  let v9959 : BitVec 32 := Scalar.muli v7 c1_i32_12305
  let v9960 : BitVec 32 := Scalar.addi c0_i32_12306 v9959
  v9960.toNat
def k0_dev351 (d0 : Dev nD) : Nat :=
  let c0_i32_12351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12350 : BitVec 32 := 1#32
  let v9995 : BitVec 32 := Scalar.muli v5 c1_i32_12350
  let v9996 : BitVec 32 := Scalar.addi c0_i32_12351 v9995
  v9996.toNat
def k0_dev352 (d0 : Dev nD) : Nat :=
  let c0_i32_12375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12374 : BitVec 32 := 1#32
  let v10012 : BitVec 32 := Scalar.muli v7 c1_i32_12374
  let v10013 : BitVec 32 := Scalar.addi c0_i32_12375 v10012
  v10013.toNat
def k0_dev353 (d0 : Dev nD) : Nat :=
  let c0_i32_12420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12419 : BitVec 32 := 1#32
  let v10048 : BitVec 32 := Scalar.muli v5 c1_i32_12419
  let v10049 : BitVec 32 := Scalar.addi c0_i32_12420 v10048
  v10049.toNat
def k0_dev354 (d0 : Dev nD) : Nat :=
  let c0_i32_12444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12443 : BitVec 32 := 1#32
  let v10065 : BitVec 32 := Scalar.muli v7 c1_i32_12443
  let v10066 : BitVec 32 := Scalar.addi c0_i32_12444 v10065
  v10066.toNat
def k0_dev355 (d0 : Dev nD) : Nat :=
  let c0_i32_12489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12488 : BitVec 32 := 1#32
  let v10101 : BitVec 32 := Scalar.muli v5 c1_i32_12488
  let v10102 : BitVec 32 := Scalar.addi c0_i32_12489 v10101
  v10102.toNat
def k0_dev356 (d0 : Dev nD) : Nat :=
  let c0_i32_12513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12512 : BitVec 32 := 1#32
  let v10118 : BitVec 32 := Scalar.muli v7 c1_i32_12512
  let v10119 : BitVec 32 := Scalar.addi c0_i32_12513 v10118
  v10119.toNat
def k0_dev357 (d0 : Dev nD) : Nat :=
  let c0_i32_12558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12557 : BitVec 32 := 1#32
  let v10154 : BitVec 32 := Scalar.muli v5 c1_i32_12557
  let v10155 : BitVec 32 := Scalar.addi c0_i32_12558 v10154
  v10155.toNat
def k0_dev358 (d0 : Dev nD) : Nat :=
  let c0_i32_12582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12581 : BitVec 32 := 1#32
  let v10171 : BitVec 32 := Scalar.muli v7 c1_i32_12581
  let v10172 : BitVec 32 := Scalar.addi c0_i32_12582 v10171
  v10172.toNat
def k0_dev359 (d0 : Dev nD) : Nat :=
  let c0_i32_12627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12626 : BitVec 32 := 1#32
  let v10207 : BitVec 32 := Scalar.muli v5 c1_i32_12626
  let v10208 : BitVec 32 := Scalar.addi c0_i32_12627 v10207
  v10208.toNat
def k0_dev360 (d0 : Dev nD) : Nat :=
  let c0_i32_12651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12650 : BitVec 32 := 1#32
  let v10224 : BitVec 32 := Scalar.muli v7 c1_i32_12650
  let v10225 : BitVec 32 := Scalar.addi c0_i32_12651 v10224
  v10225.toNat
def k0_dev361 (d0 : Dev nD) : Nat :=
  let c0_i32_12696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12695 : BitVec 32 := 1#32
  let v10260 : BitVec 32 := Scalar.muli v5 c1_i32_12695
  let v10261 : BitVec 32 := Scalar.addi c0_i32_12696 v10260
  v10261.toNat
def k0_dev362 (d0 : Dev nD) : Nat :=
  let c0_i32_12720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12719 : BitVec 32 := 1#32
  let v10277 : BitVec 32 := Scalar.muli v7 c1_i32_12719
  let v10278 : BitVec 32 := Scalar.addi c0_i32_12720 v10277
  v10278.toNat
def k0_dev363 (d0 : Dev nD) : Nat :=
  let c0_i32_12765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12764 : BitVec 32 := 1#32
  let v10313 : BitVec 32 := Scalar.muli v5 c1_i32_12764
  let v10314 : BitVec 32 := Scalar.addi c0_i32_12765 v10313
  v10314.toNat
def k0_dev364 (d0 : Dev nD) : Nat :=
  let c0_i32_12789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12788 : BitVec 32 := 1#32
  let v10330 : BitVec 32 := Scalar.muli v7 c1_i32_12788
  let v10331 : BitVec 32 := Scalar.addi c0_i32_12789 v10330
  v10331.toNat
def k0_dev365 (d0 : Dev nD) : Nat :=
  let c0_i32_12834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12833 : BitVec 32 := 1#32
  let v10366 : BitVec 32 := Scalar.muli v5 c1_i32_12833
  let v10367 : BitVec 32 := Scalar.addi c0_i32_12834 v10366
  v10367.toNat
def k0_dev366 (d0 : Dev nD) : Nat :=
  let c0_i32_12858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12857 : BitVec 32 := 1#32
  let v10383 : BitVec 32 := Scalar.muli v7 c1_i32_12857
  let v10384 : BitVec 32 := Scalar.addi c0_i32_12858 v10383
  v10384.toNat
def k0_dev367 (d0 : Dev nD) : Nat :=
  let c0_i32_12903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12902 : BitVec 32 := 1#32
  let v10419 : BitVec 32 := Scalar.muli v5 c1_i32_12902
  let v10420 : BitVec 32 := Scalar.addi c0_i32_12903 v10419
  v10420.toNat
def k0_dev368 (d0 : Dev nD) : Nat :=
  let c0_i32_12927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12926 : BitVec 32 := 1#32
  let v10436 : BitVec 32 := Scalar.muli v7 c1_i32_12926
  let v10437 : BitVec 32 := Scalar.addi c0_i32_12927 v10436
  v10437.toNat
def k0_dev369 (d0 : Dev nD) : Nat :=
  let c0_i32_12972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_12971 : BitVec 32 := 1#32
  let v10472 : BitVec 32 := Scalar.muli v5 c1_i32_12971
  let v10473 : BitVec 32 := Scalar.addi c0_i32_12972 v10472
  v10473.toNat
def k0_dev370 (d0 : Dev nD) : Nat :=
  let c0_i32_12996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12995 : BitVec 32 := 1#32
  let v10489 : BitVec 32 := Scalar.muli v7 c1_i32_12995
  let v10490 : BitVec 32 := Scalar.addi c0_i32_12996 v10489
  v10490.toNat
def k0_dev371 (d0 : Dev nD) : Nat :=
  let c0_i32_13041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13040 : BitVec 32 := 1#32
  let v10525 : BitVec 32 := Scalar.muli v5 c1_i32_13040
  let v10526 : BitVec 32 := Scalar.addi c0_i32_13041 v10525
  v10526.toNat
def k0_dev372 (d0 : Dev nD) : Nat :=
  let c0_i32_13065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13064 : BitVec 32 := 1#32
  let v10542 : BitVec 32 := Scalar.muli v7 c1_i32_13064
  let v10543 : BitVec 32 := Scalar.addi c0_i32_13065 v10542
  v10543.toNat
def k0_dev373 (d0 : Dev nD) : Nat :=
  let c0_i32_13110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13109 : BitVec 32 := 1#32
  let v10578 : BitVec 32 := Scalar.muli v5 c1_i32_13109
  let v10579 : BitVec 32 := Scalar.addi c0_i32_13110 v10578
  v10579.toNat
def k0_dev374 (d0 : Dev nD) : Nat :=
  let c0_i32_13134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13133 : BitVec 32 := 1#32
  let v10595 : BitVec 32 := Scalar.muli v7 c1_i32_13133
  let v10596 : BitVec 32 := Scalar.addi c0_i32_13134 v10595
  v10596.toNat
def k0_dev375 (d0 : Dev nD) : Nat :=
  let c0_i32_13179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13178 : BitVec 32 := 1#32
  let v10631 : BitVec 32 := Scalar.muli v5 c1_i32_13178
  let v10632 : BitVec 32 := Scalar.addi c0_i32_13179 v10631
  v10632.toNat
def k0_dev376 (d0 : Dev nD) : Nat :=
  let c0_i32_13203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13202 : BitVec 32 := 1#32
  let v10648 : BitVec 32 := Scalar.muli v7 c1_i32_13202
  let v10649 : BitVec 32 := Scalar.addi c0_i32_13203 v10648
  v10649.toNat
def k0_dev377 (d0 : Dev nD) : Nat :=
  let c0_i32_13248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13247 : BitVec 32 := 1#32
  let v10684 : BitVec 32 := Scalar.muli v5 c1_i32_13247
  let v10685 : BitVec 32 := Scalar.addi c0_i32_13248 v10684
  v10685.toNat
def k0_dev378 (d0 : Dev nD) : Nat :=
  let c0_i32_13272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13271 : BitVec 32 := 1#32
  let v10701 : BitVec 32 := Scalar.muli v7 c1_i32_13271
  let v10702 : BitVec 32 := Scalar.addi c0_i32_13272 v10701
  v10702.toNat
def k0_dev379 (d0 : Dev nD) : Nat :=
  let c0_i32_13317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13316 : BitVec 32 := 1#32
  let v10737 : BitVec 32 := Scalar.muli v5 c1_i32_13316
  let v10738 : BitVec 32 := Scalar.addi c0_i32_13317 v10737
  v10738.toNat
def k0_dev380 (d0 : Dev nD) : Nat :=
  let c0_i32_13341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13340 : BitVec 32 := 1#32
  let v10754 : BitVec 32 := Scalar.muli v7 c1_i32_13340
  let v10755 : BitVec 32 := Scalar.addi c0_i32_13341 v10754
  v10755.toNat
def k0_dev381 (d0 : Dev nD) : Nat :=
  let c0_i32_13386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13385 : BitVec 32 := 1#32
  let v10790 : BitVec 32 := Scalar.muli v5 c1_i32_13385
  let v10791 : BitVec 32 := Scalar.addi c0_i32_13386 v10790
  v10791.toNat
def k0_dev382 (d0 : Dev nD) : Nat :=
  let c0_i32_13410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13409 : BitVec 32 := 1#32
  let v10807 : BitVec 32 := Scalar.muli v7 c1_i32_13409
  let v10808 : BitVec 32 := Scalar.addi c0_i32_13410 v10807
  v10808.toNat
def k0_dev383 (d0 : Dev nD) : Nat :=
  let c0_i32_13455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13454 : BitVec 32 := 1#32
  let v10843 : BitVec 32 := Scalar.muli v5 c1_i32_13454
  let v10844 : BitVec 32 := Scalar.addi c0_i32_13455 v10843
  v10844.toNat
def k0_dev384 (d0 : Dev nD) : Nat :=
  let c0_i32_13479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13478 : BitVec 32 := 1#32
  let v10860 : BitVec 32 := Scalar.muli v7 c1_i32_13478
  let v10861 : BitVec 32 := Scalar.addi c0_i32_13479 v10860
  v10861.toNat
def k0_dev385 (d0 : Dev nD) : Nat :=
  let c0_i32_13524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13523 : BitVec 32 := 1#32
  let v10896 : BitVec 32 := Scalar.muli v5 c1_i32_13523
  let v10897 : BitVec 32 := Scalar.addi c0_i32_13524 v10896
  v10897.toNat
def k0_dev386 (d0 : Dev nD) : Nat :=
  let c0_i32_13548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13547 : BitVec 32 := 1#32
  let v10913 : BitVec 32 := Scalar.muli v7 c1_i32_13547
  let v10914 : BitVec 32 := Scalar.addi c0_i32_13548 v10913
  v10914.toNat
def k0_dev387 (d0 : Dev nD) : Nat :=
  let c0_i32_13593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13592 : BitVec 32 := 1#32
  let v10949 : BitVec 32 := Scalar.muli v5 c1_i32_13592
  let v10950 : BitVec 32 := Scalar.addi c0_i32_13593 v10949
  v10950.toNat
def k0_dev388 (d0 : Dev nD) : Nat :=
  let c0_i32_13617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13616 : BitVec 32 := 1#32
  let v10966 : BitVec 32 := Scalar.muli v7 c1_i32_13616
  let v10967 : BitVec 32 := Scalar.addi c0_i32_13617 v10966
  v10967.toNat
def k0_dev389 (d0 : Dev nD) : Nat :=
  let c0_i32_13662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13661 : BitVec 32 := 1#32
  let v11002 : BitVec 32 := Scalar.muli v5 c1_i32_13661
  let v11003 : BitVec 32 := Scalar.addi c0_i32_13662 v11002
  v11003.toNat
def k0_dev390 (d0 : Dev nD) : Nat :=
  let c0_i32_13686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13685 : BitVec 32 := 1#32
  let v11019 : BitVec 32 := Scalar.muli v7 c1_i32_13685
  let v11020 : BitVec 32 := Scalar.addi c0_i32_13686 v11019
  v11020.toNat
def k0_dev391 (d0 : Dev nD) : Nat :=
  let c0_i32_13731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13730 : BitVec 32 := 1#32
  let v11055 : BitVec 32 := Scalar.muli v5 c1_i32_13730
  let v11056 : BitVec 32 := Scalar.addi c0_i32_13731 v11055
  v11056.toNat
def k0_dev392 (d0 : Dev nD) : Nat :=
  let c0_i32_13755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13754 : BitVec 32 := 1#32
  let v11072 : BitVec 32 := Scalar.muli v7 c1_i32_13754
  let v11073 : BitVec 32 := Scalar.addi c0_i32_13755 v11072
  v11073.toNat
def k0_dev393 (d0 : Dev nD) : Nat :=
  let c0_i32_13800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13799 : BitVec 32 := 1#32
  let v11108 : BitVec 32 := Scalar.muli v5 c1_i32_13799
  let v11109 : BitVec 32 := Scalar.addi c0_i32_13800 v11108
  v11109.toNat
def k0_dev394 (d0 : Dev nD) : Nat :=
  let c0_i32_13824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13823 : BitVec 32 := 1#32
  let v11125 : BitVec 32 := Scalar.muli v7 c1_i32_13823
  let v11126 : BitVec 32 := Scalar.addi c0_i32_13824 v11125
  v11126.toNat
def k0_dev395 (d0 : Dev nD) : Nat :=
  let c0_i32_13869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13868 : BitVec 32 := 1#32
  let v11161 : BitVec 32 := Scalar.muli v5 c1_i32_13868
  let v11162 : BitVec 32 := Scalar.addi c0_i32_13869 v11161
  v11162.toNat
def k0_dev396 (d0 : Dev nD) : Nat :=
  let c0_i32_13893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13892 : BitVec 32 := 1#32
  let v11178 : BitVec 32 := Scalar.muli v7 c1_i32_13892
  let v11179 : BitVec 32 := Scalar.addi c0_i32_13893 v11178
  v11179.toNat
def k0_dev397 (d0 : Dev nD) : Nat :=
  let c0_i32_13938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_13937 : BitVec 32 := 1#32
  let v11214 : BitVec 32 := Scalar.muli v5 c1_i32_13937
  let v11215 : BitVec 32 := Scalar.addi c0_i32_13938 v11214
  v11215.toNat
def k0_dev398 (d0 : Dev nD) : Nat :=
  let c0_i32_13962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13961 : BitVec 32 := 1#32
  let v11231 : BitVec 32 := Scalar.muli v7 c1_i32_13961
  let v11232 : BitVec 32 := Scalar.addi c0_i32_13962 v11231
  v11232.toNat
def k0_dev399 (d0 : Dev nD) : Nat :=
  let c0_i32_14007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14006 : BitVec 32 := 1#32
  let v11267 : BitVec 32 := Scalar.muli v5 c1_i32_14006
  let v11268 : BitVec 32 := Scalar.addi c0_i32_14007 v11267
  v11268.toNat
def k0_dev400 (d0 : Dev nD) : Nat :=
  let c0_i32_14031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14030 : BitVec 32 := 1#32
  let v11284 : BitVec 32 := Scalar.muli v7 c1_i32_14030
  let v11285 : BitVec 32 := Scalar.addi c0_i32_14031 v11284
  v11285.toNat
def k0_dev401 (d0 : Dev nD) : Nat :=
  let c0_i32_14076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14075 : BitVec 32 := 1#32
  let v11320 : BitVec 32 := Scalar.muli v5 c1_i32_14075
  let v11321 : BitVec 32 := Scalar.addi c0_i32_14076 v11320
  v11321.toNat
def k0_dev402 (d0 : Dev nD) : Nat :=
  let c0_i32_14100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14099 : BitVec 32 := 1#32
  let v11337 : BitVec 32 := Scalar.muli v7 c1_i32_14099
  let v11338 : BitVec 32 := Scalar.addi c0_i32_14100 v11337
  v11338.toNat
def k0_dev403 (d0 : Dev nD) : Nat :=
  let c0_i32_14145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14144 : BitVec 32 := 1#32
  let v11373 : BitVec 32 := Scalar.muli v5 c1_i32_14144
  let v11374 : BitVec 32 := Scalar.addi c0_i32_14145 v11373
  v11374.toNat
def k0_dev404 (d0 : Dev nD) : Nat :=
  let c0_i32_14169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14168 : BitVec 32 := 1#32
  let v11390 : BitVec 32 := Scalar.muli v7 c1_i32_14168
  let v11391 : BitVec 32 := Scalar.addi c0_i32_14169 v11390
  v11391.toNat
def k0_dev405 (d0 : Dev nD) : Nat :=
  let c0_i32_14214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14213 : BitVec 32 := 1#32
  let v11426 : BitVec 32 := Scalar.muli v5 c1_i32_14213
  let v11427 : BitVec 32 := Scalar.addi c0_i32_14214 v11426
  v11427.toNat
def k0_dev406 (d0 : Dev nD) : Nat :=
  let c0_i32_14238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14237 : BitVec 32 := 1#32
  let v11443 : BitVec 32 := Scalar.muli v7 c1_i32_14237
  let v11444 : BitVec 32 := Scalar.addi c0_i32_14238 v11443
  v11444.toNat
def k0_dev407 (d0 : Dev nD) : Nat :=
  let c0_i32_14283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14282 : BitVec 32 := 1#32
  let v11479 : BitVec 32 := Scalar.muli v5 c1_i32_14282
  let v11480 : BitVec 32 := Scalar.addi c0_i32_14283 v11479
  v11480.toNat
def k0_dev408 (d0 : Dev nD) : Nat :=
  let c0_i32_14307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14306 : BitVec 32 := 1#32
  let v11496 : BitVec 32 := Scalar.muli v7 c1_i32_14306
  let v11497 : BitVec 32 := Scalar.addi c0_i32_14307 v11496
  v11497.toNat
def k0_dev409 (d0 : Dev nD) : Nat :=
  let c0_i32_14352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14351 : BitVec 32 := 1#32
  let v11532 : BitVec 32 := Scalar.muli v5 c1_i32_14351
  let v11533 : BitVec 32 := Scalar.addi c0_i32_14352 v11532
  v11533.toNat
def k0_dev410 (d0 : Dev nD) : Nat :=
  let c0_i32_14376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14375 : BitVec 32 := 1#32
  let v11549 : BitVec 32 := Scalar.muli v7 c1_i32_14375
  let v11550 : BitVec 32 := Scalar.addi c0_i32_14376 v11549
  v11550.toNat
def k0_dev411 (d0 : Dev nD) : Nat :=
  let c0_i32_14421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14420 : BitVec 32 := 1#32
  let v11585 : BitVec 32 := Scalar.muli v5 c1_i32_14420
  let v11586 : BitVec 32 := Scalar.addi c0_i32_14421 v11585
  v11586.toNat
def k0_dev412 (d0 : Dev nD) : Nat :=
  let c0_i32_14445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14444 : BitVec 32 := 1#32
  let v11602 : BitVec 32 := Scalar.muli v7 c1_i32_14444
  let v11603 : BitVec 32 := Scalar.addi c0_i32_14445 v11602
  v11603.toNat
def k0_dev413 (d0 : Dev nD) : Nat :=
  let c0_i32_14490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14489 : BitVec 32 := 1#32
  let v11638 : BitVec 32 := Scalar.muli v5 c1_i32_14489
  let v11639 : BitVec 32 := Scalar.addi c0_i32_14490 v11638
  v11639.toNat
def k0_dev414 (d0 : Dev nD) : Nat :=
  let c0_i32_14514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14513 : BitVec 32 := 1#32
  let v11655 : BitVec 32 := Scalar.muli v7 c1_i32_14513
  let v11656 : BitVec 32 := Scalar.addi c0_i32_14514 v11655
  v11656.toNat
def k0_dev415 (d0 : Dev nD) : Nat :=
  let c0_i32_14559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14558 : BitVec 32 := 1#32
  let v11691 : BitVec 32 := Scalar.muli v5 c1_i32_14558
  let v11692 : BitVec 32 := Scalar.addi c0_i32_14559 v11691
  v11692.toNat
def k0_dev416 (d0 : Dev nD) : Nat :=
  let c0_i32_14583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14582 : BitVec 32 := 1#32
  let v11708 : BitVec 32 := Scalar.muli v7 c1_i32_14582
  let v11709 : BitVec 32 := Scalar.addi c0_i32_14583 v11708
  v11709.toNat
def k0_dev417 (d0 : Dev nD) : Nat :=
  let c0_i32_14628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14627 : BitVec 32 := 1#32
  let v11744 : BitVec 32 := Scalar.muli v5 c1_i32_14627
  let v11745 : BitVec 32 := Scalar.addi c0_i32_14628 v11744
  v11745.toNat
def k0_dev418 (d0 : Dev nD) : Nat :=
  let c0_i32_14652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14651 : BitVec 32 := 1#32
  let v11761 : BitVec 32 := Scalar.muli v7 c1_i32_14651
  let v11762 : BitVec 32 := Scalar.addi c0_i32_14652 v11761
  v11762.toNat
def k0_dev419 (d0 : Dev nD) : Nat :=
  let c0_i32_14697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14696 : BitVec 32 := 1#32
  let v11797 : BitVec 32 := Scalar.muli v5 c1_i32_14696
  let v11798 : BitVec 32 := Scalar.addi c0_i32_14697 v11797
  v11798.toNat
def k0_dev420 (d0 : Dev nD) : Nat :=
  let c0_i32_14721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14720 : BitVec 32 := 1#32
  let v11814 : BitVec 32 := Scalar.muli v7 c1_i32_14720
  let v11815 : BitVec 32 := Scalar.addi c0_i32_14721 v11814
  v11815.toNat
def k0_dev421 (d0 : Dev nD) : Nat :=
  let c0_i32_14766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14765 : BitVec 32 := 1#32
  let v11850 : BitVec 32 := Scalar.muli v5 c1_i32_14765
  let v11851 : BitVec 32 := Scalar.addi c0_i32_14766 v11850
  v11851.toNat
def k0_dev422 (d0 : Dev nD) : Nat :=
  let c0_i32_14790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14789 : BitVec 32 := 1#32
  let v11867 : BitVec 32 := Scalar.muli v7 c1_i32_14789
  let v11868 : BitVec 32 := Scalar.addi c0_i32_14790 v11867
  v11868.toNat
def k0_dev423 (d0 : Dev nD) : Nat :=
  let c0_i32_14835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14834 : BitVec 32 := 1#32
  let v11903 : BitVec 32 := Scalar.muli v5 c1_i32_14834
  let v11904 : BitVec 32 := Scalar.addi c0_i32_14835 v11903
  v11904.toNat
def k0_dev424 (d0 : Dev nD) : Nat :=
  let c0_i32_14859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14858 : BitVec 32 := 1#32
  let v11920 : BitVec 32 := Scalar.muli v7 c1_i32_14858
  let v11921 : BitVec 32 := Scalar.addi c0_i32_14859 v11920
  v11921.toNat
def k0_dev425 (d0 : Dev nD) : Nat :=
  let c0_i32_14904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14903 : BitVec 32 := 1#32
  let v11956 : BitVec 32 := Scalar.muli v5 c1_i32_14903
  let v11957 : BitVec 32 := Scalar.addi c0_i32_14904 v11956
  v11957.toNat
def k0_dev426 (d0 : Dev nD) : Nat :=
  let c0_i32_14928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14927 : BitVec 32 := 1#32
  let v11973 : BitVec 32 := Scalar.muli v7 c1_i32_14927
  let v11974 : BitVec 32 := Scalar.addi c0_i32_14928 v11973
  v11974.toNat
def k0_dev427 (d0 : Dev nD) : Nat :=
  let c0_i32_14973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_14972 : BitVec 32 := 1#32
  let v12009 : BitVec 32 := Scalar.muli v5 c1_i32_14972
  let v12010 : BitVec 32 := Scalar.addi c0_i32_14973 v12009
  v12010.toNat
def k0_dev428 (d0 : Dev nD) : Nat :=
  let c0_i32_14997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14996 : BitVec 32 := 1#32
  let v12026 : BitVec 32 := Scalar.muli v7 c1_i32_14996
  let v12027 : BitVec 32 := Scalar.addi c0_i32_14997 v12026
  v12027.toNat
def k0_dev429 (d0 : Dev nD) : Nat :=
  let c0_i32_15042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15041 : BitVec 32 := 1#32
  let v12062 : BitVec 32 := Scalar.muli v5 c1_i32_15041
  let v12063 : BitVec 32 := Scalar.addi c0_i32_15042 v12062
  v12063.toNat
def k0_dev430 (d0 : Dev nD) : Nat :=
  let c0_i32_15066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15065 : BitVec 32 := 1#32
  let v12079 : BitVec 32 := Scalar.muli v7 c1_i32_15065
  let v12080 : BitVec 32 := Scalar.addi c0_i32_15066 v12079
  v12080.toNat
def k0_dev431 (d0 : Dev nD) : Nat :=
  let c0_i32_15111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15110 : BitVec 32 := 1#32
  let v12115 : BitVec 32 := Scalar.muli v5 c1_i32_15110
  let v12116 : BitVec 32 := Scalar.addi c0_i32_15111 v12115
  v12116.toNat
def k0_dev432 (d0 : Dev nD) : Nat :=
  let c0_i32_15135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15134 : BitVec 32 := 1#32
  let v12132 : BitVec 32 := Scalar.muli v7 c1_i32_15134
  let v12133 : BitVec 32 := Scalar.addi c0_i32_15135 v12132
  v12133.toNat
def k0_dev433 (d0 : Dev nD) : Nat :=
  let c0_i32_15180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15179 : BitVec 32 := 1#32
  let v12168 : BitVec 32 := Scalar.muli v5 c1_i32_15179
  let v12169 : BitVec 32 := Scalar.addi c0_i32_15180 v12168
  v12169.toNat
def k0_dev434 (d0 : Dev nD) : Nat :=
  let c0_i32_15204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15203 : BitVec 32 := 1#32
  let v12185 : BitVec 32 := Scalar.muli v7 c1_i32_15203
  let v12186 : BitVec 32 := Scalar.addi c0_i32_15204 v12185
  v12186.toNat
def k0_dev435 (d0 : Dev nD) : Nat :=
  let c0_i32_15249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15248 : BitVec 32 := 1#32
  let v12221 : BitVec 32 := Scalar.muli v5 c1_i32_15248
  let v12222 : BitVec 32 := Scalar.addi c0_i32_15249 v12221
  v12222.toNat
def k0_dev436 (d0 : Dev nD) : Nat :=
  let c0_i32_15273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15272 : BitVec 32 := 1#32
  let v12238 : BitVec 32 := Scalar.muli v7 c1_i32_15272
  let v12239 : BitVec 32 := Scalar.addi c0_i32_15273 v12238
  v12239.toNat
def k0_dev437 (d0 : Dev nD) : Nat :=
  let c0_i32_15318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15317 : BitVec 32 := 1#32
  let v12274 : BitVec 32 := Scalar.muli v5 c1_i32_15317
  let v12275 : BitVec 32 := Scalar.addi c0_i32_15318 v12274
  v12275.toNat
def k0_dev438 (d0 : Dev nD) : Nat :=
  let c0_i32_15342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15341 : BitVec 32 := 1#32
  let v12291 : BitVec 32 := Scalar.muli v7 c1_i32_15341
  let v12292 : BitVec 32 := Scalar.addi c0_i32_15342 v12291
  v12292.toNat
def k0_dev439 (d0 : Dev nD) : Nat :=
  let c0_i32_15387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15386 : BitVec 32 := 1#32
  let v12327 : BitVec 32 := Scalar.muli v5 c1_i32_15386
  let v12328 : BitVec 32 := Scalar.addi c0_i32_15387 v12327
  v12328.toNat
def k0_dev440 (d0 : Dev nD) : Nat :=
  let c0_i32_15411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15410 : BitVec 32 := 1#32
  let v12344 : BitVec 32 := Scalar.muli v7 c1_i32_15410
  let v12345 : BitVec 32 := Scalar.addi c0_i32_15411 v12344
  v12345.toNat
def k0_dev441 (d0 : Dev nD) : Nat :=
  let c0_i32_15456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15455 : BitVec 32 := 1#32
  let v12380 : BitVec 32 := Scalar.muli v5 c1_i32_15455
  let v12381 : BitVec 32 := Scalar.addi c0_i32_15456 v12380
  v12381.toNat
def k0_dev442 (d0 : Dev nD) : Nat :=
  let c0_i32_15480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15479 : BitVec 32 := 1#32
  let v12397 : BitVec 32 := Scalar.muli v7 c1_i32_15479
  let v12398 : BitVec 32 := Scalar.addi c0_i32_15480 v12397
  v12398.toNat
def k0_dev443 (d0 : Dev nD) : Nat :=
  let c0_i32_15525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15524 : BitVec 32 := 1#32
  let v12433 : BitVec 32 := Scalar.muli v5 c1_i32_15524
  let v12434 : BitVec 32 := Scalar.addi c0_i32_15525 v12433
  v12434.toNat
def k0_dev444 (d0 : Dev nD) : Nat :=
  let c0_i32_15549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15548 : BitVec 32 := 1#32
  let v12450 : BitVec 32 := Scalar.muli v7 c1_i32_15548
  let v12451 : BitVec 32 := Scalar.addi c0_i32_15549 v12450
  v12451.toNat
def k0_dev445 (d0 : Dev nD) : Nat :=
  let c0_i32_15594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15593 : BitVec 32 := 1#32
  let v12486 : BitVec 32 := Scalar.muli v5 c1_i32_15593
  let v12487 : BitVec 32 := Scalar.addi c0_i32_15594 v12486
  v12487.toNat
def k0_dev446 (d0 : Dev nD) : Nat :=
  let c0_i32_15618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15617 : BitVec 32 := 1#32
  let v12503 : BitVec 32 := Scalar.muli v7 c1_i32_15617
  let v12504 : BitVec 32 := Scalar.addi c0_i32_15618 v12503
  v12504.toNat
def k0_dev447 (d0 : Dev nD) : Nat :=
  let c0_i32_15663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15662 : BitVec 32 := 1#32
  let v12539 : BitVec 32 := Scalar.muli v5 c1_i32_15662
  let v12540 : BitVec 32 := Scalar.addi c0_i32_15663 v12539
  v12540.toNat
def k0_dev448 (d0 : Dev nD) : Nat :=
  let c0_i32_15687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15686 : BitVec 32 := 1#32
  let v12556 : BitVec 32 := Scalar.muli v7 c1_i32_15686
  let v12557 : BitVec 32 := Scalar.addi c0_i32_15687 v12556
  v12557.toNat
def k0_dev449 (d0 : Dev nD) : Nat :=
  let c0_i32_15732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15731 : BitVec 32 := 1#32
  let v12592 : BitVec 32 := Scalar.muli v5 c1_i32_15731
  let v12593 : BitVec 32 := Scalar.addi c0_i32_15732 v12592
  v12593.toNat
def k0_dev450 (d0 : Dev nD) : Nat :=
  let c0_i32_15756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15755 : BitVec 32 := 1#32
  let v12609 : BitVec 32 := Scalar.muli v7 c1_i32_15755
  let v12610 : BitVec 32 := Scalar.addi c0_i32_15756 v12609
  v12610.toNat
def k0_dev451 (d0 : Dev nD) : Nat :=
  let c0_i32_15801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15800 : BitVec 32 := 1#32
  let v12645 : BitVec 32 := Scalar.muli v5 c1_i32_15800
  let v12646 : BitVec 32 := Scalar.addi c0_i32_15801 v12645
  v12646.toNat
def k0_dev452 (d0 : Dev nD) : Nat :=
  let c0_i32_15825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15824 : BitVec 32 := 1#32
  let v12662 : BitVec 32 := Scalar.muli v7 c1_i32_15824
  let v12663 : BitVec 32 := Scalar.addi c0_i32_15825 v12662
  v12663.toNat
def k0_dev453 (d0 : Dev nD) : Nat :=
  let c0_i32_15870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15869 : BitVec 32 := 1#32
  let v12698 : BitVec 32 := Scalar.muli v5 c1_i32_15869
  let v12699 : BitVec 32 := Scalar.addi c0_i32_15870 v12698
  v12699.toNat
def k0_dev454 (d0 : Dev nD) : Nat :=
  let c0_i32_15894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15893 : BitVec 32 := 1#32
  let v12715 : BitVec 32 := Scalar.muli v7 c1_i32_15893
  let v12716 : BitVec 32 := Scalar.addi c0_i32_15894 v12715
  v12716.toNat
def k0_dev455 (d0 : Dev nD) : Nat :=
  let c0_i32_15939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_15938 : BitVec 32 := 1#32
  let v12751 : BitVec 32 := Scalar.muli v5 c1_i32_15938
  let v12752 : BitVec 32 := Scalar.addi c0_i32_15939 v12751
  v12752.toNat
def k0_dev456 (d0 : Dev nD) : Nat :=
  let c0_i32_15963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15962 : BitVec 32 := 1#32
  let v12768 : BitVec 32 := Scalar.muli v7 c1_i32_15962
  let v12769 : BitVec 32 := Scalar.addi c0_i32_15963 v12768
  v12769.toNat
def k0_dev457 (d0 : Dev nD) : Nat :=
  let c0_i32_16008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16007 : BitVec 32 := 1#32
  let v12804 : BitVec 32 := Scalar.muli v5 c1_i32_16007
  let v12805 : BitVec 32 := Scalar.addi c0_i32_16008 v12804
  v12805.toNat
def k0_dev458 (d0 : Dev nD) : Nat :=
  let c0_i32_16032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16031 : BitVec 32 := 1#32
  let v12821 : BitVec 32 := Scalar.muli v7 c1_i32_16031
  let v12822 : BitVec 32 := Scalar.addi c0_i32_16032 v12821
  v12822.toNat
def k0_dev459 (d0 : Dev nD) : Nat :=
  let c0_i32_16077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16076 : BitVec 32 := 1#32
  let v12857 : BitVec 32 := Scalar.muli v5 c1_i32_16076
  let v12858 : BitVec 32 := Scalar.addi c0_i32_16077 v12857
  v12858.toNat
def k0_dev460 (d0 : Dev nD) : Nat :=
  let c0_i32_16101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16100 : BitVec 32 := 1#32
  let v12874 : BitVec 32 := Scalar.muli v7 c1_i32_16100
  let v12875 : BitVec 32 := Scalar.addi c0_i32_16101 v12874
  v12875.toNat
def k0_dev461 (d0 : Dev nD) : Nat :=
  let c0_i32_16146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16145 : BitVec 32 := 1#32
  let v12910 : BitVec 32 := Scalar.muli v5 c1_i32_16145
  let v12911 : BitVec 32 := Scalar.addi c0_i32_16146 v12910
  v12911.toNat
def k0_dev462 (d0 : Dev nD) : Nat :=
  let c0_i32_16170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16169 : BitVec 32 := 1#32
  let v12927 : BitVec 32 := Scalar.muli v7 c1_i32_16169
  let v12928 : BitVec 32 := Scalar.addi c0_i32_16170 v12927
  v12928.toNat
def k0_dev463 (d0 : Dev nD) : Nat :=
  let c0_i32_16215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16214 : BitVec 32 := 1#32
  let v12963 : BitVec 32 := Scalar.muli v5 c1_i32_16214
  let v12964 : BitVec 32 := Scalar.addi c0_i32_16215 v12963
  v12964.toNat
def k0_dev464 (d0 : Dev nD) : Nat :=
  let c0_i32_16239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16238 : BitVec 32 := 1#32
  let v12980 : BitVec 32 := Scalar.muli v7 c1_i32_16238
  let v12981 : BitVec 32 := Scalar.addi c0_i32_16239 v12980
  v12981.toNat
def k0_dev465 (d0 : Dev nD) : Nat :=
  let c0_i32_16284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16283 : BitVec 32 := 1#32
  let v13016 : BitVec 32 := Scalar.muli v5 c1_i32_16283
  let v13017 : BitVec 32 := Scalar.addi c0_i32_16284 v13016
  v13017.toNat
def k0_dev466 (d0 : Dev nD) : Nat :=
  let c0_i32_16308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16307 : BitVec 32 := 1#32
  let v13033 : BitVec 32 := Scalar.muli v7 c1_i32_16307
  let v13034 : BitVec 32 := Scalar.addi c0_i32_16308 v13033
  v13034.toNat
def k0_dev467 (d0 : Dev nD) : Nat :=
  let c0_i32_16353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16352 : BitVec 32 := 1#32
  let v13069 : BitVec 32 := Scalar.muli v5 c1_i32_16352
  let v13070 : BitVec 32 := Scalar.addi c0_i32_16353 v13069
  v13070.toNat
def k0_dev468 (d0 : Dev nD) : Nat :=
  let c0_i32_16377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16376 : BitVec 32 := 1#32
  let v13086 : BitVec 32 := Scalar.muli v7 c1_i32_16376
  let v13087 : BitVec 32 := Scalar.addi c0_i32_16377 v13086
  v13087.toNat
def k0_dev469 (d0 : Dev nD) : Nat :=
  let c0_i32_16422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16421 : BitVec 32 := 1#32
  let v13122 : BitVec 32 := Scalar.muli v5 c1_i32_16421
  let v13123 : BitVec 32 := Scalar.addi c0_i32_16422 v13122
  v13123.toNat
def k0_dev470 (d0 : Dev nD) : Nat :=
  let c0_i32_16446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16445 : BitVec 32 := 1#32
  let v13139 : BitVec 32 := Scalar.muli v7 c1_i32_16445
  let v13140 : BitVec 32 := Scalar.addi c0_i32_16446 v13139
  v13140.toNat
def k0_dev471 (d0 : Dev nD) : Nat :=
  let c0_i32_16491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16490 : BitVec 32 := 1#32
  let v13175 : BitVec 32 := Scalar.muli v5 c1_i32_16490
  let v13176 : BitVec 32 := Scalar.addi c0_i32_16491 v13175
  v13176.toNat
def k0_dev472 (d0 : Dev nD) : Nat :=
  let c0_i32_16515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16514 : BitVec 32 := 1#32
  let v13192 : BitVec 32 := Scalar.muli v7 c1_i32_16514
  let v13193 : BitVec 32 := Scalar.addi c0_i32_16515 v13192
  v13193.toNat
def k0_dev473 (d0 : Dev nD) : Nat :=
  let c0_i32_16560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16559 : BitVec 32 := 1#32
  let v13228 : BitVec 32 := Scalar.muli v5 c1_i32_16559
  let v13229 : BitVec 32 := Scalar.addi c0_i32_16560 v13228
  v13229.toNat
def k0_dev474 (d0 : Dev nD) : Nat :=
  let c0_i32_16584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16583 : BitVec 32 := 1#32
  let v13245 : BitVec 32 := Scalar.muli v7 c1_i32_16583
  let v13246 : BitVec 32 := Scalar.addi c0_i32_16584 v13245
  v13246.toNat
def k0_dev475 (d0 : Dev nD) : Nat :=
  let c0_i32_16629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16628 : BitVec 32 := 1#32
  let v13281 : BitVec 32 := Scalar.muli v5 c1_i32_16628
  let v13282 : BitVec 32 := Scalar.addi c0_i32_16629 v13281
  v13282.toNat
def k0_dev476 (d0 : Dev nD) : Nat :=
  let c0_i32_16653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16652 : BitVec 32 := 1#32
  let v13298 : BitVec 32 := Scalar.muli v7 c1_i32_16652
  let v13299 : BitVec 32 := Scalar.addi c0_i32_16653 v13298
  v13299.toNat
def k0_dev477 (d0 : Dev nD) : Nat :=
  let c0_i32_16698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16697 : BitVec 32 := 1#32
  let v13334 : BitVec 32 := Scalar.muli v5 c1_i32_16697
  let v13335 : BitVec 32 := Scalar.addi c0_i32_16698 v13334
  v13335.toNat
def k0_dev478 (d0 : Dev nD) : Nat :=
  let c0_i32_16722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16721 : BitVec 32 := 1#32
  let v13351 : BitVec 32 := Scalar.muli v7 c1_i32_16721
  let v13352 : BitVec 32 := Scalar.addi c0_i32_16722 v13351
  v13352.toNat
def k0_dev479 (d0 : Dev nD) : Nat :=
  let c0_i32_16767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16766 : BitVec 32 := 1#32
  let v13387 : BitVec 32 := Scalar.muli v5 c1_i32_16766
  let v13388 : BitVec 32 := Scalar.addi c0_i32_16767 v13387
  v13388.toNat
def k0_dev480 (d0 : Dev nD) : Nat :=
  let c0_i32_16791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16790 : BitVec 32 := 1#32
  let v13404 : BitVec 32 := Scalar.muli v7 c1_i32_16790
  let v13405 : BitVec 32 := Scalar.addi c0_i32_16791 v13404
  v13405.toNat
def k0_dev481 (d0 : Dev nD) : Nat :=
  let c0_i32_16836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16835 : BitVec 32 := 1#32
  let v13440 : BitVec 32 := Scalar.muli v5 c1_i32_16835
  let v13441 : BitVec 32 := Scalar.addi c0_i32_16836 v13440
  v13441.toNat
def k0_dev482 (d0 : Dev nD) : Nat :=
  let c0_i32_16860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16859 : BitVec 32 := 1#32
  let v13457 : BitVec 32 := Scalar.muli v7 c1_i32_16859
  let v13458 : BitVec 32 := Scalar.addi c0_i32_16860 v13457
  v13458.toNat
def k0_dev483 (d0 : Dev nD) : Nat :=
  let c0_i32_16905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16904 : BitVec 32 := 1#32
  let v13493 : BitVec 32 := Scalar.muli v5 c1_i32_16904
  let v13494 : BitVec 32 := Scalar.addi c0_i32_16905 v13493
  v13494.toNat
def k0_dev484 (d0 : Dev nD) : Nat :=
  let c0_i32_16929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16928 : BitVec 32 := 1#32
  let v13510 : BitVec 32 := Scalar.muli v7 c1_i32_16928
  let v13511 : BitVec 32 := Scalar.addi c0_i32_16929 v13510
  v13511.toNat
def k0_dev485 (d0 : Dev nD) : Nat :=
  let c0_i32_16974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_16973 : BitVec 32 := 1#32
  let v13546 : BitVec 32 := Scalar.muli v5 c1_i32_16973
  let v13547 : BitVec 32 := Scalar.addi c0_i32_16974 v13546
  v13547.toNat
def k0_dev486 (d0 : Dev nD) : Nat :=
  let c0_i32_16998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16997 : BitVec 32 := 1#32
  let v13563 : BitVec 32 := Scalar.muli v7 c1_i32_16997
  let v13564 : BitVec 32 := Scalar.addi c0_i32_16998 v13563
  v13564.toNat
def k0_dev487 (d0 : Dev nD) : Nat :=
  let c0_i32_17063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_17062 : BitVec 32 := 1#32
  let v13612 : BitVec 32 := Scalar.muli v7 c1_i32_17062
  let v13613 : BitVec 32 := Scalar.addi c0_i32_17063 v13612
  v13613.toNat
def k0_dev488 (d0 : Dev nD) : Nat :=
  let c0_i32_17128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_17127 : BitVec 32 := 1#32
  let v13661 : BitVec 32 := Scalar.muli v7 c1_i32_17127
  let v13662 : BitVec 32 := Scalar.addi c0_i32_17128 v13661
  v13662.toNat
def k0_dev489 (d0 : Dev nD) : Nat :=
  let c0_i32_17193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_17192 : BitVec 32 := 1#32
  let v13710 : BitVec 32 := Scalar.muli v7 c1_i32_17192
  let v13711 : BitVec 32 := Scalar.addi c0_i32_17193 v13710
  v13711.toNat
def k0_dev490 (d0 : Dev nD) : Nat :=
  let c0_i32_17258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_17257 : BitVec 32 := 1#32
  let v13759 : BitVec 32 := Scalar.muli v7 c1_i32_17257
  let v13760 : BitVec 32 := Scalar.addi c0_i32_17258 v13759
  v13760.toNat
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/- The kernel's body as one loop over its 248 (step, flow) pairs: the printed text, which has every pair written out, is
   that loop. -/
module

public import proofs.«01_k».proof.Proof.Gen.KernelIdeal.Launch
public import proofs.«01_k».proof.Proof.Gen.KernelIdeal.Points

@[expose] public section

set_option maxRecDepth 65536

noncomputable section

namespace Cert.KernelIdeal.AllReduce

open Idealize.ShloMosaic Idealize.ShloMosaic.TcCoe Idealize.SL Idealize.SL.Sem
open Facts₀ Facts

variable {F : FTy → Type} [FloatOps F]

/-! ## The buffers, one flow's slot of each, and its semaphores -/

abbrev xM : Memref sig .tc .vmem S4096x128 .fp8e4m3 := Memref.whole cc0_stg0_0
abbrev wM : Memref sig .tc .vmem S128x2048 .fp8e4m3 := Memref.whole cc0_stg1_0
abbrev sxM : Memref sig .tc .smem S1 .f32 := Memref.whole cc0_stg2_0
abbrev swM : Memref sig .tc .smem S1 .f32 := Memref.whole cc0_stg3_0
abbrev outM : Memref sig .tc .vmem S4096x2048 .f32 := Memref.whole cc0_stg4_0
abbrev commM : Memref sig .tc .vmem S4x2x32x2048 .bf16 := Memref.whole cc0_scratch0
abbrev stageM : Memref sig .tc .vmem S4x2x32x2048 .bf16 := Memref.whole cc0_scratch1

theorem commW : (commM).IsWhole := Memref.isWhole_whole _
theorem stageW : (stageM).IsWhole := Memref.isWhole_whole _

/-- The slot a step uses. -/
abbrev par (u : ℕ) : Fin 2 := ⟨u % 2, Nat.mod_lt _ (by decide)⟩

theorem slot_inb (h : Fin 4) (s : Fin 2) :
    ∀ a, (![h.val, s.val, 0, 0] : Fin 4 → Nat) a + S1x1x32x2048.size a ≤ S4x2x32x2048.size a := by
  revert h s; decide
theorem slot_packed (h : Fin 4) (s : Fin 2) :
    (Rect.unit (s := S4x2x32x2048) ![h.val, s.val, 0, 0] S1x1x32x2048.size (slot_inb h s)).PackedRows (EltTy.packing .bf16) := by
  revert h s; decide
theorem slot_words (h : Fin 4) (s : Fin 2) :
    (Rect.unit (s := S4x2x32x2048) ![h.val, s.val, 0, 0] S1x1x32x2048.size (slot_inb h s)).WholeWords (EltTy.packing .bf16) := by
  revert h s; decide
theorem sem_inb (h : Fin 4) (s : Fin 2) : ∀ a, (![h.val, s.val] : Fin 2 → Nat) a + S1x1.size a ≤ S4x2.size a := by
  revert h s; decide
theorem credit_inb (h : Fin 4) : ∀ a, (![h.val] : Fin 1 → Nat) a + S1.size a ≤ S4.size a := by
  revert h; decide

/-- The rectangle of a flow's slot in either scratch buffer. -/
abbrev slotR (h : Fin 4) (s : Fin 2) : Rect S4x2x32x2048 :=
  Rect.unit (s := S4x2x32x2048) ![h.val, s.val, 0, 0] S1x1x32x2048.size (slot_inb h s)

/-- A flow's slot of the inbound buffer, and of the staging buffer, as a transfer names it. -/
abbrev commS (h : Fin 4) (s : Fin 2) : Memref sig .tc .vmem S32x2048 .bf16 :=
  (commM.slice (slotR h s) (fun _ => rfl)).squeeze S32x2048 squeezes_S1x1x32x2048_S32x2048
abbrev stageS (h : Fin 4) (s : Fin 2) : Memref sig .tc .vmem S32x2048 .bf16 :=
  (stageM.slice (slotR h s) (fun _ => rfl)).squeeze S32x2048 squeezes_S1x1x32x2048_S32x2048

abbrev semR (h : Fin 4) (s : Fin 2) : Rect S4x2 := Rect.unit (s := S4x2) ![h.val, s.val] S1x1.size (sem_inb h s)
/-- The send semaphore, the receive semaphore and the credit of a flow. -/
abbrev sendSem (h : Fin 4) (s : Fin 2) : DmaSem sig := ((cc0_scratch2.slice (semR h s)).squeeze S_ squeezes_S1x1_S_).sem
abbrev recvSem (h : Fin 4) (s : Fin 2) : DmaSem sig := ((cc0_scratch3.slice (semR h s)).squeeze S_ squeezes_S1x1_S_).sem
abbrev creditSem (h : Fin 4) : Sem sig :=
  ((cc0_scratch4.slice (Rect.unit (s := S4) ![h.val] S1.size (credit_inb h))).squeeze S_ squeezes_S1_S_).sem

/-- The two neighbours, as the kernel computes them. -/
abbrev leftD (d : Dev nD) : Dev nD := ⟨k0_dev1 d, k0_dev1_lt d⟩
abbrev rightD (d : Dev nD) : Dev nD := ⟨k0_dev2 d, k0_dev2_lt d⟩

/-- Where the rows sent at a step start, and where the rows received at it start. -/
def sendOff (d : Dev nD) (u : ℕ) (h : Fin 4) : Fin 2 → Nat :=
  bif Nat.blt u 31 then k0_off1 d (BitVec.ofNat 32 u) 32#32 (BitVec.ofNat 32 (32 * h.val))
  else k0_off3 d (BitVec.ofNat 32 ((u - 31) % 31)) (BitVec.ofNat 32 (32 * h.val))
def recvOff (d : Dev nD) (u : ℕ) (h : Fin 4) : Fin 2 → Nat :=
  bif Nat.blt u 31 then k0_off2 d (BitVec.ofNat 32 u) (BitVec.ofNat 32 (32 * h.val))
  else k0_off1 d (BitVec.ofNat 32 ((u - 31) % 31)) 64#32 (BitVec.ofNat 32 (32 * h.val))

theorem sendOff_inb (d : Dev nD) (u : ℕ) (h : Fin 4) : ∀ a, sendOff d u h a + S32x2048.size a ≤ S4096x2048.size a := by
  unfold sendOff
  by_cases hu : u < 31
  · rw [show Nat.blt u 31 = true by simpa [Nat.blt_eq] using hu]
    exact k0_off1_inb d ⟨u, hu⟩ 0 h
  · rw [show Nat.blt u 31 = false from Bool.eq_false_iff.2 fun e => hu (Nat.blt_eq ▸ e)]
    exact k0_off3_inb d ⟨(u - 31) % 31, Nat.mod_lt _ (by decide)⟩ h
theorem recvOff_inb (d : Dev nD) (u : ℕ) (h : Fin 4) : ∀ a, recvOff d u h a + S32x2048.size a ≤ S4096x2048.size a := by
  unfold recvOff
  by_cases hu : u < 31
  · rw [show Nat.blt u 31 = true by simpa [Nat.blt_eq] using hu]
    exact k0_off2_inb d ⟨u, hu⟩ h
  · rw [show Nat.blt u 31 = false from Bool.eq_false_iff.2 fun e => hu (Nat.blt_eq ▸ e)]
    exact k0_off1_inb d ⟨(u - 31) % 31, Nat.mod_lt _ (by decide)⟩ 1 h

abbrev sendR (d : Dev nD) (u : ℕ) (h : Fin 4) : Rect S4096x2048 :=
  Rect.unit (s := S4096x2048) (sendOff d u h) S32x2048.size (sendOff_inb d u h)
abbrev recvR (d : Dev nD) (u : ℕ) (h : Fin 4) : Rect S4096x2048 :=
  Rect.unit (s := S4096x2048) (recvOff d u h) S32x2048.size (recvOff_inb d u h)

/-! ## The operations of one pair -/

/-- The program's type. -/
abbrev PT (F : FTy → Type) (α : Type) := Prog (TpuEff nD τ sig (Elt F) Λ₀ .tc) α

/-- What the partial product of a device is: its columns of `x`, scaled, against its rows of `w`. -/
def dotV (sx sw : F .f32) (x : FVec F S4096x128 .fp8e4m3) (w : FVec F S128x2048 .fp8e4m3) : FVec F S4096x2048 .f32 :=
  matmul dot_S4096x128_S128x2048_S4096x2048_1_0_0_1_n_n none
    (mulf (extf .f32 (shapeCast S4096x128 x shapeCasts_S4096x128_S4096x128) bitsLt_fp8e4m3_f32)
      (broadcast S4096x128 (Scalar.mulf sx sw)))
    (shapeCast S128x2048 w shapeCasts_S128x2048_S128x2048) (constant S4096x2048 .f32 0x00000000#32)

/-- Rows narrowed to the type they travel at, in the staging buffer's shape. -/
def narrow (v : Vec F S32x2048 .f32) : Vec F S32x2048 .bf16 :=
  truncf .bf16 (shapeCast S32x2048 v shapeCasts_S32x2048_S32x2048) bitsLt_bf16_f32
def stageV (v : Vec F S32x2048 .bf16) : Vec F S1x1x32x2048 .bf16 :=
  shapeCast S1x1x32x2048 v shapeCasts_S32x2048_S1x1x32x2048
/-- A slot's rows, as received, widened. -/
def widen (v : Vec F S1x1x32x2048 .bf16) : Vec F S32x2048 .f32 :=
  extf .f32 (shapeCast S32x2048 v shapeCasts_S1x1x32x2048_S32x2048) bitsLt_bf16_f32
def plusV (old inb : Vec F S32x2048 .f32) : Vec F S32x2048 .f32 :=
  addf (shapeCast S32x2048 old shapeCasts_S32x2048_S32x2048) inb

def waitSend (u : ℕ) (h : Fin 4) (K : PT F PUnit) : PT F PUnit :=
  .op (.waitDma2 (sendSem h (par u)) (commS h (par u)) (stageS h (par u))
    ((commW.wordExact_slice rfl _ (slot_words h (par u))).reshape _ _)
    ((stageW.wordExact_slice rfl _ (slot_words h (par u))).reshape _ _)) fun _ => K
def waitRecv (u : ℕ) (h : Fin 4) (K : PT F PUnit) : PT F PUnit :=
  .op (.waitDma2 (recvSem h (par u)) (stageS h (par u)) (commS h (par u))
    ((stageW.wordExact_slice rfl _ (slot_words h (par u))).reshape _ _)
    ((commW.wordExact_slice rfl _ (slot_words h (par u))).reshape _ _)) fun _ => K
def loadComm (u : ℕ) (h : Fin 4) (K : Vec F S32x2048 .f32 → PT F PUnit) : PT F PUnit :=
  .op (.load commM (slotR h (par u)).toLoadRect (View.loadsAt_vmem h_S1x1x32x2048)) fun v => K (widen v)
def loadOld (d : Dev nD) (u : ℕ) (h : Fin 4) (v : Vec F S32x2048 .f32) (K : Vec F S32x2048 .f32 → PT F PUnit) : PT F PUnit :=
  bif Nat.blt u 31 then
    .op (.load outM (recvR d u h).toLoadRect (View.loadsAt_vmem h_S32x2048)) fun old => K (plusV old v)
  else K v
def storeOut (d : Dev nD) (u : ℕ) (h : Fin 4) (v : Vec F S32x2048 .f32) (K : PT F PUnit) : PT F PUnit :=
  .op (.load outM (recvR d u h).toLoadRect (View.loadsAt_vmem h_S32x2048)) fun _ =>
  .op (.store outM (recvR d u h) v Finset.univ (View.stores_vmem_bits_univ h_S32x2048 rfl) (.inl rfl)) fun _ => K
def signalCredit (d : Dev nD) (u : ℕ) (h : Fin 4) (K : PT F PUnit) : PT F PUnit :=
  bif Nat.blt u 60 then .op (.semSignal ((leftD d : Dev nD), .tc) (creditSem h) (1#32).toInt) fun _ => K else K
def waitCredit (u : ℕ) (h : Fin 4) (K : PT F PUnit) : PT F PUnit :=
  bif Nat.blt u 2 then K else .op (.semWait (creditSem h) (1#32).toInt) fun _ => K
def loadOut (d : Dev nD) (u : ℕ) (h : Fin 4) (K : Vec F S32x2048 .bf16 → PT F PUnit) : PT F PUnit :=
  .op (.load outM (sendR d u h).toLoadRect (View.loadsAt_vmem h_S32x2048)) fun v => K (narrow v)
def loadStage (u : ℕ) (h : Fin 4) (K : PT F PUnit) : PT F PUnit :=
  .op (.load stageM (slotR h (par u)).toLoadRect (View.loadsAt_vmem h_S1x1x32x2048)) fun (_ : Vec F S1x1x32x2048 .bf16) => K
def storeStage (u : ℕ) (h : Fin 4) (v : Vec F S32x2048 .bf16) (K : PT F PUnit) : PT F PUnit :=
  .op (.store stageM (slotR h (par u)) (stageV v) Finset.univ
    (View.stores_vmem h_S1x1x32x2048 (stageW.storeExact_slice rfl _ (slot_packed h (par u))) (fun _ => rfl)) (.inl rfl)) fun _ => K
def send (d : Dev nD) (u : ℕ) (h : Fin 4) (K : PT F PUnit) : PT F PUnit :=
  .op (.enqueueDma (stageS h (par u)) (.remote (Dev.tc (rightD d : Dev nD)) (commS h (par u)) (.dma (sendSem h (par u))))
    (.dma (recvSem h (par u))) ((stageW.wordExact_slice rfl _ (slot_words h (par u))).reshape _ _)
    ((commW.wordExact_slice rfl _ (slot_words h (par u))).reshape _ _) ⟨⟨rfl, Or.inl rfl⟩, trivial⟩) fun _ => K

/-- Step `u` of a flow leaves: the credit, then the rows into staging, then the transfer. -/
def launch (d : Dev nD) (u : ℕ) (h : Fin 4) (K : PT F PUnit) : PT F PUnit :=
  waitCredit u h (loadOut d u h fun v => loadStage u h (storeStage u h v (send d u h K)))
/-- What step `u` brought is taken in: both ends of the transfer, then the rows into the result, then the credit. -/
def finish (d : Dev nD) (u : ℕ) (h : Fin 4) (K : PT F PUnit) : PT F PUnit :=
  waitSend u h (waitRecv u h (loadComm u h fun v => loadOld d u h v fun v' => storeOut d u h v' (signalCredit d u h K)))

/-- The flow of the `j`-th pair, the pairs numbered in program order, four a step. -/
abbrev flow (j : ℕ) : Fin 4 := ⟨j % 4, Nat.mod_lt _ (by decide)⟩
/-- The `j`-th pair: what the step before brought to its flow, but at the first step; then the flow's launch, but after
    the last. -/
def unit (d : Dev nD) (j : ℕ) (K : PT F PUnit) : PT F PUnit :=
  bif Nat.blt j 4 then launch d (j / 4) (flow j) K
  else finish d (j / 4 - 1) (flow j) (bif Nat.blt j 248 then launch d (j / 4) (flow j) K else K)
/-- `n` pairs from the `j`-th on. -/
def units (d : Dev nD) : ℕ → ℕ → PT F PUnit → PT F PUnit
  | 0, _, K => K
  | n + 1, j, K => unit d j (units d n (j + 1) K)

/-- The handshake, and the device's own product. -/
def start (K : Dev nD → PT F PUnit) : PT F PUnit :=
  .op .deviceId fun d =>
  .op (.semSignal ((leftD d : Dev nD), .tc) (sig.barrier 0 rfl) (1#32).toInt) fun _ =>
  .op (.semSignal ((rightD d : Dev nD), .tc) (sig.barrier 0 rfl) (1#32).toInt) fun _ =>
  .op (.semWait (sig.barrier 0 rfl) (2#32).toInt) fun _ =>
  (smemLoad sxM (Rect.unit (s := S1) ![0] S1.size inb_S1_S1_0) numel1_S1 rfl).bind fun sx =>
  (smemLoad swM (Rect.unit (s := S1) ![0] S1.size inb_S1_S1_0) numel1_S1 rfl).bind fun sw =>
  .op (.load xM (Rect.unit (s := S4096x128) ![0, 0] S4096x128.size inb_S4096x128_S4096x128_0_0).toLoadRect (View.loadsAt_vmem h_S4096x128)) fun (x : Vec F S4096x128 .fp8e4m3) =>
  .op (.load wM (Rect.unit (s := S128x2048) ![0, 0] S128x2048.size inb_S128x2048_S128x2048_0_0).toLoadRect (View.loadsAt_vmem h_S128x2048)) fun (w : Vec F S128x2048 .fp8e4m3) =>
  .op (.load outM (Rect.unit (s := S4096x2048) ![0, 0] S4096x2048.size inb_S4096x2048_S4096x2048_0_0).toLoadRect (View.loadsAt_vmem h_S4096x2048)) fun _ =>
  .op (.store outM (Rect.unit (s := S4096x2048) ![0, 0] S4096x2048.size inb_S4096x2048_S4096x2048_0_0) (dotV sx sw x w) Finset.univ
    (View.stores_vmem_bits_univ h_S4096x2048 rfl) (.inl rfl)) fun _ => K d

/-- The kernel's body is the loop. -/
theorem body_eq :
    cc0_body xM (Memref.isWhole_whole _) wM (Memref.isWhole_whole _) sxM (Memref.isWhole_whole _) swM (Memref.isWhole_whole _)
      outM (Memref.isWhole_whole _) commM commW stageM stageW cc0_scratch2 cc0_scratch3 cc0_scratch4
    = start (F := F) fun d => units d 252 0 (.ret ⟨⟩) := by chain_rfl

end Cert.KernelIdeal.AllReduce

end
-- ==== Proof.Protocol.lean ====
/- The protocol of the ring all-reduce: what each step moves, the cells and their rounds, what a device owes and in which
   order it may wait. -/
module

public import proofs.«01_k».proof.Proof.Program
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slot slotInv released_mono)
open Facts₀ Facts

variable {F : FTy → Type} [FloatOps F]

/-! ## The algebra: the pipeline's rounds, the ring's rounds (duties numbered), the inbound slots' releases -/

abbrev UB : Type := URounds (GSem nD τ sig) ℕ
/-- A slot of a device's inbound buffer: the device, the flow, the slot. -/
abbrev Key : Type := Dev nD × Fin 4 × Fin 2
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem leftD_eq (c : Dev nD) : leftD c = prv c := Fin.ext (k0_dev1_eq c)
theorem rightD_eq (c : Dev nD) : rightD c = nxt c := Fin.ext (k0_dev2_eq c)

def ring : Dev nD ≃ Dev nD := ⟨nxt, prv, prv_nxt, nxt_prv⟩

/-- The group of rows a device sends, and the one it receives into, at a step. -/
def sendIdx (c : Dev nD) (u : ℕ) : Fin 32 := ⟨(c.val + 64 - u) % 32, Nat.mod_lt _ (by decide)⟩
def recvIdx (c : Dev nD) (u : ℕ) : Fin 32 := ⟨(c.val + 63 - u) % 32, Nat.mod_lt _ (by decide)⟩

theorem sendIdx_succ (c : Dev nD) (u : ℕ) : sendIdx c (u + 1) = recvIdx c u := by
  unfold sendIdx recvIdx; exact Fin.ext (by show (c.val + 64 - (u + 1)) % 32 = _; rw [show c.val + 64 - (u + 1) = c.val + 63 - u by omega])
theorem recvIdx_ne (c : Dev nD) {k u : ℕ} (hk : k < u) (hu : u < 31) : recvIdx c u ≠ recvIdx c k := fun h => by
  have := congrArg Fin.val h
  simp only [recvIdx] at this
  have := c.isLt
  omega

/-! ## The rows a step moves -/

theorem blk_inb (i : Fin 32) (h : Fin 4) : ∀ a, (![128 * i.val + 32 * h.val, 0] : Fin 2 → Nat) a + S32x2048.size a ≤ S4096x2048.size a := by
  revert i h; decide
/-- Rows `128 i + 32 h` to `128 i + 32 h + 31`. -/
abbrev blkR (i : Fin 32) (h : Fin 4) : Rect S4096x2048 :=
  Rect.unit (s := S4096x2048) ![128 * i.val + 32 * h.val, 0] S32x2048.size (blk_inb i h)

theorem sendOff_eq (c : Dev nD) {u : ℕ} (hu : u < 62) (h : Fin 4) : sendOff c u h = ![128 * (sendIdx c u).val + 32 * h.val, 0] := by
  unfold sendOff
  have hc := c.isLt
  by_cases hv : u < 31
  · rw [show Nat.blt u 31 = true by simpa [Nat.blt_eq] using hv]
    refine (k0_off1_eq c ⟨u, hv⟩ 0 h).trans ?_
    congr 1
    simp only [sendIdx, Fin.val_zero]; omega
  · rw [show Nat.blt u 31 = false from Bool.eq_false_iff.2 fun e => hv (Nat.blt_eq ▸ e)]
    refine (k0_off3_eq c ⟨(u - 31) % 31, Nat.mod_lt _ (by decide)⟩ h).trans ?_
    congr 1
    simp only [sendIdx]; omega
theorem recvOff_eq (c : Dev nD) {u : ℕ} (hu : u < 62) (h : Fin 4) : recvOff c u h = ![128 * (recvIdx c u).val + 32 * h.val, 0] := by
  unfold recvOff
  have hc := c.isLt
  by_cases hv : u < 31
  · rw [show Nat.blt u 31 = true by simpa [Nat.blt_eq] using hv]
    refine (k0_off2_eq c ⟨u, hv⟩ h).trans ?_
    congr 1
    simp only [recvIdx]; omega
  · rw [show Nat.blt u 31 = false from Bool.eq_false_iff.2 fun e => hv (Nat.blt_eq ▸ e)]
    refine (k0_off1_eq c ⟨(u - 31) % 31, Nat.mod_lt _ (by decide)⟩ 1 h).trans ?_
    congr 1
    simp only [recvIdx, Fin.val_one]; omega

/-! ## The contents: partial sums on their way round -/

/-- The result buffer's contents, and a group's rows of one flow in them. -/
abbrev OutC (F : FTy → Type) : Type := (cc0_stg4_0 : Ref sig .tc).ty.Contents (Elt F)
def rows (f : OutC F) (i : Fin 32) (h : Fin 4) : Vec F S32x2048 .f32 := (outM).view.readAt (Elt F) (blkR i h).toLoadRect f

/-- Rows widened after they travelled. -/
def wide (v : Vec F S32x2048 .bf16) : Vec F S32x2048 .f32 := extf .f32 v Facts₀.bitsLt_bf16_f32

variable (o : Dev nD → OutC F)

/-- What a device has in the rows it sends at step `u`: its own rows at first; then what arrived at the step before, added
    to its own rows while the sums are being formed, alone once they are passed on. -/
def acc (h : Fin 4) : ℕ → Dev nD → Vec F S32x2048 .f32
  | 0, c => rows (o c) c h
  | u + 1, c => if u < 31 then plusV (rows (o c) (recvIdx c u) h) (wide (narrow (acc h u (prv c)))) else wide (narrow (acc h u (prv c)))
/-- What it sends at step `u`. -/
def sent (h : Fin 4) (u : ℕ) (c : Dev nD) : Vec F S32x2048 .bf16 := narrow (acc o h u c)
/-- Its rows of group `i` once it has received `k` times. -/
def blk (h : Fin 4) (c : Dev nD) (i : Fin 32) : ℕ → Vec F S32x2048 .f32
  | 0 => rows (o c) i h
  | k + 1 => if i = recvIdx c k then acc o h (k + 1) c else blk h c i k

theorem sendIdx_zero (c : Dev nD) : sendIdx c 0 = c := by revert c; decide
theorem blk_send (h : Fin 4) (c : Dev nD) : ∀ u, blk o h c (sendIdx c u) u = acc o h u c
  | 0 => by rw [sendIdx_zero]; rfl
  | u + 1 => by rw [sendIdx_succ]; exact if_pos rfl
theorem blk_fresh (h : Fin 4) (c : Dev nD) {u : ℕ} (hu : u < 31) : ∀ k, k ≤ u → blk o h c (recvIdx c u) k = rows (o c) (recvIdx c u) h
  | 0, _ => rfl
  | k + 1, hk => (if_neg (recvIdx_ne c (by omega) hu)).trans (blk_fresh h c hu k (by omega))

/-! ## The cells -/

/-- The runtime's barrier semaphore. -/
abbrev barS : Sem sig := (SemArray.scalar (sig.barrier 0 rfl) : Sems sig S_).sem

abbrev barCell (c : Dev nD) : GSem nD τ sig := ((c : Thread nD τ), .reg barS)
abbrev credCell (c : Dev nD) (h : Fin 4) : GSem nD τ sig := ((c : Thread nD τ), .reg (creditSem h))
abbrev sendCell (c : Dev nD) (h : Fin 4) (s : Fin 2) : GSem nD τ sig := ((c : Thread nD τ), .dma (sendSem h s))
abbrev recvCell (c : Dev nD) (h : Fin 4) (s : Fin 2) : GSem nD τ sig := ((c : Thread nD τ), .dma (recvSem h s))

/-- What a semaphore is for. -/
inductive Role where
  | bar
  | cred (h : Fin 4)
  | send (h : Fin 4) (s : Fin 2)
  | recv (h : Fin 4) (s : Fin 2)
  | other
deriving DecidableEq

def fl (n : ℕ) : Fin 4 := ⟨n / 2 % 4, Nat.mod_lt _ (by decide)⟩
def role : SemLoc sig → Role
  | .reg i => if i.val < 4 then .cred ⟨i.val % 4, Nat.mod_lt _ (by decide)⟩ else .bar
  | .dma q => if q.val < 5 then .other else if q.val < 13 then .send (fl (q.val - 5)) (par (q.val - 5)) else .recv (fl (q.val - 13)) (par (q.val - 13))

theorem role_bar : role (.reg barS) = .bar := by decide
theorem role_cred (h : Fin 4) : role (.reg (creditSem h)) = .cred h := by revert h; decide
theorem role_send (h : Fin 4) (s : Fin 2) : role (.dma (sendSem h s)) = .send h s := by revert h s; decide
theorem role_recv (h : Fin 4) (s : Fin 2) : role (.dma (recvSem h s)) = .recv h s := by revert h s; decide

/-- The bytes of one transfer, as its semaphores count them. -/
abbrev N : ℕ := (commS 0 0).view.dmaCredit
theorem N_pos : 0 < N := View.dmaCredit_pos _ (by decide)
theorem N_comm (h : Fin 4) (s : Fin 2) : (commS h s).view.dmaCredit = N := rfl
theorem N_stage (h : Fin 4) (s : Fin 2) : (stageS h s).view.dmaCredit = N := rfl

/-! ## What is handed over -/

/-- A slot of the staging buffer, and of the inbound buffer, at any contents. -/
def stageAny (c : Dev nD) (h : Fin 4) (s : Fin 2) : sProp 𝕄 := slot ((stageS h s).view.loc (c : Thread nD τ)) (stageS h s).view.set
def commAny (k : Key) : sProp 𝕄 := slot ((commS k.2.1 k.2.2).view.loc (k.1 : Thread nD τ)) (commS k.2.1 k.2.2).view.set

instance stageAny_storable (c : Dev nD) (h : Fin 4) (s : Fin 2) : BI.Storable (upEmb : UEmb _ 𝕄) (stageAny (F := F) c h s) := by unfold stageAny; infer_instance
instance commAny_storable (k : Key) : BI.Storable (upEmb : UEmb _ 𝕄) (commAny (F := F) k) := by unfold commAny; infer_instance

/-- Device `c` has given up slot `s` of flow `h` for its `n`-th write (counted from 0), and waits for that write. -/
def given (c : Dev nD) (h : Fin 4) (s : Fin 2) (n : ℕ) : sProp 𝕄 := iprop(released ES (c, h, s) (n + 1) ∗ reached ER (recvCell c h s) n)
/-- The same of the slot of step `u`. -/
def rel (c : Dev nD) (h : Fin 4) (u : ℕ) : sProp 𝕄 := given c h (par u) (u / 2)

instance given_persistent (c : Dev nD) (h : Fin 4) (s : Fin 2) (n : ℕ) : BI.Persistent (given (F := F) c h s n) := by unfold given; infer_instance
instance given_storable (c : Dev nD) (h : Fin 4) (s : Fin 2) (n : ℕ) : BI.Storable (upEmb : UEmb _ 𝕄) (given (F := F) c h s n) := by unfold given; infer_instance
instance rel_persistent (c : Dev nD) (h : Fin 4) (u : ℕ) : BI.Persistent (rel (F := F) c h u) := by unfold rel; infer_instance
instance rel_storable (c : Dev nD) (h : Fin 4) (u : ℕ) : BI.Storable (upEmb : UEmb _ 𝕄) (rel (F := F) c h u) := by unfold rel; infer_instance

theorem rel_mono (c : Dev nD) (h : Fin 4) {u v : ℕ} (huv : u ≤ v) (hp : u % 2 = v % 2) : rel (F := F) c h v ⊢ rel c h u := by
  unfold rel given
  rw [show par u = par v from Fin.ext hp]
  exact BI.sep_mono (released_mono _ (by omega)) (Rounds.reached_mono _ (by omega))

/-- What the credit for step `u` hands over, and what a signal of the barrier does. -/
def credPay (c : Dev nD) (h : Fin 4) (u : ℕ) : sProp 𝕄 := iprop(rel c h (u + 1) ∗ rel c h (u + 2))
def firstRel (c : Dev nD) (h : Fin 4) : sProp 𝕄 := iprop(rel c h 0 ∗ rel c h 1)
def barPay (c : Dev nD) : sProp 𝕄 := bigSep Finset.univ fun h : Fin 4 => firstRel c h

instance credPay_persistent (c : Dev nD) (h : Fin 4) (u : ℕ) : BI.Persistent (credPay (F := F) c h u) := by unfold credPay; infer_instance
instance firstRel_persistent (c : Dev nD) (h : Fin 4) : BI.Persistent (firstRel (F := F) c h) := by unfold firstRel; infer_instance
instance barPay_persistent (c : Dev nD) : BI.Persistent (barPay (F := F) c) := by unfold barPay; infer_instance
instance credPay_storable (c : Dev nD) (h : Fin 4) (u : ℕ) : BI.Storable (upEmb : UEmb _ 𝕄) (credPay (F := F) c h u) := by unfold credPay; infer_instance
instance barPay_storable (c : Dev nD) : BI.Storable (upEmb : UEmb _ 𝕄) (barPay (F := F) c) := by unfold barPay firstRel; infer_instance

/-- What a transfer hands its receiver: the slot holding the rows its left neighbour sent. -/
def recvPay (c : Dev nD) (h : Fin 4) (s : Fin 2) (r : ℕ) : sProp 𝕄 := owns (c : Thread nD τ) (commS h s) fullShare (sent o h (2 * r + s.val) (prv c))
instance recvPay_storable (c : Dev nD) (h : Fin 4) (s : Fin 2) (r : ℕ) : BI.Storable (upEmb : UEmb _ 𝕄) (recvPay o c h s r) := by unfold recvPay; infer_instance

/-! ## The schedule -/

/-- The barrier: one round of two units, one from each neighbour. A credit: one round of 60 units, one a step. A send or
    receive semaphore: 31 rounds of one transfer each. -/
def sched : Rounds.Schedule (GSem nD τ sig) ℕ 𝕄 where
  duties g r := if g.1.2 = .tc then
      (match role g.2 with
        | .bar => if r = 0 then {0, 1} else ∅
        | .cred _ => if r = 0 then Finset.range 60 else ∅
        | .send _ _ => if r < 31 then {0} else ∅
        | .recv _ _ => if r < 31 then {0} else ∅
        | .other => ∅) else ∅
  unitless _ := False
  amount g _ _ := match role g.2 with
    | .bar => 1
    | .cred _ => 1
    | _ => N
  payload g r d := match role g.2 with
    | .bar => if d = 0 then barPay (nxt g.1.1) else iprop(emp)
    | .cred h => credPay (nxt g.1.1) h d
    | .send h s => stageAny g.1.1 h s
    | .recv h s => recvPay o g.1.1 h s r
    | .other => iprop(emp)
  amount_pos g _ _ _ := by
    cases role g.2
    · exact Nat.one_pos
    · exact Nat.one_pos
    all_goals exact N_pos

instance sched_storable (g : GSem nD τ sig) (r : ℕ) (d : ℕ) : BI.Storable (upEmb : UEmb _ 𝕄) ((sched o).payload g r d) := by
  unfold sched
  dsimp only
  cases role g.2 <;> dsimp only
  · split <;> infer_instance
  all_goals infer_instance

section Sched
variable (c : Dev nD) (h : Fin 4) (s : Fin 2)

theorem duties_bar : (sched o).duties (barCell c) 0 = {0, 1} := by dsimp only [sched]; rw [role_bar]; rfl
theorem duties_cred : (sched o).duties (credCell c h) 0 = Finset.range 60 := by dsimp only [sched]; rw [role_cred]; rfl
theorem duties_send {r : ℕ} (hr : r < 31) : (sched o).duties (sendCell c h s) r = {0} := by
  dsimp only [sched]; rw [role_send]; exact (if_pos rfl).trans (if_pos hr)
theorem duties_recv {r : ℕ} (hr : r < 31) : (sched o).duties (recvCell c h s) r = {0} := by
  dsimp only [sched]; rw [role_recv]; exact (if_pos rfl).trans (if_pos hr)
theorem later_bar : ∀ r, 1 ≤ r → (sched o).duties (barCell c) r = ∅ := fun r hr => by
  dsimp only [sched]; rw [role_bar]; exact (if_pos rfl).trans (if_neg (by omega))
theorem later_cred : ∀ r, 1 ≤ r → (sched o).duties (credCell c h) r = ∅ := fun r hr => by
  dsimp only [sched]; rw [role_cred]; exact (if_pos rfl).trans (if_neg (by omega))
theorem later_send : ∀ r, 31 ≤ r → (sched o).duties (sendCell c h s) r = ∅ := fun r hr => by
  dsimp only [sched]; rw [role_send]; exact (if_pos rfl).trans (if_neg (by omega))
theorem later_recv : ∀ r, 31 ≤ r → (sched o).duties (recvCell c h s) r = ∅ := fun r hr => by
  dsimp only [sched]; rw [role_recv]; exact (if_pos rfl).trans (if_neg (by omega))
theorem amount_bar (r d : ℕ) : (sched o).amount (barCell c) r d = 1 := by dsimp only [sched]; rw [role_bar]
theorem amount_cred (r d : ℕ) : (sched o).amount (credCell c h) r d = 1 := by dsimp only [sched]; rw [role_cred]
theorem amount_send (r d : ℕ) : (sched o).amount (sendCell c h s) r d = N := by dsimp only [sched]; rw [role_send]
theorem amount_recv (r d : ℕ) : (sched o).amount (recvCell c h s) r d = N := by dsimp only [sched]; rw [role_recv]
theorem expect_bar : (sched o).expect (barCell c) 0 = 2 := by
  unfold Schedule.expect Schedule.amountOf; rw [duties_bar, Finset.sum_congr rfl fun d _ => amount_bar o c 0 d]; rfl
theorem expect_cred : (sched o).expect (credCell c h) 0 = 60 := by
  unfold Schedule.expect Schedule.amountOf
  rw [duties_cred, Finset.sum_congr rfl fun d _ => amount_cred o c h 0 d, Finset.sum_const, Finset.card_range]; rfl
theorem expect_send {r : ℕ} (hr : r < 31) : (sched o).expect (sendCell c h s) r = N := by
  unfold Schedule.expect Schedule.amountOf; rw [duties_send o c h s hr, Finset.sum_singleton, amount_send]
theorem expect_recv {r : ℕ} (hr : r < 31) : (sched o).expect (recvCell c h s) r = N := by
  unfold Schedule.expect Schedule.amountOf; rw [duties_recv o c h s hr, Finset.sum_singleton, amount_recv]
theorem payload_bar (r d : ℕ) : (sched o).payload (barCell c) r d = if d = 0 then barPay (nxt c) else iprop(emp) := by dsimp only [sched]; rw [role_bar]
theorem payload_cred (r d : ℕ) : (sched o).payload (credCell c h) r d = credPay (nxt c) h d := by dsimp only [sched]; rw [role_cred]
theorem payload_send (r d : ℕ) : (sched o).payload (sendCell c h s) r d = stageAny c h s := by dsimp only [sched]; rw [role_send]
theorem payload_recv (r d : ℕ) : (sched o).payload (recvCell c h s) r d = recvPay o c h s r := by dsimp only [sched]; rw [role_recv]

/-- The payload of a whole round: the one duty's. -/
theorem rest_send {r : ℕ} (hr : r < 31) : (bigSep ((sched o).duties (sendCell c h s) r \ ∅) fun d => (sched o).payload (sendCell c h s) r d) = stageAny c h s := by
  rw [duties_send o c h s hr, Finset.sdiff_empty, bigSep_singleton, payload_send]
theorem rest_recv {r : ℕ} (hr : r < 31) : (bigSep ((sched o).duties (recvCell c h s) r \ ∅) fun d => (sched o).payload (recvCell c h s) r d) = recvPay o c h s r := by
  rw [duties_recv o c h s hr, Finset.sdiff_empty, bigSep_singleton, payload_recv]
theorem rest_bar : (bigSep ((sched o).duties (barCell c) 0 \ ∅) fun d => (sched o).payload (barCell c) 0 d) = iprop(barPay (nxt c) ∗ emp) := by
  rw [duties_bar, Finset.sdiff_empty, bigSep_insert (by decide), bigSep_singleton, payload_bar, payload_bar, if_pos rfl, if_neg (by decide)]; rfl

end Sched

/-! ## Levels and what is owed -/

/-- Staging and send cells lowest, then the barrier; above it each step's receive, and its credit just above that. -/
def lv (g : GSem nD τ sig) (i : ℕ) : ℕ := match role g.2 with
  | .bar => 1
  | .cred _ => 2 * i + 3
  | .send _ _ => 0
  | .recv _ _ => 2 * i + 2
  | .other => 0
def L (g : GSem nD τ sig) : Finset ℕ := if g.1.2 = .tc then Finset.range 64 else ∅
theorem L_of_ne (g : GSem nD τ sig) (h : g.1.2 ≠ .tc) : L g = ∅ := if_neg h
theorem L_tc (c : Dev nD) (sm : SemLoc sig) : L ((c : Thread nD τ), sm) = Finset.range 64 := if_pos rfl

abbrev Tally' : Type := CellTallies nD τ sig ℕ

/-- The transfers a device has still to make on a flow from step `l` on, and the credits it has still to give. -/
def owR (c : Dev nD) (h : Fin 4) (l : ℕ) : Tally' := ∑ v ∈ Finset.Ico l 62, tallyAt (recvCell (nxt c) h (par v)) v N
def owC (c : Dev nD) (h : Fin 4) (k : ℕ) : Tally' := ∑ v ∈ Finset.Ico k 60, tallyAt (credCell (prv c) h) v 1

theorem Ico_bot {a b : ℕ} (h : a < b) : Finset.Ico a b = insert a (Finset.Ico (a + 1) b) := by
  ext x; simp only [Finset.mem_insert, Finset.mem_Ico]; omega
theorem not_mem_Ico (a b : ℕ) : a ∉ Finset.Ico (a + 1) b := fun h => absurd (Finset.mem_Ico.1 h).1 (Nat.not_succ_le_self a)
theorem owR_succ (c : Dev nD) (h : Fin 4) {l : ℕ} (hl : l < 62) : owR c h l = owR c h (l + 1) + tallyAt (recvCell (nxt c) h (par l)) l N := by
  unfold owR; rw [Ico_bot hl, Finset.sum_insert (not_mem_Ico _ _), add_comm]
theorem owC_succ (c : Dev nD) (h : Fin 4) {k : ℕ} (hk : k < 60) : owC c h k = owC c h (k + 1) + tallyAt (credCell (prv c) h) k 1 := by
  unfold owC; rw [Ico_bot hk, Finset.sum_insert (not_mem_Ico _ _), add_comm]
theorem owC_end (c : Dev nD) (h : Fin 4) {k : ℕ} (hk : 60 ≤ k) : owC c h k = 0 := by unfold owC; rw [Finset.Ico_eq_empty (by omega), Finset.sum_empty]
theorem owR_end (c : Dev nD) (h : Fin 4) {k : ℕ} (hk : 62 ≤ k) : owR c h k = 0 := by unfold owR; rw [Finset.Ico_eq_empty (by omega), Finset.sum_empty]

/-- Everything owed has an index the levels know and lies above level `n`. -/
def Above (n : ℕ) (O : Tally') : Prop := ∀ g i, 0 < O g i → i ∈ L g ∧ n < lv g i

theorem Above.zero (n : ℕ) : Above n 0 := fun g i h => absurd h (Nat.lt_irrefl 0)
theorem Above.add {n : ℕ} {O O' : Tally'} (h : Above n O) (h' : Above n O') : Above n (O + O') := fun g i hp => by
  rw [Pi.add_apply, Finsupp.add_apply] at hp
  rcases Nat.add_pos_iff_pos_or_pos.mp hp with hp | hp
  · exact h g i hp
  · exact h' g i hp
theorem Above.sum {α : Type} (S : Finset α) {n : ℕ} {O : α → Tally'} (h : ∀ a ∈ S, Above n (O a)) : Above n (∑ a ∈ S, O a) := by
  classical
  induction S using Finset.induction_on with
  | empty => exact Above.zero n
  | insert a S ha ih =>
    rw [Finset.sum_insert ha]
    exact (h a (Finset.mem_insert_self _ _)).add (ih fun b hb => h b (Finset.mem_insert_of_mem hb))
theorem Above.at {n : ℕ} {c : Dev nD} {sm : SemLoc sig} {v k : ℕ} (hv : v < 64) (hl : n < lv ((c : Thread nD τ), sm) v) : Above n (tallyAt ((c : Thread nD τ), sm) v k) := fun g i hp => by
  obtain ⟨rfl, rfl⟩ := Pipeline.tallyAt_pos hp
  exact ⟨by rw [L_tc]; exact Finset.mem_range.2 hv, hl⟩
theorem Above.owR {n : ℕ} (c : Dev nD) (h : Fin 4) {l : ℕ} (hn : n < 2 * l + 2) : Above n (owR c h l) :=
  Above.sum _ fun v hv => Above.at (by have := Finset.mem_Ico.1 hv; omega) (by
    have := Finset.mem_Ico.1 hv
    unfold lv; rw [show role (SemLoc.dma (recvSem h (par v))) = _ from role_recv h (par v)]; dsimp only; omega)
theorem Above.owC {n : ℕ} (c : Dev nD) (h : Fin 4) {k : ℕ} (hn : n < 2 * k + 3) : Above n (owC c h k) :=
  Above.sum _ fun v hv => Above.at (by have := Finset.mem_Ico.1 hv; omega) (by
    have := Finset.mem_Ico.1 hv
    unfold lv; rw [show role (SemLoc.reg (creditSem h)) = _ from role_cred h]; dsimp only; omega)

/-- A wait at a cell no higher than level `n` while everything owed lies above it. -/
theorem mayWait (c : Dev nD) (sm : SemLoc sig) {i n : ℕ} (hi : i < 64) (hl : lv ((c : Thread nD τ), sm) i ≤ n) {O : Tally'} (hO : Above n O) :
    (levAts L lv : sProp 𝕄) ⊢ MayWait (c : Thread nD τ) sm i O :=
  MayOwe.of_cut (L := L) (lev := lv) n
    (fun p hp => by rw [Finset.mem_singleton.mp hp, L_tc]; exact Finset.mem_range.2 hi)
    (fun g j h => (hO g j h).1)
    (fun p hp => by rw [Finset.mem_singleton.mp hp]; exact hl)
    (fun g j h => (hO g j h).2)

end Cert.KernelIdeal.AllReduce

end
-- ==== Proof.Flow.lean ====
/- One flow of the ring all-reduce on one device: what it holds between steps, and that starting a step's transfer and
   finishing it lead from one such state to the next. -/
module

public import proofs.«01_k».proof.Proof.Protocol
public import Idealize.ShloMosaic.Lib.ViewIndex
public import Idealize.ShloMosaic.Lib.Pipeline.Value

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slot slotInv released_mono slot_take slot_release slot_slot_false)

variable {F : FTy → Type} [FloatOps F]

local notation "𝕄" => MT nD τ sig ℕ (Elt F) ℕ UU ℕ

variable (o : Dev nD → OutC F)

/-! ## The cells together, and the invariants every device holds -/

abbrev OK : Type := Fin 4 ⊕ (Fin 4 × Fin 2) ⊕ (Fin 4 × Fin 2)
abbrev CK : Type := Option OK
/-- The kernel's own semaphores, and with the barrier all those of the protocol. -/
abbrev osem : OK → SemLoc sig
  | .inl h => .reg (creditSem h)
  | .inr (.inl k) => .dma (sendSem k.1 k.2)
  | .inr (.inr k) => .dma (recvSem k.1 k.2)
abbrev csem : CK → SemLoc sig
  | none => .reg barS
  | some k => osem k
abbrev kcell (ck : Dev nD × CK) : GSem nD τ sig := ((ck.1 : Thread nD τ), csem ck.2)

theorem pick {I : Type} [DecidableEq I] {s : Finset I} {i : I} (hi : i ∈ s) {Φ : I → sProp 𝕄} : bigSep s Φ ⊢ Φ i := bigSep_elim hi

theorem gather {S S' : Finset ℕ} (hS : S ⊆ S') {Φ : ℕ → sProp 𝕄} : iprop(bigSep S Φ ∗ bigSep (S' \ S) Φ) ⊢ bigSep S' Φ :=
  Entails.of_eq (bigSep_sdiff_split hS).symm

section Records
variable (K : Dev nD × CK → ℕ) (KS : Key → ℕ)

def records : sProp 𝕄 :=
  iprop((bigSep Finset.univ fun ck => cellInv ER (sched o) (K ck) (kcell ck))
    ∗ (bigSep Finset.univ fun ck : Dev nD × CK => reached ER (kcell ck) 0)
    ∗ (bigSep Finset.univ fun k => slotInv ES (KS k) k (commAny (F := F) k)))

instance records_persistent : BI.Persistent (records o K KS) := by unfold records; infer_instance

theorem inv_at (ck : Dev nD × CK) : records o K KS ⊢ cellInv ER (sched o) (K ck) (kcell ck) := by
  unfold records
  iintro ⟨H, -, -⟩; iapply (pick (Φ := fun ck => cellInv ER (sched o) (K ck) (kcell ck)) (Finset.mem_univ ck)); iexact H
theorem reached_at (ck : Dev nD × CK) : records o K KS ⊢ reached ER (kcell ck) 0 := by
  unfold records
  iintro ⟨-, H, -⟩; iapply (pick (Φ := fun ck : Dev nD × CK => reached ER (kcell ck) 0) (Finset.mem_univ ck)); iexact H
theorem slot_at (k : Key) : records o K KS ⊢ slotInv ES (KS k) k (commAny (F := F) k) := by
  unfold records
  iintro ⟨-, -, H⟩; iapply (pick (Φ := fun k => slotInv ES (KS k) k (commAny (F := F) k)) (Finset.mem_univ k)); iexact H

end Records

/-! ## What a flow holds -/

section State
variable (c : Dev nD) (h : Fin 4)

/-- The tokens for the transfer of step `v`. -/
def launchTok (v : ℕ) : sProp 𝕄 :=
  iprop(dutyTok ER (sendCell c h (par v)) (v / 2) 0 ∗ dutyTok ER (recvCell (nxt c) h (par v)) (v / 2) 0 ∗ writeTok ES (nxt c, h, par v) (v / 2 + 1))
/-- The right to wait for the transfer from the left of step `v`, and for the credit of step `v`; the token for the
    credit of step `v` to the left. -/
def recvCred (v : ℕ) : sProp 𝕄 := cred (tallyAt (recvCell c h (par v)) v N)
def creditCred (v : ℕ) : sProp 𝕄 := cred (tallyAt (credCell c h) v 1)
def creditTok (v : ℕ) : sProp 𝕄 := dutyTok ER (credCell (prv c) h) 0 v

/-- A slot's semaphores after `n` transfers each, the inbound slot given up for the next. -/
def slotAt (s : Fin 2) (n : ℕ) : sProp 𝕄 :=
  iprop(atPos ER (sendCell c h s) n ∅ 0 ∗ reached ER (sendCell c h s) n ∗ atPos ER (recvCell c h s) n ∅ 0
    ∗ readerAt ES (c, h, s) (n + 1) ∗ given c h s n)

/-- The credit semaphore after `m` units taken: what the units arrived so far hand over is kept. -/
def creditAt (m : ℕ) : sProp 𝕄 :=
  iprop(∃ S : Finset ℕ, ⌜S ⊆ Finset.range 60 ∧ m + (Finset.range 60 \ S).card ≤ 60⌝ ∗ atPos ER (credCell c h) 0 S m
    ∗ bigSep S fun d => credPay (nxt c) h d)

/-- A flow that has started `l` transfers and finished `k`. -/
def common (l k : ℕ) : sProp 𝕄 :=
  iprop((bigSep (Finset.Ico l 62) fun v => launchTok c h v) ∗ (bigSep (Finset.Ico k 62) fun v => recvCred c h v)
    ∗ (bigSep (Finset.Ico (l - 2) 60) fun v => creditCred c h v) ∗ (bigSep (Finset.Ico k 60) fun v => creditTok c h v)
    ∗ slotAt c h (par k) (k / 2) ∗ slotAt c h (par (k + 1)) ((k + 1) / 2) ∗ creditAt c h (l - 2) ∗ firstRel (nxt c) h)

/-- Between two steps; and with the transfer of step `k` under way. -/
def idle (k : ℕ) : sProp 𝕄 := iprop(common c h k k ∗ stageAny c h (par k) ∗ stageAny c h (par (k + 1)))
def busy (k : ℕ) : sProp 𝕄 := iprop(common c h (k + 1) k ∗ cred (tallyAt (sendCell c h (par k)) k N) ∗ stageAny c h (par (k + 1)))

end State

def owesE (c : Dev nD) (O : Tally') : sProp 𝕄 := iprop(∃ W, owes (c : Thread nD τ) O W)
def outPts (c : Dev nD) (f : OutC F) : sProp 𝕄 := (((c : Thread nD τ).loc cc0_stg4_0) ↦{fullShare} f)

abbrev Post (F : FTy → Type) : Type := PUnit.{1} → sProp (MT nD τ sig ℕ (Elt F) ℕ UU ℕ)
abbrev 𝒱₀ : Variants := Variants.none
abbrev wpc (c : Dev nD) (p : PT F PUnit) (Q : Post F) : sProp 𝕄 := wp frame (wpE (defs₀ (F := F)) 𝒱₀ (c : Thread nD τ) none) Set.univ p Q

theorem par_add_two (u : ℕ) : par (u + 2) = par u := Fin.ext (Nat.add_mod_right u 2)
theorem blt_true {a b : ℕ} (h : a < b) : Nat.blt a b = true := by simpa [Nat.blt_eq] using h
theorem blt_false {a b : ℕ} (h : ¬ a < b) : Nat.blt a b = false := Bool.eq_false_iff.2 fun e => h (Nat.blt_eq ▸ e)

theorem bigSep_Ico {Φ : ℕ → sProp 𝕄} {a b : ℕ} (h : a < b) : bigSep (Finset.Ico a b) Φ = iprop(Φ a ∗ bigSep (Finset.Ico (a + 1) b) Φ) := by
  rw [Ico_bot h, bigSep_insert (not_mem_Ico _ _)]; rfl

section Steps
variable (K : Dev nD × CK → ℕ) (KS : Key → ℕ) (c : Dev nD) (h : Fin 4)

/-! ## Starting a transfer -/

/-- From the payloads kept after `m + 1` credits: the slot of step `m + 2` has been given up. -/
theorem rel_of_credits {m : ℕ} {S : Finset ℕ} (hS : S ⊆ Finset.range 60) (hm : m + 1 + (Finset.range 60 \ S).card ≤ 60) :
    (bigSep S fun d => credPay (F := F) (nxt c) h d) ⊢ rel (nxt c) h (m + 2) := by
  have hcard : m < S.card := by
    have := Finset.card_sdiff_add_card_eq_card hS
    rw [Finset.card_range] at this; omega
  obtain ⟨d, hd, hmd⟩ : ∃ d ∈ S, m ≤ d := by
    by_contra hn
    have hsub : S ⊆ Finset.range m := fun d hd => Finset.mem_range.2 (by by_contra hlt; exact hn ⟨d, hd, by omega⟩)
    have := Finset.card_le_card hsub
    rw [Finset.card_range] at this; omega
  refine (pick hd).trans ?_
  unfold credPay
  by_cases hp : (d + 2) % 2 = (m + 2) % 2
  · iintro ⟨-, H⟩; iapply (rel_mono (nxt c) h (u := m + 2) (v := d + 2) (by omega) (by omega)); iexact H
  · iintro ⟨H, -⟩; iapply (rel_mono (nxt c) h (u := m + 2) (v := d + 1) (by omega) (by omega)); iexact H

theorem wp_waitCredit {Q : Post F} {u : ℕ} (hu : u < 62) {k : PT F PUnit} {O : Tally'} (hO : Above (2 * u - 1) O) :
    iprop(records o K KS ∗ levAts L lv ∗ creditAt c h (u - 2) ∗ (bigSep (Finset.Ico (u - 2) 60) fun v => creditCred c h v) ∗ firstRel (nxt c) h ∗ owesE c O
        ∗ ((creditAt c h (u + 1 - 2) ∗ (bigSep (Finset.Ico (u + 1 - 2) 60) fun v => creditCred c h v) ∗ rel (nxt c) h u ∗ owesE c O) -∗ wpc c k Q))
      ⊢ wpc c (waitCredit u h k) Q := by
  unfold waitCredit
  by_cases hv : u < 2
  · rw [blt_true hv, cond_true, show u - 2 = u + 1 - 2 by omega]
    iintro ⟨#HR, #Hl, Hc, Hcr, #Hf, HO, Hk⟩
    iapply Hk
    isplitl [Hc]; · iexact Hc
    isplitl [Hcr]; · iexact Hcr
    isplitr [HO]
    · unfold firstRel
      icases Hf with ⟨H0, H1⟩
      rcases (by omega : u = 0 ∨ u = 1) with rfl | rfl
      · iexact H0
      · iexact H1
    · iexact HO
  · obtain ⟨m, rfl⟩ : ∃ m, u = m + 2 := ⟨u - 2, by omega⟩
    rw [blt_false hv, cond_false, show m + 2 - 2 = m by omega, show m + 2 + 1 - 2 = m + 1 by omega, bigSep_Ico (by omega : m < 60)]
    unfold creditAt owesE
    iintro ⟨#HR, #Hl, ⟨%S, %hS, Hat, #Hpay⟩, ⟨Hc, Hcr⟩, #Hf, ⟨%W, HO⟩, Hk⟩
    unfold creditCred
    iapply (Rounds.wp_wait 𝒱₀ ER (sched o) (c : Thread nD τ) none (κ := K (c, some (.inl h)))
      (wpE_semWait_eq 𝒱₀ (c : Thread nD τ) none Set.univ) (Set.mem_univ _) (cr := Finsupp.single m 1) (O := O) (W := W) {(SemLoc.reg (creditSem h), m)}
      (R := 0) (m := m) (T := S) (by rw [Util.total_single]; decide) (image_single_subset _ m 1)) $$ [Hc HO Hat]
    · isplitr; · iapply (inv_at o K KS (c, some (.inl h))); iexact HR
      isplitl [Hc]; · iexact Hc
      isplitl [HO]; · iexact HO
      isplitr
      · iapply (mayWait c (SemLoc.reg (creditSem h)) (i := m) (n := 2 * (m + 2) - 1) (by omega)
          (by unfold lv; rw [show role (SemLoc.reg (creditSem h)) = _ from role_cred h]; dsimp only; omega) hO); iexact Hl
      iexact Hat
    iintro %S' ⟨%hS', HO, Hat, Hnew⟩
    rw [duties_cred, expect_cred, show (1#32 : BitVec 32).toNat = 1 from rfl] at hS'
    ihave Hnew := (Entails.of_eq (bigSep_congr fun d _ => payload_cred (F := F) o c h 0 d)) $$ Hnew
    icases Hnew with #Hnew
    ihave Hall := (gather (Φ := fun d => credPay (F := F) (nxt c) h d) hS'.1) $$ []
    · isplitr
      · iexact Hpay
      · iexact Hnew
    icases Hall with #Hall
    iapply Hk
    isplitl [Hat]
    · iexists S'
      isplitr; · ipureintro; exact hS'.2
      isplitl [Hat]; · iexact Hat
      iexact Hall
    isplitl [Hcr]; · iexact Hcr
    isplitr [HO]
    · iapply (rel_of_credits c h hS'.2.1 hS'.2.2); iexact Hall
    · iexists _; iexact HO

/-! ## The buffers -/

theorem outPts_intro (f : OutC F) : (((c : Thread nD τ).loc cc0_stg4_0) ↦{fullShare} f : sProp 𝕄) = outPts c f := rfl

theorem wp_loadAt {Q : Post F} {off : Fin 2 → ℕ} (inb : ∀ a, off a + S32x2048.size a ≤ S4096x2048.size a) {i : Fin 32} (e : off = ![128 * i.val + 32 * h.val, 0])
    {f : OutC F} {k : Vec F S32x2048 .f32 → PT F PUnit} :
    iprop(outPts c f ∗ (outPts c f -∗ wpc c (k (rows f i h)) Q))
      ⊢ wpc c (.op (.load outM (Rect.unit (s := S4096x2048) off S32x2048.size inb).toLoadRect (View.loadsAt_vmem h_S32x2048)) k) Q := by
  subst e
  unfold outPts
  iintro ⟨H, Hk⟩
  iapply (wp_load 𝒱₀ (c : Thread nD τ) none Set.univ (m := outM) (Finset.subset_univ _)) $$ H
  iintro H
  iapply Hk
  iexact H

/-- The result with a group's rows of one flow replaced. -/
def put (f : OutC F) (i : Fin 32) (h : Fin 4) (v : Vec F S32x2048 .f32) : OutC F := (outM.access (blkR i h)).write (Elt F) f v Finset.univ

theorem wp_storeAt {Q : Post F} {off : Fin 2 → ℕ} (inb : ∀ a, off a + S32x2048.size a ≤ S4096x2048.size a) {i : Fin 32} (e : off = ![128 * i.val + 32 * h.val, 0])
    {f : OutC F} {v : Vec F S32x2048 .f32} {k : PT F PUnit} :
    iprop(outPts c f ∗ (outPts c (put f i h v) -∗ wpc c k Q))
      ⊢ wpc c (.op (.store outM (Rect.unit (s := S4096x2048) off S32x2048.size inb) v Finset.univ (View.stores_vmem_bits_univ h_S32x2048 rfl) (.inl rfl)) fun _ => k) Q := by
  subst e
  unfold outPts put
  iintro ⟨H, Hk⟩
  iapply (wp_store 𝒱₀ (c : Thread nD τ) none Set.univ (m := outM) (r := blkR i h) (Finset.subset_univ _)) $$ H
  iintro H
  iapply Hk
  iexact H

theorem rows_eq (f : OutC F) (i : Fin 32) (h : Fin 4) : rows f i h = (outM.access (blkR i h)).read (Elt F) f := View.readAt_rect _ _
theorem rows_put (f : OutC F) (i : Fin 32) (h : Fin 4) (v : Vec F S32x2048 .f32) : rows (put f i h v) i h = v := by
  rw [rows_eq]; exact View.read_write_univ (v := outM.access (blkR i h)) f v
theorem rows_put_ne (f : OutC F) {i i' : Fin 32} {h h' : Fin 4} (hne : ¬ (i' = i ∧ h' = h)) (v : Vec F S32x2048 .f32) : rows (put f i h v) i' h' = rows f i' h' := by
  rw [rows_eq, rows_eq]
  refine View.read_slice_write_slice_of_disjoint (v := outM.view) (blkR i' h') (blkR i h) f v Finset.univ ?_
  rw [View.setOn_univ]
  rw [View.set_slice, View.set_slice]
  refine (Finset.disjoint_map _).mpr (Rect.unit_disjoint 0 ?_)
  have h1 := h.isLt
  have h2 := h'.isLt
  have : i'.val ≠ i.val ∨ h'.val ≠ h.val := by
    by_contra hc; push Not at hc; exact hne ⟨Fin.ext hc.1, Fin.ext hc.2⟩
  show 128 * i'.val + 32 * h'.val + 32 ≤ 128 * i.val + 32 * h.val ∨ 128 * i.val + 32 * h.val + 32 ≤ 128 * i'.val + 32 * h'.val
  omega

theorem stage_set (h : Fin 4) (s : Fin 2) : (stageS h s).view.set = (stageM.access (slotR h s)).set := View.set_reshape _ _
theorem comm_set (h : Fin 4) (s : Fin 2) : (commS h s).view.set = (commM.access (slotR h s)).set := View.set_reshape _ _

theorem wp_loadComm {Q : Post F} {u : ℕ} {v : Vec F S32x2048 .bf16} {k : Vec F S32x2048 .f32 → PT F PUnit} :
    iprop(owns (c : Thread nD τ) (commS h (par u)) fullShare v ∗ (commAny (F := F) (c, h, par u) -∗ wpc c (k (wide v)) Q)) ⊢ wpc c (loadComm u h k) Q := by
  unfold loadComm owns commAny slot
  iintro ⟨⟨%f, %hf, H⟩, Hk⟩
  iapply (wp_load_rect 𝒱₀ (c : Thread nD τ) none Set.univ (m := commM) (r := slotR h (par u)) (comm_set h (par u)).ge) $$ H
  iintro H
  rw [show widen ((commM.access (slotR h (par u))).read (Elt F) f) = wide v from congrArg wide hf]
  iapply Hk
  iexists f; iexact H

/-- The rows written to a slot of the staging buffer: the slot then reads as they are. -/
theorem wp_stage {Q : Post F} {u : ℕ} {v : Vec F S32x2048 .bf16} {k : PT F PUnit} :
    iprop(stageAny (F := F) c h (par u) ∗ (owns (c : Thread nD τ) (stageS h (par u)) fullShare v -∗ wpc c k Q)) ⊢ wpc c (loadStage u h (storeStage u h v k)) Q := by
  unfold loadStage storeStage stageAny slot owns
  iintro ⟨⟨%f, H⟩, Hk⟩
  iapply (wp_load_rect 𝒱₀ (c : Thread nD τ) none Set.univ (m := stageM) (r := slotR h (par u)) (stage_set h (par u)).ge) $$ H
  iintro H
  iapply (wp_store 𝒱₀ (c : Thread nD τ) none Set.univ (m := stageM) (r := slotR h (par u)) (stage_set h (par u)).ge) $$ H
  iintro H
  iapply Hk
  iexists _
  isplitr
  swap; · iexact H
  ipureintro
  show shapeCast S32x2048 ((stageM.view.slice (slotR h (par u))).read (Elt F) ((stageM.view.slice (slotR h (par u))).write (Elt F) f (stageV v) Finset.univ)) Facts₀.shapeCasts_S1x1x32x2048_S32x2048 = v
  rw [View.read_write_univ]
  exact Idealize.ShloMosaic.shapeCast_shapeCast v _ _

/-! ## The transfer -/

theorem send_n {Q : Post F} {n : Dev nD} (hn : n = nxt c) {u : ℕ} (hu : u < 62) {hsrc hdst hsem} {k : PUnit → PT F PUnit} {O₀ : Tally'} (O : Tally') {W : Waits sig ℕ}
    (hO : O₀ = O + tallyAt (recvCell (nxt c) h (par u)) u N) {fs : Buf (Elt F) ((stageS h (par u)).view.loc (c : Thread nD τ))}
    {fd : Buf (Elt F) ((commS h (par u)).view.loc (nxt c : Thread nD τ))}
    (hfs : (stageS h (par u)).view.read (Elt F) fs = sent o h u c) :
    iprop(cellInv ER (sched o) (K (c, some (.inr (.inl (h, par u))))) (sendCell c h (par u))
        ∗ cellInv ER (sched o) (K (nxt c, some (.inr (.inr (h, par u))))) (recvCell (nxt c) h (par u))
        ∗ ((stageS h (par u)).view.loc (c : Thread nD τ) ↦[(stageS h (par u)).view.set]{fullShare} fs)
        ∗ ((commS h (par u)).view.loc (nxt c : Thread nD τ) ↦[(commS h (par u)).view.set]{fullShare} fd)
        ∗ owes (c : Thread nD τ) O₀ W
        ∗ dutyTok ER (sendCell c h (par u)) (u / 2) 0 ∗ reached ER (sendCell c h (par u)) (u / 2)
        ∗ dutyTok ER (recvCell (nxt c) h (par u)) (u / 2) 0 ∗ reached ER (recvCell (nxt c) h (par u)) (u / 2))
      ⊢ iprop(((cred (tallyAt (sendCell c h (par u)) u N) ∗ owes (c : Thread nD τ) O W) -∗ wpc c (k ⟨⟩) Q)
          -∗ wpc c (.op (.enqueueDma (stageS h (par u)) (.remote (Dev.tc n) (commS h (par u)) (.dma (sendSem h (par u)))) (.dma (recvSem h (par u))) hsrc hdst hsem) k) Q) := by
  subst hn
  have hr : u / 2 < 31 := by omega
  have hpay : prv (nxt c) = c := prv_nxt c
  exact Rounds.wp_send_pointsTo 𝒱₀ ER (sched o) (c : Thread nD τ) none (κ₁ := K (c, some (.inr (.inl (h, par u)))))
    (κ₂ := K (nxt c, some (.inr (.inr (h, par u))))) (r₁ := u / 2) (r₂ := u / 2) (d₁ := 0) (d₂ := 0) (fd := fd)
    (by rw [duties_send o c h (par u) hr]; exact Finset.mem_singleton_self _)
    (by rw [show (sched o).duties ((Dev.tc (nxt c)), SemLoc.dma (recvSem h (par u))) (u / 2) = _ from duties_recv o (nxt c) h (par u) hr]; exact Finset.mem_singleton_self _)
    u u N rfl (amount_send o c h (par u) _ _) (amount_recv o (nxt c) h (par u) _ _) O hO (W := W)
    (by rw [payload_send]; unfold stageAny slot; iintro H; iexists fs; iexact H)
    (by
      rw [show (sched o).payload (Dev.tc (nxt c), SemLoc.dma (recvSem h (par u))) (u / 2) 0 = _ from payload_recv o (nxt c) h (par u) _ _]
      unfold recvPay owns
      iintro H; iexists _
      isplitr
      swap; · iexact H
      ipureintro
      rw [View.read_write_univ, hfs, hpay]
      congr 1
      show u = 2 * (u / 2) + u % 2
      omega)

/-- A flow between two steps starts the next one's transfer. -/
theorem wp_launch {Q : Post F} {u : ℕ} (hu : u < 62) {f : OutC F} (hf : rows f (sendIdx c u) h = acc o h u c) {O : Tally'} (hO : Above (2 * u - 1) O) {k : PT F PUnit} :
    iprop(records o K KS ∗ levAts L lv ∗ idle c h u ∗ outPts c f ∗ owesE c (O + (owR c h u + owC c h u))
        ∗ ((busy c h u ∗ outPts c f ∗ owesE c (O + (owR c h (u + 1) + owC c h u))) -∗ wpc c k Q))
      ⊢ wpc c (launch c u h k) Q := by
  unfold launch idle common
  rw [bigSep_Ico hu]
  iintro ⟨#HR, #Hl, ⟨⟨⟨Htok, Htoks⟩, Hrc, Hcc, Hct, Hs0, Hs1, Hca, #Hfr⟩, Hst0, Hst1⟩, Hout, HO, Hk⟩
  iapply (wp_waitCredit o K KS c h hu (O := O + (owR c h u + owC c h u))
    (hO.add ((Above.owR c h (l := u) (by omega)).add (Above.owC c h (k := u) (by omega)))))
  isplitr; · iexact HR
  isplitr; · iexact Hl
  isplitl [Hca]; · iexact Hca
  isplitl [Hcc]; · iexact Hcc
  isplitr; · iexact Hfr
  isplitl [HO]; · iexact HO
  iintro ⟨Hca, Hcc, #Hrel, HO⟩
  unfold loadOut
  iapply (wp_loadAt c h (sendOff_inb c u h) (sendOff_eq c hu h))
  isplitl [Hout]; · iexact Hout
  iintro Hout
  rw [hf]
  iapply (wp_stage c h)
  isplitl [Hst0]; · iexact Hst0
  iintro Hst
  unfold launchTok owesE rel given owns
  icases Hst with ⟨%fs, %hfs, Hst⟩
  icases Htok with ⟨Ht1, Ht2, Hw⟩
  icases Hrel with ⟨Hrl, Hrr⟩
  icases HO with ⟨%W, HO⟩
  imod (slot_take (S := commAny (F := F) (nxt c, h, par u)) ES (Set.mem_univ (KS (nxt c, h, par u))) (u / 2 + 1)) $$ [Hw] with Hslot
  · isplitr; · iapply (slot_at o K KS (nxt c, h, par u)); iexact HR
    isplitr; · iexact Hrl
    iexact Hw
  unfold commAny slot
  icases Hslot with ⟨%fd, Hslot⟩
  unfold slotAt
  icases Hs0 with ⟨Hs0, #Hsr, Hs0'⟩
  unfold send
  have hO₂ : O + (owR c h u + owC c h u) = O + (owR c h (u + 1) + owC c h u) + tallyAt (recvCell (nxt c) h (par u)) u N := by
    rw [owR_succ c h hu]; exact (congrArg (O + ·) (add_right_comm _ _ _)).trans (add_assoc _ _ _).symm
  have hfs' : (stageS h (par u)).view.read (Elt F) fs = sent o h u c := hfs
  iapply (send_n o K c h (rightD_eq c) hu _ hO₂ hfs') $$ [Hst Hslot HO Ht1 Ht2]
  · isplitr; · iapply (inv_at o K KS (c, some (.inr (.inl (h, par u))))); iexact HR
    isplitr; · iapply (inv_at o K KS (nxt c, some (.inr (.inr (h, par u))))); iexact HR
    isplitl [Hst]; · iexact Hst
    isplitl [Hslot]; · iexact Hslot
    isplitl [HO]; · iexact HO
    isplitl [Ht1]; · iexact Ht1
    isplitr; · iexact Hsr
    isplitl [Ht2]; · iexact Ht2
    iexact Hrr
  iintro ⟨Hc, HO⟩
  iapply Hk
  unfold busy common slotAt
  isplitr [Hout HO]
  · isplitr [Hc Hst1]
    · isplitl [Htoks]; · iexact Htoks
      isplitl [Hrc]; · iexact Hrc
      isplitl [Hcc]; · iexact Hcc
      isplitl [Hct]; · iexact Hct
      isplitl [Hs0 Hs0']
      · isplitl [Hs0]; · iexact Hs0
        isplitr; · iexact Hsr
        iexact Hs0'
      isplitl [Hs1]; · iexact Hs1
      isplitl [Hca]; · iexact Hca
      iexact Hfr
    isplitl [Hc]; · iexact Hc
    iexact Hst1
  isplitl [Hout]; · iexact Hout
  iexists W; iexact HO

/-! ## Finishing one -/

theorem comm_excl (k : Key) : iprop(commAny (F := F) k ∗ commAny k) ⊢ (False : sProp 𝕄) :=
  slot_slot_false (by
    unfold View.set
    haveI : Nonempty S32x2048.Idx := ⟨fun a => ⟨0, by revert a; decide⟩⟩
    exact Finset.univ_nonempty.map)

theorem signal_n {Q : Post F} {n : Dev nD} (hn : n = prv c) {u : ℕ} (hu : u < 60) {k : PUnit → PT F PUnit} {O₀ : Tally'} (O : Tally') {W : Waits sig ℕ}
    (hO : O₀ = O + tallyAt (credCell (prv c) h) u 1) :
    iprop(cellInv ER (sched o) (K (prv c, some (.inl h))) (credCell (prv c) h) ∗ owes (c : Thread nD τ) O₀ W
        ∗ dutyTok ER (credCell (prv c) h) 0 u ∗ credPay c h u ∗ reached ER (credCell (prv c) h) 0)
      ⊢ iprop((owes (c : Thread nD τ) O W -∗ wpc c (k ⟨⟩) Q)
          -∗ wpc c (.op (.semSignal ((n : Dev nD), .tc) (creditSem h) (1#32).toInt) k) Q) := by
  subst hn
  have e := payload_cred o (prv c) h 0 u
  rw [nxt_prv] at e
  rw [← e]
  exact Rounds.wp_signal 𝒱₀ ER (sched o) (c : Thread nD τ) none (dst := (prv c : Thread nD τ)) (κ := K (prv c, some (.inl h)))
    (by rw [duties_cred]; exact Finset.mem_range.2 hu) ((amount_cred o (prv c) h 0 u).trans (by decide)) u O hO

theorem wp_signalCredit {Q : Post F} {u : ℕ} {k : PT F PUnit} {O : Tally'} :
    iprop(records o K KS ∗ credPay c h u ∗ (bigSep (Finset.Ico u 60) fun v => creditTok c h v) ∗ owesE c (O + owC c h u)
        ∗ (((bigSep (Finset.Ico (u + 1) 60) fun v => creditTok c h v) ∗ owesE c (O + owC c h (u + 1))) -∗ wpc c k Q))
      ⊢ wpc c (signalCredit c u h k) Q := by
  unfold signalCredit
  by_cases hu : u < 60
  · rw [blt_true hu, cond_true, bigSep_Ico hu]
    unfold creditTok owesE
    iintro ⟨#HR, #Hp, ⟨Ht, Hts⟩, ⟨%W, HO⟩, Hk⟩
    iapply (signal_n o K c h (leftD_eq c) hu (O := O + owC c h (u + 1)) (O₀ := O + owC c h u) (W := W) (by rw [owC_succ c h hu, add_assoc])) $$ [HO Ht]
    · isplitr; · iapply (inv_at o K KS (prv c, some (.inl h))); iexact HR
      isplitl [HO]; · iexact HO
      isplitl [Ht]; · iexact Ht
      isplitr; · iexact Hp
      iapply (reached_at o K KS (prv c, some (.inl h))); iexact HR
    iintro HO
    iapply Hk
    isplitl [Hts]; · iexact Hts
    iexists W; iexact HO
  · rw [blt_false hu, cond_false, owC_end c h (by omega), owC_end c h (by omega), Finset.Ico_eq_empty (by omega), Finset.Ico_eq_empty (by omega)]
    iintro ⟨-, -, Ht, HO, Hk⟩
    iapply Hk
    isplitl [Ht]; · iexact Ht
    iexact HO

theorem wp_waitSend {Q : Post F} {u : ℕ} (hu : u < 62) {k : PT F PUnit} {O : Tally'} (hO : Above 0 O) :
    iprop(records o K KS ∗ levAts L lv ∗ cred (tallyAt (sendCell c h (par u)) u N) ∗ atPos ER (sendCell c h (par u)) (u / 2) ∅ 0 ∗ owesE c O
        ∗ ((atPos ER (sendCell c h (par u)) (u / 2 + 1) ∅ 0 ∗ reached ER (sendCell c h (par u)) (u / 2 + 1) ∗ stageAny c h (par u) ∗ owesE c O) -∗ wpc c k Q))
      ⊢ wpc c (waitSend u h k) Q := by
  unfold waitSend owesE
  iintro ⟨#HR, #Hl, Hc, Hat, ⟨%W, HO⟩, Hk⟩
  iapply (Rounds.wp_wait_rest_token 𝒱₀ ER (sched o) (c : Thread nD τ) none (κ := K (c, some (.inr (.inl (h, par u)))))
    (wpE_waitDma2_eq 𝒱₀ (c : Thread nD τ) none Set.univ) (Set.mem_univ _) u (O := O) (W := W) (R := u / 2) (m := 0) (T := ∅)
    (by rw [expect_send o c h (par u) (by omega), Nat.zero_add])) $$ [Hc HO Hat]
  · isplitr; · iapply (inv_at o K KS (c, some (.inr (.inl (h, par u))))); iexact HR
    isplitl [Hc]; · iexact Hc
    isplitl [HO]; · iexact HO
    isplitr
    · iapply (mayWait c (SemLoc.dma (sendSem h (par u))) (i := u) (n := 0) (by omega)
        (by unfold lv; rw [show role (SemLoc.dma (sendSem h (par u))) = _ from role_send h (par u)]) hO); iexact Hl
    iexact Hat
  rw [rest_send o c h (par u) (by omega)]
  iintro ⟨HO, Hat, Hre, Hpay⟩
  iapply Hk
  isplitl [Hat]; · iexact Hat
  isplitl [Hre]; · iexact Hre
  isplitl [Hpay]; · iexact Hpay
  iexists _; iexact HO

theorem wp_waitRecv {Q : Post F} {u : ℕ} (hu : u < 62) {k : PT F PUnit} {O : Tally'} (hO : Above (2 * u + 2) O) :
    iprop(records o K KS ∗ levAts L lv ∗ recvCred c h u ∗ atPos ER (recvCell c h (par u)) (u / 2) ∅ 0 ∗ owesE c O
        ∗ ((atPos ER (recvCell c h (par u)) (u / 2 + 1) ∅ 0 ∗ reached ER (recvCell c h (par u)) (u / 2 + 1)
            ∗ owns (c : Thread nD τ) (commS h (par u)) fullShare (sent o h u (prv c)) ∗ owesE c O) -∗ wpc c k Q))
      ⊢ wpc c (waitRecv u h k) Q := by
  unfold waitRecv owesE recvCred
  iintro ⟨#HR, #Hl, Hc, Hat, ⟨%W, HO⟩, Hk⟩
  iapply (Rounds.wp_wait_rest_token 𝒱₀ ER (sched o) (c : Thread nD τ) none (κ := K (c, some (.inr (.inr (h, par u)))))
    (wpE_waitDma2_eq 𝒱₀ (c : Thread nD τ) none Set.univ) (Set.mem_univ _) u (O := O) (W := W) (R := u / 2) (m := 0) (T := ∅)
    (by rw [expect_recv o c h (par u) (by omega), Nat.zero_add])) $$ [Hc HO Hat]
  · isplitr; · iapply (inv_at o K KS (c, some (.inr (.inr (h, par u))))); iexact HR
    isplitl [Hc]; · iexact Hc
    isplitl [HO]; · iexact HO
    isplitr
    · iapply (mayWait c (SemLoc.dma (recvSem h (par u))) (i := u) (n := 2 * u + 2) (by omega)
        (by unfold lv; rw [show role (SemLoc.dma (recvSem h (par u))) = _ from role_recv h (par u)]) hO); iexact Hl
    iexact Hat
  rw [rest_recv o c h (par u) (by omega)]
  unfold recvPay
  rw [show 2 * (u / 2) + (par u).val = u from by show 2 * (u / 2) + u % 2 = u; omega]
  iintro ⟨HO, Hat, Hre, Hpay⟩
  iapply Hk
  isplitl [Hat]; · iexact Hat
  isplitl [Hre]; · iexact Hre
  isplitl [Hpay]; · iexact Hpay
  iexists _; iexact HO

/-- What arrived is added to the device's rows while the sums are being formed, and taken as it is afterwards. -/
theorem wp_take {Q : Post F} {u : ℕ} (hu : u < 62) {f : OutC F} (hf : u < 31 → rows f (recvIdx c u) h = rows (o c) (recvIdx c u) h) {k : PT F PUnit} :
    iprop(outPts c f ∗ (outPts c (put f (recvIdx c u) h (acc o h (u + 1) c)) -∗ wpc c k Q))
      ⊢ wpc c (loadOld c u h (wide (sent o h u (prv c))) fun v => storeOut c u h v k) Q := by
  have store : iprop(outPts c f ∗ (outPts c (put f (recvIdx c u) h (acc o h (u + 1) c)) -∗ wpc c k Q))
      ⊢ wpc c (storeOut c u h (acc o h (u + 1) c) k) Q := by
    unfold storeOut
    iintro ⟨Hout, Hk⟩
    iapply (wp_loadAt c h (recvOff_inb c u h) (recvOff_eq c hu h))
    isplitl [Hout]; · iexact Hout
    iintro Hout
    iapply (wp_storeAt c h (recvOff_inb c u h) (recvOff_eq c hu h))
    isplitl [Hout]; · iexact Hout
    iexact Hk
  unfold loadOld
  by_cases hv : u < 31
  · rw [blt_true hv, cond_true]
    iintro ⟨Hout, Hk⟩
    iapply (wp_loadAt c h (recvOff_inb c u h) (recvOff_eq c hu h))
    isplitl [Hout]; · iexact Hout
    iintro Hout
    rw [hf hv, show plusV (rows (o c) (recvIdx c u) h) (wide (sent o h u (prv c))) = acc o h (u + 1) c from (if_pos hv).symm]
    iapply store
    isplitl [Hout]; · iexact Hout
    iexact Hk
  · rw [blt_false hv, cond_false, show wide (sent o h u (prv c)) = acc o h (u + 1) c from (if_neg hv).symm]
    exact store

theorem wp_finish {Q : Post F} {u : ℕ} (hu : u < 62) {f : OutC F} (hf : u < 31 → rows f (recvIdx c u) h = rows (o c) (recvIdx c u) h) {O : Tally'}
    (hO : Above (2 * u + 2) O) {k : PT F PUnit} :
    iprop(records o K KS ∗ levAts L lv ∗ busy c h u ∗ outPts c f ∗ owesE c (O + (owR c h (u + 1) + owC c h u))
        ∗ ((idle c h (u + 1) ∗ outPts c (put f (recvIdx c u) h (acc o h (u + 1) c)) ∗ owesE c (O + (owR c h (u + 1) + owC c h (u + 1)))) -∗ wpc c k Q))
      ⊢ wpc c (finish c u h k) Q := by
  have hO' : Above (2 * u + 2) (O + (owR c h (u + 1) + owC c h u)) := hO.add ((Above.owR c h (l := u + 1) (by omega)).add (Above.owC c h (k := u) (by omega)))
  unfold finish busy common
  rw [bigSep_Ico hu, ← add_assoc, ← add_assoc]
  rw [← add_assoc] at hO'
  iintro ⟨#HR, #Hl, ⟨⟨Htoks, ⟨Hrc, Hrcs⟩, Hcc, Hct, Hs0, Hs1, Hca, #Hfr⟩, Hsc, Hst1⟩, Hout, HO, Hk⟩
  unfold slotAt
  icases Hs0 with ⟨Has, -, Har, Hrd, -⟩
  icases Hs1 with ⟨Hs1a, Hs1b, Hs1c, Hs1d, #Hg1⟩
  iapply (wp_waitSend o K KS c h hu (fun g i hp => ⟨(hO' g i hp).1, Nat.lt_of_le_of_lt (Nat.zero_le _) (hO' g i hp).2⟩))
  isplitr; · iexact HR
  isplitr; · iexact Hl
  isplitl [Hsc]; · iexact Hsc
  isplitl [Has]; · iexact Has
  isplitl [HO]; · iexact HO
  iintro ⟨Has, Hsr, Hst0, HO⟩
  iapply (wp_waitRecv o K KS c h hu hO')
  isplitr; · iexact HR
  isplitr; · iexact Hl
  isplitl [Hrc]; · iexact Hrc
  isplitl [Har]; · iexact Har
  isplitl [HO]; · iexact HO
  iintro ⟨Har, #Hrr, Hcomm, HO⟩
  iapply (wp_loadComm c h)
  isplitl [Hcomm]; · iexact Hcomm
  iintro Hcomm
  iapply (wp_take o c h hu hf)
  isplitl [Hout]; · iexact Hout
  iintro Hout
  imod (slot_release (S := commAny (F := F) (c, h, par u)) ES (Set.mem_univ (KS (c, h, par u))) (comm_excl (c, h, par u)) (u / 2 + 1)) $$ [Hrd Hcomm] with ⟨Hrd, #Hrel⟩
  · isplitr; · iapply (slot_at o K KS (c, h, par u)); iexact HR
    isplitl [Hrd]; · iexact Hrd
    iexact Hcomm
  have e2 : (u + 2) / 2 = u / 2 + 1 := by omega
  iapply (wp_signalCredit o K KS c h)
  isplitr; · iexact HR
  isplitr
  · unfold credPay rel
    rw [par_add_two, e2]
    isplitr
    · iexact Hg1
    unfold given
    isplitr; · iexact Hrel
    iexact Hrr
  isplitl [Hct]; · iexact Hct
  isplitl [HO]; · iexact HO
  iintro ⟨Hct, HO⟩
  iapply Hk
  isplitr [Hout HO]
  · unfold idle common slotAt
    rw [par_add_two, e2]
    isplitr [Hst0 Hst1]
    · isplitl [Htoks]; · iexact Htoks
      isplitl [Hrcs]; · iexact Hrcs
      isplitl [Hcc]; · iexact Hcc
      isplitl [Hct]; · iexact Hct
      isplitl [Hs1a Hs1b Hs1c Hs1d]
      · isplitl [Hs1a]; · iexact Hs1a
        isplitl [Hs1b]; · iexact Hs1b
        isplitl [Hs1c]; · iexact Hs1c
        isplitl [Hs1d]; · iexact Hs1d
        iexact Hg1
      isplitl [Has Hsr Har Hrd]
      · isplitl [Has]; · iexact Has
        isplitl [Hsr]; · iexact Hsr
        isplitl [Har]; · iexact Har
        isplitl [Hrd]; · iexact Hrd
        unfold given
        isplitr; · iexact Hrel
        iexact Hrr
      isplitl [Hca]; · iexact Hca
      iexact Hfr
    isplitl [Hst1]; · iexact Hst1
    iexact Hst0
  isplitl [Hout]; · iexact Hout
  iexact HO

end Steps

end Cert.KernelIdeal.AllReduce

end
-- ==== Proof.Loop.lean ====
/- The kernel's loop on one device: all four flows together, pair after pair of the program order. -/
module

public import proofs.«01_k».proof.Proof.Flow

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (o : Dev nD → OutC F)

/-- How many times a flow's turn has come before the `j`-th pair. -/
def cnt (j : ℕ) (h : Fin 4) : ℕ := (j + 3 - h.val) / 4

theorem cnt_flow (j : ℕ) : cnt j (flow j) = j / 4 := by show (j + 3 - j % 4) / 4 = j / 4; omega
theorem cnt_flow_succ (j : ℕ) : cnt (j + 1) (flow j) = j / 4 + 1 := by show (j + 1 + 3 - j % 4) / 4 = j / 4 + 1; omega
theorem cnt_other (j : ℕ) {h : Fin 4} (hne : h ≠ flow j) : cnt (j + 1) h = cnt j h := by
  have : h.val ≠ j % 4 := fun e => hne (Fin.ext e)
  have := h.isLt
  show (j + 1 + 3 - h.val) / 4 = (j + 3 - h.val) / 4
  omega
theorem cnt_le (j : ℕ) (h : Fin 4) : j / 4 ≤ cnt j h := by
  have := h.isLt
  show j / 4 ≤ (j + 3 - h.val) / 4
  omega

/-- A flow after `n` turns, and what it then owes. -/
def flowAt (c : Dev nD) (h : Fin 4) : ℕ → sProp 𝕄
  | 0 => idle c h 0
  | n + 1 => if n < 62 then busy c h n else idle c h 62
def owedF (c : Dev nD) (h : Fin 4) (n : ℕ) : Tally' := owR c h (min 62 n) + owC c h (n - 1)

/-- The result buffer's contents when flow `h` has had `n h` turns. -/
def Has (c : Dev nD) (n : Fin 4 → ℕ) (f : OutC F) : Prop := ∀ h i, rows f i h = blk o h c i (n h - 1)

section Loop
variable (K : Dev nD × CK → ℕ) (KS : Key → ℕ) (c : Dev nD)

theorem hasPut {h : Fin 4} {n : ℕ} {f : OutC F} (hf : ∀ i, rows f i h = blk o h c i n) (i : Fin 32) :
    rows (put f (recvIdx c n) h (acc o h (n + 1) c)) i h = blk o h c i (n + 1) := by
  by_cases hi : i = recvIdx c n
  · subst hi; rw [rows_put]; exact (if_pos rfl).symm
  · rw [rows_put_ne _ (fun hh => hi hh.1), hf]; exact (if_neg hi).symm

theorem flowAt_busy (h : Fin 4) {n : ℕ} (hn : n < 62) : flowAt (F := F) c h (n + 1) = busy c h n := if_pos hn
theorem flowAt_done (h : Fin 4) : flowAt (F := F) c h 63 = idle c h 62 := by
  show (if 62 < 62 then busy c h 62 else idle c h 62) = idle c h 62
  exact if_neg (Nat.lt_irrefl 62)
theorem owedF_succ (h : Fin 4) {n : ℕ} (hn : n < 62) : owedF c h (n + 1) = owR c h (n + 1) + owC c h n := by
  unfold owedF; rw [Nat.min_eq_right (by omega), Nat.add_sub_cancel]
theorem owedF_done (h : Fin 4) : owedF c h 63 = owR c h 62 + owC c h 62 := by
  unfold owedF; rw [show min 62 63 = 62 from rfl]

/-- One pair: its flow has had one turn more. -/
theorem wp_unit {Q : Post F} {j : ℕ} (hj : j < 252) {f : OutC F} (hf : ∀ i, rows f i (flow j) = blk o (flow j) c i (j / 4 - 1)) {O : Tally'}
    (hO : Above (2 * (j / 4)) O) {k : PT F PUnit} :
    iprop(records o K KS ∗ levAts L lv ∗ flowAt c (flow j) (j / 4) ∗ outPts c f ∗ owesE c (O + owedF c (flow j) (j / 4))
        ∗ (∀ f', ⌜(∀ i, rows f' i (flow j) = blk o (flow j) c i (j / 4)) ∧ ∀ h, h ≠ flow j → ∀ i, rows f' i h = rows f i h⌝
            -∗ (flowAt c (flow j) (j / 4 + 1) ∗ outPts c f' ∗ owesE c (O + owedF c (flow j) (j / 4 + 1))) -∗ wpc c k Q))
      ⊢ wpc c (unit c j k) Q := by
  have hOw : ∀ m, m ≤ 2 * (j / 4) → Above m O := fun m hm g i hp => ⟨(hO g i hp).1, Nat.lt_of_le_of_lt hm (hO g i hp).2⟩
  unfold unit
  by_cases h4 : j < 4
  · rw [blt_true h4, cond_true]
    rw [show j / 4 = 0 by omega] at hf hOw ⊢
    have h0 : rows f (sendIdx c 0) (flow j) = acc o (flow j) 0 c := (hf (sendIdx c 0)).trans (blk_send o (flow j) c 0)
    rw [flowAt_busy c (flow j) (by decide)]
    unfold flowAt owedF
    iintro ⟨#HR, #Hl, Hfl, Hout, HO, Hk⟩
    iapply (wp_launch o K KS c (flow j) (u := 0) (by decide) h0 (O := O) (hOw _ (by omega)))
    isplitr; · iexact HR
    isplitr; · iexact Hl
    isplitl [Hfl]; · iexact Hfl
    isplitl [Hout]; · iexact Hout
    isplitl [HO]; · iexact HO
    iintro ⟨Hfl, Hout, HO⟩
    iapply Hk $$ %f
    · ipureintro; exact ⟨hf, fun _ _ _ => rfl⟩
    isplitl [Hfl]; · iexact Hfl
    isplitl [Hout]; · iexact Hout
    iexact HO
  · rw [blt_false h4, cond_false]
    obtain ⟨n, hn⟩ : ∃ n, j / 4 = n + 1 := ⟨j / 4 - 1, by omega⟩
    have hn62 : n < 62 := by omega
    rw [hn] at hf hOw ⊢
    rw [Nat.add_sub_cancel] at hf ⊢
    have hp : (∀ i, rows (put f (recvIdx c n) (flow j) (acc o (flow j) (n + 1) c)) i (flow j) = blk o (flow j) c i (n + 1))
        ∧ ∀ h, h ≠ flow j → ∀ i, rows (put f (recvIdx c n) (flow j) (acc o (flow j) (n + 1) c)) i h = rows f i h :=
      ⟨hasPut o c hf, fun h hh i => rows_put_ne _ (fun e => hh e.2) _⟩
    have hfr : n < 31 → rows f (recvIdx c n) (flow j) = rows (o c) (recvIdx c n) (flow j) := fun h31 =>
      (hf (recvIdx c n)).trans (blk_fresh o (flow j) c h31 n le_rfl)
    rw [flowAt_busy c (flow j) hn62, owedF_succ c (flow j) hn62]
    iintro ⟨#HR, #Hl, Hfl, Hout, HO, Hk⟩
    iapply (wp_finish o K KS c (flow j) hn62 hfr (O := O) (hOw _ (by omega)))
    isplitr; · iexact HR
    isplitr; · iexact Hl
    isplitl [Hfl]; · iexact Hfl
    isplitl [Hout]; · iexact Hout
    isplitl [HO]; · iexact HO
    iintro ⟨Hfl, Hout, HO⟩
    generalize put f (recvIdx c n) (flow j) (acc o (flow j) (n + 1) c) = f' at hp ⊢
    by_cases h248 : j < 248
    · have hn61 : n + 1 < 62 := by omega
      have hl : rows f' (sendIdx c (n + 1)) (flow j) = acc o (flow j) (n + 1) c :=
        (hp.1 (sendIdx c (n + 1))).trans (blk_send o (flow j) c (n + 1))
      rw [blt_true h248, cond_true, flowAt_busy c (flow j) hn61, owedF_succ c (flow j) hn61]
      iapply (wp_launch o K KS c (flow j) hn61 hl (O := O) (hOw _ (by omega)))
      isplitr; · iexact HR
      isplitr; · iexact Hl
      isplitl [Hfl]; · iexact Hfl
      isplitl [Hout]; · iexact Hout
      isplitl [HO]; · iexact HO
      iintro ⟨Hfl, Hout, HO⟩
      iapply Hk $$ %f'
      · ipureintro; exact hp
      isplitl [Hfl]; · iexact Hfl
      isplitl [Hout]; · iexact Hout
      iexact HO
    · obtain rfl : n = 61 := by omega
      rw [blt_false h248, cond_false, flowAt_done, owedF_done]
      iapply Hk $$ %f'
      · ipureintro; exact hp
      isplitl [Hfl]; · iexact Hfl
      isplitl [Hout]; · iexact Hout
      iexact HO

/-- All flows before the `j`-th pair. -/
def loopAt (j : ℕ) (f : OutC F) : sProp 𝕄 :=
  iprop((bigSep Finset.univ fun h => flowAt c h (cnt j h)) ∗ outPts c f ∗ owesE c (∑ h, owedF c h (cnt j h)))

theorem bigSep_at {Φ : Fin 4 → sProp 𝕄} (h : Fin 4) : bigSep Finset.univ Φ = iprop(Φ h ∗ bigSep (Finset.univ.erase h) Φ) := bigSep_erase (Finset.mem_univ h)

theorem wp_units {Q : Post F} {k : PT F PUnit} : ∀ (n j : ℕ) (hj : n + j ≤ 252) (f : OutC F) (hf : Has o c (cnt j) f),
    iprop(records o K KS ∗ levAts L lv ∗ loopAt c j f ∗ (∀ f', ⌜Has o c (cnt (n + j)) f'⌝ -∗ loopAt c (n + j) f' -∗ wpc c k Q))
      ⊢ wpc c (units c n j k) Q
  | 0, j, hj, f, hf => by
    rw [Nat.zero_add]
    show _ ⊢ wpc c k Q
    iintro ⟨-, -, H, Hk⟩
    iapply Hk $$ %f
    · ipureintro; exact hf
    iexact H
  | n + 1, j, hj, f, hf => by
    show _ ⊢ wpc c (unit c j (units c n (j + 1) k)) Q
    have hsum : ∑ h, owedF c h (cnt j h) = (∑ h ∈ Finset.univ.erase (flow j), owedF c h (cnt j h)) + owedF c (flow j) (j / 4) := by
      rw [← Finset.add_sum_erase _ _ (Finset.mem_univ (flow j)), add_comm, cnt_flow]
    have hsum' : ∑ h, owedF c h (cnt (j + 1) h) = (∑ h ∈ Finset.univ.erase (flow j), owedF c h (cnt j h)) + owedF c (flow j) (j / 4 + 1) := by
      rw [← Finset.add_sum_erase _ _ (Finset.mem_univ (flow j)), add_comm, cnt_flow_succ,
        Finset.sum_congr rfl fun h hh => congrArg (owedF c h) (cnt_other j (Finset.ne_of_mem_erase hh))]
    have hrest : (bigSep (Finset.univ.erase (flow j)) fun h => flowAt (F := F) c h (cnt (j + 1) h)) = bigSep (Finset.univ.erase (flow j)) fun h => flowAt c h (cnt j h) :=
      bigSep_congr fun h hh => by rw [cnt_other j (Finset.ne_of_mem_erase hh)]
    have hO : Above (2 * (j / 4)) (∑ h ∈ Finset.univ.erase (flow j), owedF c h (cnt j h)) := Above.sum _ fun h _ => by
      have := cnt_le j h
      exact (Above.owR c h (l := min 62 (cnt j h)) (by omega)).add (Above.owC c h (k := cnt j h - 1) (by omega))
    unfold loopAt
    rw [hsum, bigSep_at (flow j), cnt_flow]
    iintro ⟨#HR, #Hl, ⟨⟨Hfl, Hrest⟩, Hout, HO⟩, Hk⟩
    iapply (wp_unit o K KS c (by omega : j < 252) (fun i => by rw [hf, cnt_flow]) hO)
    isplitr; · iexact HR
    isplitr; · iexact Hl
    isplitl [Hfl]; · iexact Hfl
    isplitl [Hout]; · iexact Hout
    isplitl [HO]; · iexact HO
    iintro %f' %hf' ⟨Hfl, Hout, HO⟩
    iapply (wp_units n (j + 1) (by omega) f' (fun h i => by
      by_cases hh : h = flow j
      · subst hh; rw [cnt_flow_succ]; exact hf'.1 i
      · rw [cnt_other j hh]; exact (hf'.2 h hh i).trans (hf h i)))
    isplitr; · iexact HR
    isplitr; · iexact Hl
    isplitr [Hk]
    · unfold loopAt
      rw [hsum', bigSep_at (flow j), cnt_flow_succ, hrest]
      isplitl [Hfl Hrest]
      · isplitl [Hfl]; · iexact Hfl
        iexact Hrest
      isplitl [Hout]; · iexact Hout
      iexact HO
    rw [show n + (j + 1) = n + 1 + j by omega]
    iexact Hk

end Loop

end Cert.KernelIdeal.AllReduce

end
-- ==== Proof.Slots.lean ====
/- The scratch buffers of the ring all-reduce, cut into the slots of the flows and put together again. -/
module

public import proofs.«01_k».proof.Proof.Flow

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slot slotInv released_mono slot_take slot_release slot_slot_false)

variable {F : FTy → Type} [FloatOps F]

local notation "𝕄" => MT nD τ sig ℕ (Elt F) ℕ UU ℕ

variable (o : Dev nD → OutC F)

/-! ## The slots cover a scratch buffer, no two of them meeting -/

abbrev HS : Type := Fin 4 × Fin 2

theorem slotR_disjoint {k k' : HS} (hne : k ≠ k') : Disjoint (slotR k.1 k.2).set (slotR k'.1 k'.2).set := by
  by_cases h1 : k.1.val = k'.1.val
  · have h2 : k.2.val ≠ k'.2.val := fun e => hne (Prod.ext (Fin.ext h1) (Fin.ext e))
    exact Rect.unit_disjoint 1 (by show k.2.val + 1 ≤ k'.2.val ∨ k'.2.val + 1 ≤ k.2.val; omega)
  · exact Rect.unit_disjoint 0 (by show k.1.val + 1 ≤ k'.1.val ∨ k'.1.val + 1 ≤ k.1.val; omega)

theorem slotR_cover (y : S4x2x32x2048.Idx) : y ∈ (slotR (y 0) (y 1)).set := by
  rw [Rect.mem_set_unit]
  intro a
  have := (y a).isLt
  fin_cases a
  · exact ⟨le_rfl, Nat.lt_succ_self _⟩
  · exact ⟨le_rfl, Nat.lt_succ_self _⟩
  · exact ⟨Nat.zero_le _, by simpa using this⟩
  · exact ⟨Nat.zero_le _, by simpa using this⟩

theorem comm_sets (k : HS) : (commS k.1 k.2).view.set = (slotR k.1 k.2).set.map (commM).view.emb := (comm_set k.1 k.2).trans (View.set_slice _ _)
theorem stage_sets (k : HS) : (stageS k.1 k.2).view.set = (slotR k.1 k.2).set.map (stageM).view.emb := (stage_set k.1 k.2).trans (View.set_slice _ _)

abbrev commLoc (c : Dev nD) : Loc nD τ sig := (c : Thread nD τ).loc cc0_scratch0
abbrev stageLoc (c : Dev nD) : Loc nD τ sig := (c : Thread nD τ).loc cc0_scratch1
abbrev commZ (c : Dev nD) (k : HS) : Finset (Idx (commLoc c)) := (commS k.1 k.2).view.set
abbrev stageZ (c : Dev nD) (k : HS) : Finset (Idx (stageLoc c)) := (stageS k.1 k.2).view.set

theorem comm_disjoint (c : Dev nD) (k k' : HS) (hne : k ≠ k') : Disjoint (commZ c k) (commZ c k') := by
  unfold commZ; rw [comm_sets, comm_sets]
  exact (Finset.disjoint_map _).mpr (slotR_disjoint hne)
theorem stage_disjoint (c : Dev nD) (k k' : HS) (hne : k ≠ k') : Disjoint (stageZ c k) (stageZ c k') := by
  unfold stageZ; rw [stage_sets, stage_sets]
  exact (Finset.disjoint_map _).mpr (slotR_disjoint hne)

theorem comm_cover (c : Dev nD) : Finset.univ.biUnion (commZ c) = Finset.univ :=
  Finset.eq_univ_iff_forall.2 fun y => Finset.mem_biUnion.2 ⟨((y 0, y 1) : HS), Finset.mem_univ _, by
    unfold commZ; rw [comm_sets]
    exact Finset.mem_map.2 ⟨y, slotR_cover y, rfl⟩⟩
theorem stage_cover (c : Dev nD) : Finset.univ.biUnion (stageZ c) = Finset.univ :=
  Finset.eq_univ_iff_forall.2 fun y => Finset.mem_biUnion.2 ⟨((y 0, y 1) : HS), Finset.mem_univ _, by
    unfold stageZ; rw [stage_sets]
    exact Finset.mem_map.2 ⟨y, slotR_cover y, rfl⟩⟩

/-! ## Cutting and joining -/

section Cut
variable {ℓ : Loc nD τ sig} (Z : HS → Finset (Idx ℓ)) (hd : ∀ k k', k ≠ k' → Disjoint (Z k) (Z k')) (hc : Finset.univ.biUnion Z = Finset.univ)
include hd hc

theorem cut_slots : iprop(∃ f : Buf (Elt F) ℓ, ℓ ↦{fullShare} f) ⊢ (bigSep Finset.univ fun k : HS => slot ℓ (Z k) : sProp 𝕄) := by
  iintro ⟨%f, H⟩
  have e : (ℓ ↦{fullShare} f : sProp 𝕄) = bigSep Finset.univ fun k : HS => ℓ ↦[Z k]{fullShare} f := by
    rw [← pointsTo_biUnion (q := fullShare) (f := f) Finset.univ Z fun k _ k' _ hne => hd k k' hne, hc]
  have m : (bigSep Finset.univ fun k : HS => (ℓ ↦[Z k]{fullShare} f : sProp 𝕄)) ⊢ bigSep Finset.univ fun k : HS => slot ℓ (Z k) :=
    bigSep_mono fun k _ => (show (ℓ ↦[Z k]{fullShare} f : sProp 𝕄) ⊢ slot ℓ (Z k) by unfold slot; iintro H; iexists f; iexact H)
  iapply ((Entails.of_eq e).trans m)
  iexact H

theorem join_slots [hN : Nonempty (Buf (Elt F) ℓ)] : (bigSep Finset.univ fun k : HS => slot ℓ (Z k) : sProp 𝕄) ⊢ iprop(∃ f : Buf (Elt F) ℓ, ℓ ↦{fullShare} f) := by
  have e : (bigSep Finset.univ fun k : HS => slot ℓ (Z k) : sProp 𝕄) ⊢ iprop(∃ y : HS → Buf (Elt F) ℓ, bigSep Finset.univ fun k => ℓ ↦[Z k]{fullShare} y k) :=
    bigSep_exists_pi Finset.univ fun (k : HS) (f : Buf (Elt F) ℓ) => (ℓ ↦[Z k]{fullShare} f : sProp 𝕄)
  iintro H
  ihave H := e $$ H
  icases H with ⟨%y, H⟩
  ihave H := (pointsTo_biUnion_join (q := fullShare) Finset.univ Z y (y (0, 0)) fun k _ k' _ hne => hd k k' hne) $$ H
  icases H with ⟨%g, -, H⟩
  rw [hc]
  iexists g
  iexact H

end Cut

theorem cut_comm (c : Dev nD) : iprop(∃ f : Buf (Elt F) (commLoc c), commLoc c ↦{fullShare} f) ⊢ (bigSep Finset.univ fun k : HS => commAny (c, k) : sProp 𝕄) :=
  cut_slots (commZ c) (comm_disjoint c) (comm_cover c)
theorem cut_stage (c : Dev nD) : iprop(∃ f : Buf (Elt F) (stageLoc c), stageLoc c ↦{fullShare} f) ⊢ (bigSep Finset.univ fun k : HS => stageAny c k.1 k.2 : sProp 𝕄) :=
  cut_slots (stageZ c) (stage_disjoint c) (stage_cover c)
theorem join_comm (c : Dev nD) : (bigSep Finset.univ fun k : HS => commAny (c, k) : sProp 𝕄) ⊢ iprop(∃ f : Buf (Elt F) (commLoc c), commLoc c ↦{fullShare} f) :=
  join_slots (commZ c) (comm_disjoint c) (comm_cover c)
theorem join_stage (c : Dev nD) : (bigSep Finset.univ fun k : HS => stageAny c k.1 k.2 : sProp 𝕄) ⊢ iprop(∃ f : Buf (Elt F) (stageLoc c), stageLoc c ↦{fullShare} f) :=
  join_slots (stageZ c) (stage_disjoint c) (stage_cover c)

end Cert.KernelIdeal.AllReduce
-- ==== Proof.Body.lean ====
/- The body of the kernel on one device: it hands its inbound slots to its left neighbour, meets both neighbours at the
   barrier, forms its partial product, runs the loop and closes its semaphores. -/
module

public import proofs.«01_k».proof.Proof.Loop
public import proofs.«01_k».proof.Proof.Slots

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slot slotInv released_mono slot_take slot_release slot_slot_false)

variable {F : FTy → Type} [FloatOps F]

local notation "𝕄" => MT nD τ sig ℕ (Elt F) ℕ UU ℕ

variable (o : Dev nD → OutC F)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem bigSep_hs (Φ : HS → sProp 𝕄) : bigSep Finset.univ Φ = bigSep Finset.univ fun h : Fin 4 => iprop(Φ (h, 0) ∗ Φ (h, 1)) := by
  rw [bigSep_univ_prod]; exact bigSep_congr fun h _ => bigSep_fin_two _

/-! ## Entering: the inbound slots are given up for the first time -/

/-- A slot's positions and its reader's place before the launch. -/
def slotStart (c : Dev nD) (k : HS) : sProp 𝕄 :=
  iprop(atPos ER (sendCell c k.1 k.2) 0 ∅ 0 ∗ atPos ER (recvCell c k.1 k.2) 0 ∅ 0 ∗ readerAt ES (c, k) 0)

section Body
variable (K : Dev nD × CK → ℕ) (KS : Key → ℕ) (c : Dev nD)

theorem enter_slot (k : HS) : iprop(records o K KS ∗ (slotStart c k ∗ commAny (F := F) (c, k))) ⊢ iprop(|={Set.univ}=> slotAt c k.1 k.2 0) := by
  unfold slotStart slotAt given
  iintro ⟨#HR, ⟨Hs, Hr, Hrd⟩, Hany⟩
  imod (slot_release (S := commAny (F := F) (c, k)) ES (Set.mem_univ (KS (c, k))) (comm_excl (c, k)) 0) $$ [Hrd Hany] with ⟨Hrd, #Hrel⟩
  · isplitr; · iapply (slot_at o K KS (c, k)); iexact HR
    isplitl [Hrd]; · iexact Hrd
    iexact Hany
  imodintro
  isplitl [Hs]; · iexact Hs
  isplitr; · iapply (reached_at o K KS (c, some (.inr (.inl k)))); iexact HR
  isplitl [Hr]; · iexact Hr
  isplitl [Hrd]; · iexact Hrd
  isplitr; · iexact Hrel
  iapply (reached_at o K KS (c, some (.inr (.inr k)))); iexact HR

theorem slotAt_given (k : HS) : (slotAt (F := F) c k.1 k.2 0) ⊢ iprop(slotAt c k.1 k.2 0 ∗ given c k.1 k.2 0) := by
  unfold slotAt
  iintro ⟨H1, H2, H3, H4, #H5⟩
  isplitl [H1 H2 H3 H4]
  · isplitl [H1]; · iexact H1
    isplitl [H2]; · iexact H2
    isplitl [H3]; · iexact H3
    isplitl [H4]; · iexact H4
    iexact H5
  iexact H5

theorem givens : (bigSep Finset.univ fun k : HS => given (F := F) c k.1 k.2 0) = barPay c := by
  rw [bigSep_hs]; rfl

theorem enter : iprop(records o K KS ∗ (bigSep Finset.univ fun k : HS => slotStart c k) ∗ (∃ f : Buf (Elt F) (commLoc c), commLoc c ↦{fullShare} f))
    ⊢ iprop(|={Set.univ}=> ((bigSep Finset.univ fun k : HS => slotAt c k.1 k.2 0) ∗ barPay c)) := by
  have h1 : iprop(records o K KS ∗ bigSep Finset.univ fun k : HS => iprop(slotStart c k ∗ commAny (F := F) (c, k)))
      ⊢ iprop(|={Set.univ}=> bigSep Finset.univ fun k : HS => slotAt c k.1 k.2 0) :=
    (bigSep_with fun k _ => enter_slot o K KS c k).trans (bigSep_fupd _ _)
  have h2 : (bigSep Finset.univ fun k : HS => slotAt (F := F) c k.1 k.2 0) ⊢ iprop((bigSep Finset.univ fun k : HS => slotAt c k.1 k.2 0) ∗ barPay c) := by
    rw [← givens]
    exact (bigSep_mono fun k _ => slotAt_given c k).trans (Entails.of_eq (bigSep_sep' _ _ _))
  rw [bigSep_sep'] at h1
  iintro ⟨#HR, Hs, Hf⟩
  ihave Hf := (cut_comm c) $$ Hf
  imod h1 $$ [Hs Hf] with H
  · isplitr; · iexact HR
    isplitl [Hs]; · iexact Hs
    iexact Hf
  imodintro
  iapply h2; iexact H

/-- What the launch gives a flow besides its slots. -/
def flowStart (h : Fin 4) : sProp 𝕄 :=
  iprop((bigSep (Finset.Ico 0 62) fun v => launchTok c h v) ∗ (bigSep (Finset.Ico 0 62) fun v => recvCred c h v)
    ∗ (bigSep (Finset.Ico 0 60) fun v => creditCred c h v) ∗ (bigSep (Finset.Ico 0 60) fun v => creditTok c h v)
    ∗ atPos ER (credCell c h) 0 ∅ 0)

theorem creditAt_zero (h : Fin 4) : atPos ER (credCell c h) 0 ∅ 0 ⊢ (creditAt c h 0 : sProp 𝕄) := by
  unfold creditAt
  iintro H
  iexists ∅
  isplitr
  · ipureintro; exact ⟨Finset.empty_subset _, by rw [Finset.sdiff_empty, Finset.card_range, Nat.zero_add]⟩
  isplitl; · iexact H
  rw [bigSep_empty]; iempintro

theorem flow_start (h : Fin 4) : iprop(flowStart (F := F) c h ∗ (slotAt c h 0 0 ∗ slotAt c h 1 0) ∗ (stageAny c h 0 ∗ stageAny c h 1) ∗ firstRel (nxt c) h)
    ⊢ flowAt c h 0 := by
  show _ ⊢ idle c h 0
  unfold flowStart idle common
  iintro ⟨⟨H1, H2, H3, H4, H5⟩, ⟨Hs0, Hs1⟩, Hst, Hf⟩
  ihave H5 := (creditAt_zero c h) $$ H5
  isplitr [Hst]
  · isplitl [H1]; · iexact H1
    isplitl [H2]; · iexact H2
    isplitl [H3]; · iexact H3
    isplitl [H4]; · iexact H4
    isplitl [Hs0]; · iexact Hs0
    isplitl [Hs1]; · iexact Hs1
    isplitl [H5]; · iexact H5
    iexact Hf
  iexact Hst

theorem flows_start : iprop((bigSep Finset.univ fun h => flowStart (F := F) c h) ∗ (bigSep Finset.univ fun k : HS => slotAt c k.1 k.2 0)
      ∗ (bigSep Finset.univ fun k : HS => stageAny c k.1 k.2) ∗ barPay (nxt c))
    ⊢ bigSep Finset.univ fun h => flowAt c h (cnt 0 h) := by
  rw [bigSep_hs, bigSep_hs]
  unfold barPay
  rw [← bigSep_sep', ← bigSep_sep', ← bigSep_sep']
  refine bigSep_mono fun h _ => ?_
  have : cnt 0 h = 0 := by have := h.isLt; show (0 + 3 - h.val) / 4 = 0; omega
  rw [this]
  exact flow_start c h

/-! ## Leaving: the slots come back, the semaphores are closed -/

/-- What a flow leaves. -/
def slotEnd (k : HS) : sProp 𝕄 := iprop(semVal (sendCell c k.1 k.2) 0 ∗ semVal (recvCell c k.1 k.2) 0 ∗ commAny (F := F) (c, k))

theorem exit_slot (k : HS) : iprop(records o K KS ∗ (slotAt (F := F) c k.1 k.2 31 ∗ writeTok ES (c, k) 32)) ⊢ iprop(|={Set.univ}=> slotEnd c k) := by
  unfold slotAt slotEnd given
  iintro ⟨#HR, ⟨Hs, -, Hr, -, #Hrel, -⟩, Hw⟩
  imod (slot_take (S := commAny (F := F) (c, k)) ES (Set.mem_univ (KS (c, k))) 32) $$ [Hw] with Hany
  · isplitr; · iapply (slot_at o K KS (c, k)); iexact HR
    isplitr; · iexact Hrel
    iexact Hw
  imod (Rounds.cell_close ER (sched o) (Set.mem_univ (K (c, some (.inr (.inl k))))) (fun h => h) (R := 31) (later_send o c k.1 k.2)) $$ [Hs] with Hs
  · isplitr; · iapply (inv_at o K KS (c, some (.inr (.inl k)))); iexact HR
    iexact Hs
  imod (Rounds.cell_close ER (sched o) (Set.mem_univ (K (c, some (.inr (.inr k))))) (fun h => h) (R := 31) (later_recv o c k.1 k.2)) $$ [Hr] with Hr
  · isplitr; · iapply (inv_at o K KS (c, some (.inr (.inr k)))); iexact HR
    iexact Hr
  imodintro
  isplitl [Hs]; · iexact Hs
  isplitl [Hr]; · iexact Hr
  iexact Hany

theorem exit_credit (h : Fin 4) : iprop(records o K KS ∗ creditAt (F := F) c h 60) ⊢ iprop(|={Set.univ}=> semVal (credCell c h) 0) := by
  unfold creditAt
  iintro ⟨#HR, ⟨%S, %hS, Hat, -⟩⟩
  have hS' : Finset.range 60 ⊆ S := by
    rw [← Finset.sdiff_eq_empty_iff_subset, ← Finset.card_eq_zero]; omega
  imod (Rounds.fupd_skip ER (sched o) (κ := K (c, some (.inl h))) (g := credCell c h) (R := 0) (m := 60) (T := S)
    (by rw [duties_cred]; exact hS') (expect_cred o c h).symm (Set.mem_univ _)) $$ [Hat] with ⟨Hat, -⟩
  · isplitr; · iapply (inv_at o K KS (c, some (.inl h))); iexact HR
    iexact Hat
  iapply (Rounds.cell_close ER (sched o) (Set.mem_univ (K (c, some (.inl h)))) (fun h => h) (R := 1) (later_cred o c h))
  isplitr; · iapply (inv_at o K KS (c, some (.inl h))); iexact HR
  iexact Hat

/-- The last writes' tokens, kept by the reader. -/
def flowEnd (h : Fin 4) : sProp 𝕄 :=
  iprop(semVal (credCell c h) 0 ∗ (slotEnd (F := F) c (h, 0) ∗ slotEnd c (h, 1)) ∗ (stageAny c h 0 ∗ stageAny c h 1))

theorem exit_flow (h : Fin 4) : iprop(records o K KS ∗ (flowAt (F := F) c h (cnt 252 h) ∗ (writeTok ES (c, (h, 0)) 32 ∗ writeTok ES (c, (h, 1)) 32)))
    ⊢ iprop(|={Set.univ}=> flowEnd c h) := by
  have : cnt 252 h = 63 := by have := h.isLt; show (252 + 3 - h.val) / 4 = 63; omega
  rw [this, flowAt_done]
  unfold idle common flowEnd
  iintro ⟨#HR, ⟨⟨-, -, -, -, Hs0, Hs1, Hcr, -⟩, Hst⟩, Hw0, Hw1⟩
  imod (exit_slot o K KS c (h, 0)) $$ [Hs0 Hw0] with H0
  · isplitr; · iexact HR
    isplitl [Hs0]; · iexact Hs0
    iexact Hw0
  imod (exit_slot o K KS c (h, 1)) $$ [Hs1 Hw1] with H1
  · isplitr; · iexact HR
    isplitl [Hs1]; · iexact Hs1
    iexact Hw1
  imod (exit_credit o K KS c h) $$ [Hcr] with Hcr
  · isplitr; · iexact HR
    iexact Hcr
  imodintro
  isplitl [Hcr]; · iexact Hcr
  isplitl [H0 H1]
  · isplitl [H0]; · iexact H0
    iexact H1
  iexact Hst

/-- Everything a device leaves behind. -/
def allEnd : sProp 𝕄 :=
  iprop((bigSep Finset.univ fun k : OK => semVal (kcell (c, some k)) 0) ∗ (∃ f : Buf (Elt F) (commLoc c), commLoc c ↦{fullShare} f)
    ∗ (∃ f : Buf (Elt F) (stageLoc c), stageLoc c ↦{fullShare} f))

theorem exit_all : iprop(records o K KS ∗ (bigSep Finset.univ fun h => flowAt (F := F) c h (cnt 252 h)) ∗ (bigSep Finset.univ fun k : HS => writeTok ES (c, k) 32))
    ⊢ iprop(|={Set.univ}=> allEnd c) := by
  have h1 := (bigSep_with (S := Finset.univ) (fun h _ => exit_flow o K KS c h)).trans (bigSep_fupd _ _)
  rw [bigSep_sep'] at h1
  have h2 : (bigSep Finset.univ fun h => flowEnd (F := F) c h) ⊢ allEnd c := by
    unfold allEnd flowEnd
    rw [bigSep_sep', bigSep_sep', ← bigSep_hs (fun k => slotEnd c k), ← bigSep_hs (fun k => stageAny c k.1 k.2)]
    unfold slotEnd
    rw [bigSep_sep', bigSep_sep']
    rw [show (bigSep Finset.univ fun k : OK => (semVal (kcell (c, some k)) 0 : sProp 𝕄)) = iprop((bigSep Finset.univ fun h => semVal (credCell c h) 0)
        ∗ (bigSep Finset.univ fun k : HS => semVal (sendCell c k.1 k.2) 0) ∗ (bigSep Finset.univ fun k : HS => semVal (recvCell c k.1 k.2) 0))
      from by rw [bigSep_univ_sum, bigSep_univ_sum]; rfl]
    iintro ⟨Hc, ⟨Hs, Hr, Ha⟩, Hst⟩
    isplitl [Hc Hs Hr]
    · isplitl [Hc]; · iexact Hc
      isplitl [Hs]; · iexact Hs
      iexact Hr
    isplitl [Ha]; · iapply (join_comm c); iexact Ha
    iapply (join_stage c); iexact Hst
  rw [← bigSep_hs (fun k => writeTok ES (c, k) 32)] at h1
  iintro ⟨#HR, Hf, Hw⟩
  imod h1 $$ [Hf Hw] with H
  · isplitr; · iexact HR
    isplitl [Hf]; · iexact Hf
    iexact Hw
  imodintro
  iapply h2; iexact H

end Body

end Cert.KernelIdeal.AllReduce
-- ==== Proof.Run.lean ====
/- The whole of the kernel on one device, from what the launch gives it to what it leaves. -/
module

public import proofs.«01_k».proof.Proof.Body

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slot slotInv released_mono slot_take slot_release slot_slot_false)

variable {F : FTy → Type} [FloatOps F]

local notation "𝕄" => MT nD τ sig ℕ (Elt F) ℕ UU ℕ

variable (o : Dev nD → OutC F)

/-! ## The slots cover a scratch buffer, no two of them meeting -/

/-! ## What a device owes at the launch, and the right to meet its neighbours -/

def loopOwed (c : Dev nD) : Tally' := ∑ h, owedF c h (cnt 0 h)
def O₁ (c : Dev nD) : Tally' := loopOwed c + tallyAt (barCell (nxt c)) 0 1
def O₀ (c : Dev nD) : Tally' := O₁ c + tallyAt (barCell (prv c)) 0 1

theorem above_loopOwed (c : Dev nD) : Above 1 (loopOwed c) :=
  Above.sum _ fun h _ => by
    have : cnt 0 h = 0 := by have := h.isLt; show (0 + 3 - h.val) / 4 = 0; omega
    rw [this]
    exact (Above.owR c h (l := min 62 0) (by decide)).add (Above.owC c h (k := 0 - 1) (by decide))

section Barrier
variable (K : Dev nD × CK → ℕ) (KS : Key → ℕ) (c : Dev nD)

theorem signal_left {Q : Post F} {n : Dev nD} (hn : n = prv c) {k : PUnit → PT F PUnit} {W : Waits sig ℕ} :
    iprop(cellInv ER (sched o) (K (prv c, none)) (barCell (prv c)) ∗ owes (c : Thread nD τ) (O₀ c) W
        ∗ dutyTok ER (barCell (prv c)) 0 0 ∗ barPay c ∗ reached ER (barCell (prv c)) 0)
      ⊢ iprop((owes (c : Thread nD τ) (O₁ c) W -∗ wpc c (k ⟨⟩) Q)
          -∗ wpc c (.op (.semSignal ((n : Dev nD), .tc) (sig.barrier 0 rfl) (1#32).toInt) k) Q) := by
  subst hn
  have e := payload_bar o (prv c) 0 0
  rw [nxt_prv, if_pos rfl] at e
  rw [← e]
  exact Rounds.wp_signal 𝒱₀ ER (sched o) (c : Thread nD τ) none (dst := (prv c : Thread nD τ)) (κ := K (prv c, none))
    (by rw [duties_bar]; decide) ((amount_bar o (prv c) 0 0).trans (by decide)) 0 (O₁ c) rfl

theorem signal_right {Q : Post F} {n : Dev nD} (hn : n = nxt c) {k : PUnit → PT F PUnit} {W : Waits sig ℕ} :
    iprop(cellInv ER (sched o) (K (nxt c, none)) (barCell (nxt c)) ∗ owes (c : Thread nD τ) (O₁ c) W
        ∗ dutyTok ER (barCell (nxt c)) 0 1 ∗ emp ∗ reached ER (barCell (nxt c)) 0)
      ⊢ iprop((owes (c : Thread nD τ) (loopOwed c) W -∗ wpc c (k ⟨⟩) Q)
          -∗ wpc c (.op (.semSignal ((n : Dev nD), .tc) (sig.barrier 0 rfl) (1#32).toInt) k) Q) := by
  subst hn
  have e := payload_bar o (nxt c) 0 1
  rw [if_neg (by decide)] at e
  rw [← e]
  exact Rounds.wp_signal 𝒱₀ ER (sched o) (c : Thread nD τ) none (dst := (nxt c : Thread nD τ)) (κ := K (nxt c, none))
    (by rw [duties_bar]; decide) ((amount_bar o (nxt c) 0 1).trans (by decide)) 0 (loopOwed c) rfl

theorem wp_barrier {Q : Post F} {k : PT F PUnit} :
    iprop(records o K KS ∗ levAts L lv ∗ dutyTok ER (barCell (prv c)) 0 0 ∗ dutyTok ER (barCell (nxt c)) 0 1 ∗ cred (tallyAt (barCell c) 0 2)
        ∗ atPos ER (barCell c) 0 ∅ 0 ∗ barPay c ∗ owesE c (O₀ c)
        ∗ ((barPay (nxt c) ∗ semVal (barCell c) 0 ∗ owesE c (loopOwed c)) -∗ wpc c k Q))
      ⊢ wpc c (.op (.semSignal ((leftD c : Dev nD), .tc) (sig.barrier 0 rfl) (1#32).toInt) fun _ =>
          .op (.semSignal ((rightD c : Dev nD), .tc) (sig.barrier 0 rfl) (1#32).toInt) fun _ =>
          .op (.semWait (sig.barrier 0 rfl) (2#32).toInt) fun _ => k) Q := by
  unfold owesE
  iintro ⟨#HR, #Hl, Ht0, Ht1, Hc, Hat, #Hpay, ⟨%W, HO⟩, Hk⟩
  iapply (signal_left o K c (leftD_eq c)) $$ [HO Ht0]
  · isplitr; · iapply (inv_at o K KS (prv c, none)); iexact HR
    isplitl [HO]; · iexact HO
    isplitl [Ht0]; · iexact Ht0
    isplitr; · iexact Hpay
    iapply (reached_at o K KS (prv c, none)); iexact HR
  iintro HO
  iapply (signal_right o K c (rightD_eq c)) $$ [HO Ht1]
  · isplitr; · iapply (inv_at o K KS (nxt c, none)); iexact HR
    isplitl [HO]; · iexact HO
    isplitl [Ht1]; · iexact Ht1
    isplitr; · iempintro
    iapply (reached_at o K KS (nxt c, none)); iexact HR
  iintro HO
  iapply (Rounds.wp_wait_rest_token 𝒱₀ ER (sched o) (c : Thread nD τ) none (κ := K (c, none)) (sm := SemLoc.reg barS)
    (wpE_semWait_eq 𝒱₀ (c : Thread nD τ) none Set.univ) (Set.mem_univ _) 0 (O := loopOwed c) (W := W) (R := 0) (m := 0) (T := ∅)
    (by rw [expect_bar]; decide)) $$ [Hc HO Hat]
  · isplitr; · iapply (inv_at o K KS (c, none)); iexact HR
    isplitl [Hc]; · iexact Hc
    isplitl [HO]; · iexact HO
    isplitr
    · iapply (mayWait c (SemLoc.reg barS) (i := 0) (n := 1) (by omega)
        (by unfold lv; rw [show role (SemLoc.reg barS) = _ from role_bar]) (above_loopOwed c)); iexact Hl
    iexact Hat
  iintro ⟨HO, Hat, -, Hp⟩
  ihave Hp := (Entails.of_eq (rest_bar o c)) $$ Hp
  icases Hp with ⟨Hp, -⟩
  imod (Rounds.cell_close ER (sched o) (Set.mem_univ (K (c, none))) (fun h => h) (R := 1) (later_bar o c)) $$ [Hat] with Hz
  · isplitr; · iapply (inv_at o K KS (c, none)); iexact HR
    iexact Hat
  iapply Hk
  isplitl [Hp]; · iexact Hp
  isplitl [Hz]; · iexact Hz
  iexists _; iexact HO

end Barrier

/-! ## The partial product -/

abbrev X0 (F : FTy → Type) : Type := (cc0_stg0_0 : Ref sig .tc).ty.Contents (Elt F)
abbrev X1 (F : FTy → Type) : Type := (cc0_stg1_0 : Ref sig .tc).ty.Contents (Elt F)
abbrev X2 (F : FTy → Type) : Type := (cc0_stg2_0 : Ref sig .tc).ty.Contents (Elt F)
abbrev X3 (F : FTy → Type) : Type := (cc0_stg3_0 : Ref sig .tc).ty.Contents (Elt F)

abbrev r1 : Rect S1 := Rect.unit (s := S1) ![0] S1.size inb_S1_S1_0
/-- The one scale a buffer holds. -/
def scal2 (s : X2 F) : F .f32 := ((sxM : Memref sig .tc .smem S1 .f32).access r1).read (Elt F) s (Shape.Idx.first (numel1_S1.symm ▸ Nat.one_pos))
def scal3 (s : X3 F) : F .f32 := ((swM : Memref sig .tc .smem S1 .f32).access r1).read (Elt F) s (Shape.Idx.first (numel1_S1.symm ▸ Nat.one_pos))

/-- The partial product of a device, from what it is given. -/
def partOf (x : X0 F) (w : X1 F) (sx : X2 F) (sw : X3 F) : OutC F := dotV (scal2 sx) (scal3 sw) x w

theorem hz2 : (![0, 0] : Fin 2 → Nat) = fun _ => 0 := funext fun a => by fin_cases a <;> rfl
theorem read_x (f : X0 F) : (xM).view.readAt (Elt F) (Rect.unit (s := S4096x128) ![0, 0] S4096x128.size inb_S4096x128_S4096x128_0_0).toLoadRect f = f :=
  Memref.readAt_unit_zero (Elt F) cc0_stg0_0 hz2 _ f
theorem read_w (f : X1 F) : (wM).view.readAt (Elt F) (Rect.unit (s := S128x2048) ![0, 0] S128x2048.size inb_S128x2048_S128x2048_0_0).toLoadRect f = f :=
  Memref.readAt_unit_zero (Elt F) cc0_stg1_0 hz2 _ f
theorem write_out (f w : OutC F) :
    (outM.access (Rect.unit (s := S4096x2048) ![0, 0] S4096x2048.size inb_S4096x2048_S4096x2048_0_0)).write (Elt F) f w Finset.univ = w :=
  Memref.write_access_unit_zero_univ (Elt F) cc0_stg4_0 hz2 _ f w

/-- The four inputs, as staged, and that the partial product is computed from them. -/
def inputs (c : Dev nD) (x : X0 F) (w : X1 F) (sx : X2 F) (sw : X3 F) : sProp 𝕄 :=
  iprop((((c : Thread nD τ).loc cc0_stg0_0) ↦{fullShare} x) ∗ (((c : Thread nD τ).loc cc0_stg1_0) ↦{fullShare} w)
    ∗ (((c : Thread nD τ).loc cc0_stg2_0) ↦{fullShare} sx) ∗ (((c : Thread nD τ).loc cc0_stg3_0) ↦{fullShare} sw))

theorem wp_product (c : Dev nD) {Q : Post F} {k : PT F PUnit} {x : X0 F} {w : X1 F} {sx : X2 F} {sw : X3 F} :
    iprop(inputs c x w sx sw ∗ (∃ f, outPts c f) ∗ ((inputs c x w sx sw ∗ outPts c (partOf x w sx sw)) -∗ wpc c k Q))
      ⊢ wpc c ((smemLoad sxM (Rect.unit (s := S1) ![0] S1.size inb_S1_S1_0) numel1_S1 rfl).bind fun sx =>
          (smemLoad swM (Rect.unit (s := S1) ![0] S1.size inb_S1_S1_0) numel1_S1 rfl).bind fun sw =>
          .op (.load xM (Rect.unit (s := S4096x128) ![0, 0] S4096x128.size inb_S4096x128_S4096x128_0_0).toLoadRect (View.loadsAt_vmem h_S4096x128)) fun (x : Vec F S4096x128 .fp8e4m3) =>
          .op (.load wM (Rect.unit (s := S128x2048) ![0, 0] S128x2048.size inb_S128x2048_S128x2048_0_0).toLoadRect (View.loadsAt_vmem h_S128x2048)) fun (w : Vec F S128x2048 .fp8e4m3) =>
          .op (.load outM (Rect.unit (s := S4096x2048) ![0, 0] S4096x2048.size inb_S4096x2048_S4096x2048_0_0).toLoadRect (View.loadsAt_vmem h_S4096x2048)) fun _ =>
          .op (.store outM (Rect.unit (s := S4096x2048) ![0, 0] S4096x2048.size inb_S4096x2048_S4096x2048_0_0) (dotV sx sw x w) Finset.univ
            (View.stores_vmem_bits_univ h_S4096x2048 rfl) (.inl rfl)) fun _ => k) Q := by
  unfold inputs outPts smemLoad smemLoadElt
  simp only [Prog.bind_op, Prog.bind_ret]
  iintro ⟨⟨Hx, Hw, Hsx, Hsw⟩, ⟨%f, Hf⟩, Hk⟩
  iapply (wp_load_rect 𝒱₀ (c : Thread nD τ) none Set.univ (m := sxM) (r := r1) (Finset.subset_univ _)) $$ Hsx
  iintro Hsx
  iapply (wp_load_rect 𝒱₀ (c : Thread nD τ) none Set.univ (m := swM) (r := r1) (Finset.subset_univ _)) $$ Hsw
  iintro Hsw
  iapply (wp_load 𝒱₀ (c : Thread nD τ) none Set.univ (m := xM) (Finset.subset_univ _)) $$ Hx
  iintro Hx
  rw [read_x]
  iapply (wp_load 𝒱₀ (c : Thread nD τ) none Set.univ (m := wM) (Finset.subset_univ _)) $$ Hw
  iintro Hw
  rw [read_w]
  iapply (wp_load 𝒱₀ (c : Thread nD τ) none Set.univ (m := outM) (Finset.subset_univ _)) $$ Hf
  iintro Hf
  iapply (wp_store 𝒱₀ (c : Thread nD τ) none Set.univ (m := outM) (r := Rect.unit (s := S4096x2048) ![0, 0] S4096x2048.size inb_S4096x2048_S4096x2048_0_0)
    (Mk := Finset.univ) (Finset.subset_univ _)) $$ Hf
  iintro Hf
  rw [write_out]
  iapply Hk
  isplitl [Hx Hw Hsx Hsw]
  · isplitl [Hx]; · iexact Hx
    isplitl [Hw]; · iexact Hw
    isplitl [Hsx]; · iexact Hsx
    iexact Hsw
  iexact Hf

end Cert.KernelIdeal.AllReduce
-- ==== Proof.Whole.lean ====
/- The body obligation: the kernel on one device, from the staged inputs and what the launch gives it to the result and
   what it leaves. -/
module

public import proofs.«01_k».proof.Proof.Run
public import proofs.«01_k».proof.Proof.Gen.KernelIdeal.Points
public import proofs.«01_k».proof.Proof.Gen.KernelIdeal.Frame

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Release (USlots released readerAt writeTok slot slotInv released_mono slot_take slot_release slot_slot_false)

variable {F : FTy → Type} [FloatOps F]

local notation "𝕄" => MT nD τ sig ℕ (Elt F) ℕ UU ℕ

/-! ## The slots cover a scratch buffer, no two of them meeting -/

/-! ## The result, from its blocks -/

section Result
variable (o : Dev nD → OutC F)

theorem ix_lt (a b : ℕ) (hb : 0 < b) : a % b < b := Nat.mod_lt _ hb
/-- Where an element of the result lies: its group of rows, its flow, and its place in the flow's rows. -/
def grpOf (y : S4096x2048.Idx) : Fin 32 := ⟨(y 0).val / 128, by have : (y 0).val < 4096 := (y 0).isLt; omega⟩
def flowOf (y : S4096x2048.Idx) : Fin 4 := ⟨(y 0).val % 128 / 32, by omega⟩
def inOf (y : S4096x2048.Idx) : S32x2048.Idx := fun
  | ⟨0, _⟩ => ⟨(y 0).val % 32, by show _ < 32; omega⟩
  | ⟨1, _⟩ => ⟨(y 1).val, (y 1).isLt⟩

theorem emb_of (y : S4096x2048.Idx) : (blkR (grpOf y) (flowOf y)).emb (inOf y) = y := by
  funext a
  refine Fin.ext ?_
  rw [Rect.emb_apply]
  fin_cases a
  · show 128 * ((y 0).val / 128) + 32 * ((y 0).val % 128 / 32) + 1 * ((y 0).val % 32) = (y 0).val
    omega
  · show 0 + 1 * (y 1).val = (y 1).val
    omega

theorem rows_apply (f : OutC F) (y : S4096x2048.Idx) : rows f (grpOf y) (flowOf y) (inOf y) = f y := by
  show f ((blkR (grpOf y) (flowOf y)).emb (inOf y)) = f y
  rw [emb_of]

/-- The result of device `c`: each block after the last time it was received. -/
def outAt (c : Dev nD) : OutC F := fun y => blk o (flowOf y) c (grpOf y) 62 (inOf y)

theorem eq_outAt (c : Dev nD) {f : OutC F} (hf : Has o c (cnt 252) f) : f = outAt o c := by
  funext y
  have h := hf (flowOf y) (grpOf y)
  have : cnt 252 (flowOf y) = 63 := by have := (flowOf y).isLt; show (252 + 3 - (flowOf y).val) / 4 = 63; omega
  rw [this] at h
  rw [← rows_apply f y, h]; rfl

theorem has_start (c : Dev nD) : Has o c (cnt 0) (o c) := fun h i => by
  have : cnt 0 h = 0 := by have := h.isLt; show (0 + 3 - h.val) / 4 = 0; omega
  rw [this]; rfl

theorem owed_end (c : Dev nD) : (∑ h, owedF c h (cnt 252 h)) = 0 :=
  Finset.sum_eq_zero fun h _ => by
    have : cnt 252 h = 63 := by have := h.isLt; show (252 + 3 - h.val) / 4 = 63; omega
    rw [this, owedF_done, owR_end c h le_rfl, owC_end c h (by decide), add_zero]

end Result

/-! ## The run of one device -/

section Device
variable (o : Dev nD → OutC F) (K : Dev nD × CK → ℕ) (KS : Key → ℕ) (c : Dev nD)

/-- What the launch gives a flow: tokens and a position; and the rights to wait. -/
def flowToks (h : Fin 4) : sProp 𝕄 :=
  iprop((bigSep (Finset.Ico 0 62) fun v => launchTok c h v) ∗ (bigSep (Finset.Ico 0 60) fun v => creditTok c h v) ∗ atPos ER (credCell c h) 0 ∅ 0)
def flowCreds (h : Fin 4) : sProp 𝕄 :=
  iprop((bigSep (Finset.Ico 0 62) fun v => recvCred c h v) ∗ (bigSep (Finset.Ico 0 60) fun v => creditCred c h v))

theorem flowStart_of (h : Fin 4) : iprop(flowToks (F := F) c h ∗ flowCreds c h) ⊢ flowStart c h := by
  unfold flowToks flowCreds flowStart
  iintro ⟨⟨H1, H2, H3⟩, H4, H5⟩
  isplitl [H1]; · iexact H1
  isplitl [H4]; · iexact H4
  isplitl [H5]; · iexact H5
  isplitl [H2]; · iexact H2
  iexact H3

theorem flowStart_intro : iprop((bigSep Finset.univ fun h => flowToks (F := F) c h) ∗ (bigSep Finset.univ fun h => flowCreds c h)) ⊢ bigSep Finset.univ fun h => flowStart c h := by
  rw [← bigSep_sep']
  exact bigSep_mono fun h _ => flowStart_of c h

/-- What the launch gives a device: the tokens and positions, and the rights to wait. -/
def ghost : sProp 𝕄 :=
  iprop(records o K KS ∗ dutyTok ER (barCell (prv c)) 0 0 ∗ dutyTok ER (barCell (nxt c)) 0 1 ∗ atPos ER (barCell c) 0 ∅ 0
    ∗ (bigSep Finset.univ fun h => flowToks c h) ∗ (bigSep Finset.univ fun k : HS => slotStart c k) ∗ (bigSep Finset.univ fun k : HS => writeTok ES (c, k) 32))
def creds : sProp 𝕄 := iprop(cred (tallyAt (barCell c) 0 2) ∗ bigSep Finset.univ fun h => flowCreds c h)

theorem sound_run {Q : Post F} {x : X0 F} {w : X1 F} {sx : X2 F} {sw : X3 F} (hd : partOf x w sx sw = o c) :
    iprop(ghost o K KS c ∗ creds c ∗ levAts L lv ∗ (∃ f : Buf (Elt F) (commLoc c), commLoc c ↦{fullShare} f) ∗ (∃ f : Buf (Elt F) (stageLoc c), stageLoc c ↦{fullShare} f)
        ∗ owesE c (O₀ c) ∗ inputs c x w sx sw ∗ (∃ f, outPts c f)
        ∗ ((allEnd c ∗ semVal (barCell c) 0 ∗ owesE c 0 ∗ inputs c x w sx sw ∗ outPts c (outAt o c)) -∗ Q ⟨⟩))
      ⊢ wpc c (start (F := F) fun d => units d 252 0 (.ret ⟨⟩)) Q := by
  unfold ghost creds
  iintro ⟨⟨#HR, Ht0, Ht1, Hat, Htoks, Hslots, Hw⟩, ⟨Hcb, Hcreds⟩, #Hl, Hcomm, Hstage, HO, Hin, Hout, Hk⟩
  ihave Hfl := (flowStart_intro c) $$ [Htoks Hcreds]
  · isplitl [Htoks]; · iexact Htoks
    iexact Hcreds
  ihave Hstage := (cut_stage c) $$ Hstage
  imod (enter o K KS c) $$ [Hslots Hcomm] with ⟨Hslots, #Hpay⟩
  · isplitr; · iexact HR
    isplitl [Hslots]; · iexact Hslots
    iexact Hcomm
  unfold start
  simp only [wpc, wp_deviceId]
  iapply (wp_barrier o K KS c)
  isplitr; · iexact HR
  isplitr; · iexact Hl
  isplitl [Ht0]; · iexact Ht0
  isplitl [Ht1]; · iexact Ht1
  isplitl [Hcb]; · iexact Hcb
  isplitl [Hat]; · iexact Hat
  isplitr; · iexact Hpay
  isplitl [HO]; · iexact HO
  iintro ⟨#Hnext, Hz, HO⟩
  iapply (wp_product c (x := x) (w := w) (sx := sx) (sw := sw))
  isplitl [Hin]; · iexact Hin
  isplitl [Hout]; · iexact Hout
  iintro ⟨Hin, Hout⟩
  rw [hd]
  ihave Hfl := (flows_start c) $$ [Hfl Hslots Hstage]
  · isplitl [Hfl]; · iexact Hfl
    isplitl [Hslots]; · iexact Hslots
    isplitl [Hstage]; · iexact Hstage
    iexact Hnext
  iapply (wp_units o K KS c 252 0 le_rfl (o c) (has_start o c))
  isplitr; · iexact HR
  isplitr; · iexact Hl
  isplitl [Hfl Hout HO]
  · unfold loopAt
    isplitl [Hfl]; · iexact Hfl
    isplitl [Hout]; · iexact Hout
    iexact HO
  iintro %f' %hf' Hloop
  have hf := eq_outAt o c hf'
  subst hf
  unfold loopAt
  rw [owed_end c]
  icases Hloop with ⟨Hfl, Hout, HO⟩
  imod (exit_all o K KS c) $$ [Hfl Hw] with Hend
  · isplitr; · iexact HR
    isplitl [Hfl]; · iexact Hfl
    iexact Hw
  rw [wp_ret]
  imodintro
  iapply Hk
  isplitl [Hend]; · iexact Hend
  isplitl [Hz]; · iexact Hz
  isplitl [HO]; · iexact HO
  isplitl [Hin]; · iexact Hin
  iexact Hout

end Device

/-! ## The pipeline's data, and the body obligation -/

section Oblig
variable (m : ∀ ℓ : Loc nD τ sig, Buf (Elt F) ℓ)

/-- What a device's staged inputs hold. -/
def in0 (c : Dev nD) : X0 F := iblk m c 0 t0_0
def in1 (c : Dev nD) : X1 F := iblk m c 1 t0_0
def in2 (c : Dev nD) : X2 F := iblk m c 2 t0_0
def in3 (c : Dev nD) : X3 F := iblk m c 3 t0_0
/-- The product a device computes. -/
def part (c : Dev nD) : OutC F := partOf (in0 m c) (in1 m c) (in2 m c) (in3 m c)

def commBuf (c : Dev nD) : sProp 𝕄 := iprop(∃ f : Buf (Elt F) (commLoc c), commLoc c ↦{fullShare} f)
def stageBuf (c : Dev nD) : sProp 𝕄 := iprop(∃ f : Buf (Elt F) (stageLoc c), stageLoc c ↦{fullShare} f)
def scratch (c : Dev nD) : sProp 𝕄 := iprop(commBuf c ∗ stageBuf c)

/-- What the body starts from, and what it leaves. -/
def begins (c : Dev nD) : sProp 𝕄 := iprop((∃ K KS, ghost (part m) K KS c) ∗ creds c ∗ levAts L lv)
def Φ₀ (c : Dev nD) : sProp 𝕄 := iprop(begins m c ∗ scratch c)
def Φ₁ (c : Dev nD) : sProp 𝕄 := iprop(allEnd c ∗ semVal (barCell c) 0)

def dats (_ : Fin 1) (c : Dev nD) : Dat τ (Elt F) ℕ ℕ UU ℕ cfg0 c where
  A w := V m c (Pipeline.arrRef spec0 w)
  after w _ := match w with
    | ⟨0, _⟩ => in0 m c
    | ⟨1, _⟩ => in1 m c
    | ⟨2, _⟩ => in2 m c
    | ⟨3, _⟩ => in3 m c
    | ⟨4, _⟩ => outAt (part m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt 0 t0_0.succ
    ∗ stg c cc0_stg0_0 (in0 m c) ∗ stg c cc0_stg1_0 (in1 m c) ∗ stg c cc0_stg2_0 (in2 m c) ∗ stg c cc0_stg3_0 (in3 m c) ∗ stg c cc0_stg4_0 (outAt (part m) c))

theorem sound_body (c : Dev nD) :
    bodyPre m c ⊢ wpc c (cc0_body xM (Memref.isWhole_whole _) wM (Memref.isWhole_whole _) sxM (Memref.isWhole_whole _) swM (Memref.isWhole_whole _)
      outM (Memref.isWhole_whole _) commM commW stageM stageW cc0_scratch2 cc0_scratch3 cc0_scratch4) fun _ => bodyPost m c := by
  rw [body_eq]
  unfold bodyPre Φ₀ begins scratch commBuf stageBuf
  iintro ⟨⟨⟨⟨%K, %KS, Hg⟩, Hcr, Hl⟩, Hcomm, Hstage⟩, Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩⟩
  have h0 : g0 = in0 m c := by rw [hg0]; unfold Dat.before; rw [if_pos (fetch0_0 t0_0)]; rfl
  have h1 : g1 = in1 m c := by rw [hg1]; unfold Dat.before; rw [if_pos (fetch0_1 t0_0)]; rfl
  have h2 : g2 = in2 m c := by rw [hg2]; unfold Dat.before; rw [if_pos (fetch0_2 t0_0)]; rfl
  have h3 : g3 = in3 m c := by rw [hg3]; unfold Dat.before; rw [if_pos (fetch0_3 t0_0)]; rfl
  subst h0 h1 h2 h3
  unfold Dat.owesAt Pipeline.owesWithin
  icases Ho with ⟨%W, %hW, HO⟩
  rw [show (dats m 0 c).owed t0_0.castSucc = O₀ c from rfl]
  iapply (sound_run (part m) K KS c (x := in0 m c) (w := in1 m c) (sx := in2 m c) (sw := in3 m c) rfl)
  isplitl [Hg]; · iexact Hg
  isplitl [Hcr]; · iexact Hcr
  isplitl [Hl]; · iexact Hl
  isplitl [Hcomm]; · iexact Hcomm
  isplitl [Hstage]; · iexact Hstage
  isplitl [HO]; · unfold owesE; iexists W; iexact HO
  isplitl [Hx0 Hx1 Hx2 Hx3]
  · unfold inputs
    isplitl [Hx0]; · iexact Hx0
    isplitl [Hx1]; · iexact Hx1
    isplitl [Hx2]; · iexact Hx2
    iexact Hx3
  isplitl [Hx4]; · unfold outPts; iexists g4; iexact Hx4
  unfold owesE inputs outPts
  iintro ⟨Hend, Hz, ⟨%W', HO⟩, ⟨Hx0, Hx1, Hx2, Hx3⟩, Hx4⟩
  unfold bodyPost Φ₁ Dat.owesAt Pipeline.owesWithin
  rw [show (dats m 0 c).owed t0_0.succ = 0 from rfl]
  isplitl [Hend Hz]
  · isplitl [Hend]; · iexact Hend
    iexact Hz
  isplitl [HO]
  · iexists W'
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  iexists _; isplitr; · (ipureintro; rfl)
  iexact Hx4

attribute [local irreducible] cc0_body in
set_option maxRecDepth 20000 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) cc0_scratch2 cc0_scratch3 cc0_scratch4) (fun _ => bodyPost m c)
  exact sound_body m c

end Oblig

end Cert.KernelIdeal.AllReduce
-- ==== Proof.Launch.lean ====
/- The launch: the ring's ghost state is dealt to the devices, and the whole run ends with every result at its computed
   contents, the inputs as they were and every semaphore at zero. -/
module

public import proofs.«01_k».proof.Proof.Whole

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Release (USlots released readerAt writeTok slot slotInv initSlots slots_init)

variable {F : FTy → Type} [FloatOps F]

local notation "𝕄" => MT nD τ sig ℕ (Elt F) ℕ UU ℕ

/-! ## Counting the same tokens in two ways -/

theorem of_fin (n : ℕ) (Φ : ℕ → sProp 𝕄) : (bigSep Finset.univ fun v : Fin n => Φ v.val) = bigSep (Finset.range n) Φ := by
  have : Finset.range n = (Finset.univ : Finset (Fin n)).map Fin.valEmbedding := by
    ext x; simp only [Finset.mem_range, Finset.mem_map, Finset.mem_univ, true_and, Fin.valEmbedding_apply]
    exact ⟨fun h => ⟨⟨x, h⟩, rfl⟩, fun ⟨a, ha⟩ => ha ▸ a.isLt⟩
  rw [this, bigSep_map]; rfl

theorem range_succ (n : ℕ) (Φ : ℕ → sProp 𝕄) : bigSep (Finset.range (n + 1)) Φ = iprop(Φ n ∗ bigSep (Finset.range n) Φ) := by
  rw [Finset.range_add_one, bigSep_insert Finset.notMem_range_self]; rfl

/-- The steps, numbered through, are those of even and those of odd number. -/
theorem steps_of (Φ : Fin 2 → ℕ → sProp 𝕄) : ∀ n, iprop(bigSep (Finset.range n) (Φ 0) ∗ bigSep (Finset.range n) (Φ 1))
    ⊢ bigSep (Finset.range (2 * n)) fun v => Φ (par v) (v / 2)
  | 0 => by
    rw [show 2 * 0 = 0 from rfl, Finset.range_zero, bigSep_empty, bigSep_empty, bigSep_empty]
    iintro ⟨H, -⟩; iexact H
  | n + 1 => by
    rw [show 2 * (n + 1) = 2 * n + 1 + 1 by omega, range_succ, range_succ, range_succ, range_succ,
      show par (2 * n) = 0 from Fin.ext (by show 2 * n % 2 = 0; omega), show par (2 * n + 1) = 1 from Fin.ext (by show (2 * n + 1) % 2 = 1; omega),
      show 2 * n / 2 = n by omega, show (2 * n + 1) / 2 = n by omega]
    iintro ⟨⟨H0, Hs0⟩, H1, Hs1⟩
    isplitl [H1]; · iexact H1
    isplitl [H0]; · iexact H0
    iapply (steps_of Φ n)
    isplitl [Hs0]; · iexact Hs0
    iexact Hs1

theorem steps_flows (Φ : Fin 4 → Fin 2 → ℕ → sProp 𝕄) :
    (bigSep Finset.univ fun k : HS × Fin 31 => Φ k.1.1 k.1.2 k.2.val) ⊢ bigSep Finset.univ fun h : Fin 4 => bigSep (Finset.Ico 0 62) fun v => Φ h (par v) (v / 2) := by
  rw [bigSep_univ_prod, bigSep_univ_prod]
  refine bigSep_mono fun h _ => ?_
  rw [bigSep_fin_two]
  refine (Entails.of_eq ?_).trans ((steps_of (Φ h) 31).trans (Entails.of_eq (by rw [Finset.range_eq_Ico])))
  rw [← of_fin, ← of_fin]; rfl

theorem of_option {I : Type} [Fintype I] [DecidableEq I] (Φ : Option I → sProp 𝕄) : bigSep Finset.univ Φ = iprop(Φ none ∗ bigSep Finset.univ fun k => Φ (some k)) := by
  have : (Finset.univ : Finset (Option I)) = insert none (Finset.univ.map Function.Embedding.some) := by
    ext x; cases x <;> simp
  rw [this, bigSep_insert (by simp), bigSep_map]; rfl

/-! ## The cells and the tokens -/

theorem ownSemFacts : Pipeline.OwnSemFacts cfg0.spec osem := by decide

theorem osem_injective : Function.Injective osem := by
  have : ∀ a b, osem a = osem b → a = b := by decide
  exact fun a b => this a b
theorem bar_ne_osem (k : OK) : SemLoc.reg barS ≠ osem k := by revert k; decide
theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  cases k with
  | none => cases k' with
    | none => rfl
    | some b => exact absurd h2 (bar_ne_osem b)
  | some a => cases k' with
    | none => exact absurd h2.symm (bar_ne_osem a)
    | some b => rw [osem_injective h2]
def cells : Finset (GSem nD τ sig) := Finset.univ.map ⟨kcell, kcell_injective⟩

/-- A device's tokens: the barrier's two, each transfer's at the sender and at the receiver, each credit's. -/
abbrev TK : Type := Fin 2 ⊕ (HS × Fin 31) ⊕ (HS × Fin 31) ⊕ (Fin 4 × Fin 60)
def tkey : TK → CK × ℕ × ℕ
  | .inl d => (none, 0, d.val)
  | .inr (.inl k) => (some (.inr (.inl k.1)), k.2.val, 0)
  | .inr (.inr (.inl k)) => (some (.inr (.inr k.1)), k.2.val, 0)
  | .inr (.inr (.inr k)) => (some (.inl k.1), 0, k.2.val)
theorem tkey_injective : Function.Injective tkey := by
  rintro (a | ⟨a, a'⟩ | ⟨a, a'⟩ | ⟨a, a'⟩) (b | ⟨b, b'⟩ | ⟨b, b'⟩ | ⟨b, b'⟩) h
  all_goals simp only [tkey, Prod.mk.injEq, Option.some.injEq, Sum.inl.injEq, Sum.inr.injEq, reduceCtorEq, false_and, and_false, true_and, and_true, Fin.val_inj] at h
  · rw [h]
  all_goals rw [h.1, h.2]
def tokOf (x : Dev nD × TK) : GSem nD τ sig × ℕ × ℕ := (kcell (x.1, (tkey x.2).1), (tkey x.2).2)
theorem tokOf_injective : Function.Injective tokOf := by
  rintro ⟨c, j⟩ ⟨c', j'⟩ h
  have h1 := kcell_injective (congrArg (fun x : GSem nD τ sig × ℕ × ℕ => x.1) h)
  have h2 : (tkey j).2 = (tkey j').2 := congrArg (fun x : GSem nD τ sig × ℕ × ℕ => x.2) h
  have h3 : c = c' := congrArg Prod.fst h1
  have h4 : (tkey j).1 = (tkey j').1 := congrArg Prod.snd h1
  rw [h3, tkey_injective (Prod.ext h4 h2)]
def allToks : Finset (GSem nD τ sig × ℕ × ℕ) := Finset.univ.map ⟨tokOf, tokOf_injective⟩

def u₀ : UU :=
  (initOf (Pipeline.cells cfgs cellOf_inj) (Pipeline.launchToks cfgs cellOf_inj), (initOf cells allToks, initSlots Finset.univ 32))

/-- The tokens of device `c`'s own cells. -/
def toks (c : Dev nD) : sProp 𝕄 :=
  iprop((dutyTok ER (barCell c) 0 0 ∗ dutyTok ER (barCell c) 0 1)
    ∗ (bigSep Finset.univ fun k : HS × Fin 31 => dutyTok ER (sendCell c k.1.1 k.1.2) k.2.val 0)
    ∗ (bigSep Finset.univ fun k : HS × Fin 31 => dutyTok ER (recvCell c k.1.1 k.1.2) k.2.val 0)
    ∗ (bigSep Finset.univ fun k : Fin 4 × Fin 60 => dutyTok ER (credCell c k.1) 0 k.2.val))

theorem toks_eq (c : Dev nD) : (bigSep Finset.univ fun j : TK => dutyTok ER (tokOf (c, j)).1 (tokOf (c, j)).2.1 (tokOf (c, j)).2.2 : sProp 𝕄) = toks c := by
  rw [bigSep_univ_sum, bigSep_univ_sum, bigSep_univ_sum, bigSep_fin_two]; rfl

section Fund
variable (o : Dev nD → OutC F)

/-- The slots of a device's inbound buffer: their invariants, its own places as their reader, the writers' tokens. -/
def slotDeal (c : Dev nD) : sProp 𝕄 :=
  iprop((bigSep Finset.univ fun k : HS => iprop(∃ ι : ℕ, slotInv ES ι (c, k) (commAny (F := F) (c, k))))
    ∗ (bigSep Finset.univ fun k : HS => readerAt ES (c, k) 0)
    ∗ (bigSep Finset.univ fun k : HS => bigSep Finset.univ fun n : Fin 32 => writeTok ES (c, k) (n.val + 1)))

/-- What the launch deals device `c`. -/
def G (c : Dev nD) : sProp 𝕄 :=
  iprop((bigSep Finset.univ fun k : CK => roundState ER (sched o) (kcell (c, k)) 0)
    ∗ (bigSep Finset.univ fun k : CK => iprop(atPos ER (kcell (c, k)) 0 ∅ 0 ∗ reached ER (kcell (c, k)) 0)) ∗ toks c ∗ slotDeal c)

theorem fund_ring : BI.own (ER (initOf cells allToks)) ⊢ (|==> iprop((bigSep Finset.univ fun c : Dev nD => bigSep Finset.univ fun k : CK => roundState ER (sched o) (kcell (c, k)) 0)
    ∗ (bigSep Finset.univ fun c : Dev nD => bigSep Finset.univ fun k : CK => iprop(atPos ER (kcell (c, k)) 0 ∅ 0 ∗ reached ER (kcell (c, k)) 0))
    ∗ (bigSep Finset.univ fun c : Dev nD => toks c)) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched o) cells allToks) $$ HX with ⟨Hst, Hr, Hat, Htok⟩
  imodintro
  ihave Hst' := (Entails.of_eq (hX fun g => roundState ER (sched o) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  simp only [bigSep_sep']
  isplitl [Hst']; · iexact Hst'
  isplitl [Hat' Hr']
  · isplitl [Hat']; · iexact Hat'
    iexact Hr'
  iexact Htok'

theorem fund_slots : BI.own (ES (initSlots Finset.univ 32)) ⊢ (|={Set.univ}=> (bigSep Finset.univ fun c : Dev nD => slotDeal c) : sProp 𝕄) := by
  have hW : bigSep ((Finset.univ : Finset Key) ×ˢ Finset.range 32) (fun x => (writeTok ES x.1 (x.2 + 1) : sProp 𝕄))
      = bigSep Finset.univ fun c : Dev nD => bigSep Finset.univ fun k : HS => bigSep Finset.univ fun n : Fin 32 => writeTok ES (c, k) (n.val + 1) := by
    have : (Finset.univ : Finset Key) ×ˢ Finset.range 32 = (Finset.univ : Finset (Key × Fin 32)).map ((Function.Embedding.refl Key).prodMap Fin.valEmbedding) := by
      ext ⟨k, n⟩
      simp only [Finset.mem_product, Finset.mem_univ, true_and, Finset.mem_range, Finset.mem_map]
      exact ⟨fun h => ⟨(k, ⟨n, h⟩), rfl⟩, fun ⟨a, ha⟩ => by have h : a.2.val = n := congrArg Prod.snd ha; exact h ▸ a.2.isLt⟩
    rw [this, bigSep_map, bigSep_univ_prod, bigSep_univ_prod]; rfl
  iintro HX
  imod (slots_init (Es := Set.univ) ES Finset.univ 32 (fun k => commAny (F := F) k) ∅) $$ HX with ⟨%ιs, -, HI, Hr, Hw⟩
  imodintro
  unfold slotDeal
  simp only [bigSep_sep']
  isplitl [HI]
  · iapply (show (bigSep Finset.univ fun k : Key => slotInv ES (ιs k) k (commAny (F := F) k)) ⊢
      bigSep Finset.univ fun c : Dev nD => bigSep Finset.univ fun k : HS => iprop(∃ ι : ℕ, slotInv ES ι (c, k) (commAny (F := F) (c, k))) from
        (bigSep_mono fun k _ => show _ ⊢ iprop(∃ ι : ℕ, slotInv ES ι k (commAny (F := F) k)) by iintro H; iexists (ιs k); iexact H).trans (Entails.of_eq (bigSep_univ_prod _)))
    iexact HI
  isplitl [Hr]
  · iapply (Entails.of_eq (bigSep_univ_prod (fun k : Key => (readerAt ES k 0 : sProp 𝕄)))); iexact Hr
  iapply (Entails.of_eq hW); iexact Hw

theorem fund_all : (ownU u₀ : sProp 𝕄) ⊢ |={Set.univ}=>
    iprop(BI.own (EP (initOf (Pipeline.cells cfgs cellOf_inj) (Pipeline.launchToks cfgs cellOf_inj))) ∗ bigSep Finset.univ (G o)) := by
  unfold u₀
  iintro Hu
  ihave H := (ownU_pair _ _) $$ Hu
  icases H with ⟨HP, HX⟩
  ihave HX := (own_pair_emb (embR : Emb (UB × USlots Key) 𝕄) _ _) $$ HX
  icases HX with ⟨HR, HS⟩
  imod (fund_ring o) $$ HR with ⟨H1, H2, H3⟩
  imod (fund_slots (F := F)) $$ HS with H4
  imodintro
  isplitl [HP]; · iexact HP
  unfold G
  simp only [bigSep_sep']
  isplitl [H1]; · iexact H1
  isplitl [H2]; · icases H2 with ⟨Ha, Hb⟩; isplitl [Ha]; · iexact Ha
                  iexact Hb
  isplitl [H3]; · iexact H3
  iexact H4

end Fund

end Cert.KernelIdeal.AllReduce
-- ==== Proof.Deal.lean ====
/- The global step of the launch: the cells' invariants are made, the tokens go round the ring; and the run. -/
module

public import proofs.«01_k».proof.Proof.Launch
public import Idealize.ShloMosaic.Lib.Pipeline.CollectiveSegs

@[expose] public section

noncomputable section

namespace Cert.KernelIdeal.AllReduce

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Release (USlots released readerAt writeTok slot slotInv initSlots slots_init)

variable {F : FTy → Type} [FloatOps F]

local notation "𝕄" => MT nD τ sig ℕ (Elt F) ℕ UU ℕ

section Deal
variable (m : ∀ ℓ : Loc nD τ sig, Buf (Elt F) ℓ)

local notation "o" => part m

/-! ## The invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := ℕ) (Name := ℕ) (U := UU) (Lvl := ℕ) (Val := Elt F) (τ := τ) osem c : sProp 𝕄)
    = bigSep Finset.univ fun k : OK => semVal (kcell (c, some k)) 0 := by unfold Pipeline.ownSems0; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, of_option]
  iintro ⟨HS, HB⟩
  isplitl [HB]; · iexact HB
  iexact HS

/-- What a device has once its cells are under their invariants. -/
def alloc (c : Dev nD) : sProp 𝕄 :=
  iprop((bigSep Finset.univ fun k => iprop(∃ κ : ℕ, cellInv ER (sched o) κ (kcell (c, k))))
    ∗ (bigSep Finset.univ fun k : CK => iprop(atPos ER (kcell (c, k)) 0 ∅ 0 ∗ reached ER (kcell (c, k)) 0)) ∗ toks c ∗ slotDeal c)

theorem core_alloc (c : Dev nD) :
    iprop(Pipeline.ownSems0 (Ix := ℕ) (Name := ℕ) (U := UU) (Lvl := ℕ) (Val := Elt F) (τ := τ) osem c ∗ unscopedSems0 c ∗ G o c) ⊢ iprop(|={Set.univ}=> alloc m c) := by
  unfold G alloc
  iintro ⟨Hos, Hus, Hst, Hat, Htok, Hsl⟩
  ihave Hv := (sems0_eq (F := F) c) $$ [Hos Hus]
  · isplitl [Hos]; · iexact Hos
    iexact Hus
  imod (show iprop((bigSep Finset.univ fun k : CK => semVal (kcell (c, k)) 0) ∗ bigSep Finset.univ fun k : CK => roundState ER (sched o) (kcell (c, k)) 0)
      ⊢ (|={Set.univ}=> bigSep Finset.univ fun k => iprop(∃ κ : ℕ, cellInv ER (sched o) κ (kcell (c, k))) : sProp 𝕄) from by
        rw [← bigSep_sep']
        exact (bigSep_mono fun k _ => (Rounds.body_intro ER (sched o) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hsl

/-! ## The tokens go to the devices that pay with them -/

/-- A slot's writes, to the device that makes them; and one write more, which stays with the slot. -/
def writes (c : Dev nD) : sProp 𝕄 := bigSep Finset.univ fun k : HS × Fin 31 => writeTok ES (c, k.1) (k.2.val + 1)
def lastWrite (c : Dev nD) : sProp 𝕄 := bigSep Finset.univ fun k : HS => writeTok ES (c, k) 32

theorem writes_split (c : Dev nD) : (bigSep Finset.univ fun k : HS => bigSep Finset.univ fun n : Fin 32 => (writeTok ES (c, k) (n.val + 1) : sProp 𝕄)) = iprop(lastWrite c ∗ writes c) := by
  unfold lastWrite writes
  rw [bigSep_univ_prod (fun k : HS × Fin 31 => (writeTok ES (c, k.1) (k.2.val + 1) : sProp 𝕄)), ← bigSep_sep']
  exact bigSep_congr fun k _ => by
    rw [of_fin 32 fun n => writeTok ES (c, k) (n + 1), range_succ, ← of_fin 31 fun n => writeTok ES (c, k) (n + 1)]

/-- What device `c` pays with. -/
def pays (c : Dev nD) : sProp 𝕄 :=
  iprop((dutyTok ER (barCell (prv c)) 0 0 ∗ dutyTok ER (barCell (nxt c)) 0 1)
    ∗ (bigSep Finset.univ fun k : HS × Fin 31 => dutyTok ER (sendCell c k.1.1 k.1.2) k.2.val 0)
    ∗ (bigSep Finset.univ fun k : HS × Fin 31 => dutyTok ER (recvCell (nxt c) k.1.1 k.1.2) k.2.val 0)
    ∗ (bigSep Finset.univ fun k : Fin 4 × Fin 60 => dutyTok ER (credCell (prv c) k.1) 0 k.2.val)
    ∗ writes (nxt c))

theorem around : (iprop((bigSep Finset.univ fun c : Dev nD => toks c) ∗ bigSep Finset.univ fun c : Dev nD => writes c) : sProp 𝕄) ⊢ bigSep Finset.univ fun c : Dev nD => pays c := by
  unfold toks pays
  simp only [bigSep_sep']
  rw [bigSep_univ_equiv ring.symm (fun c : Dev nD => (dutyTok ER (barCell c) 0 0 : sProp 𝕄)),
    bigSep_univ_equiv ring (fun c : Dev nD => (dutyTok ER (barCell c) 0 1 : sProp 𝕄)),
    bigSep_univ_equiv ring (fun c : Dev nD => (bigSep Finset.univ fun k : HS × Fin 31 => dutyTok ER (recvCell c k.1.1 k.1.2) k.2.val 0 : sProp 𝕄)),
    bigSep_univ_equiv ring.symm (fun c : Dev nD => (bigSep Finset.univ fun k : Fin 4 × Fin 60 => dutyTok ER (credCell c k.1) 0 k.2.val : sProp 𝕄)),
    bigSep_univ_equiv ring (fun c : Dev nD => (writes c : sProp 𝕄))]
  iintro ⟨⟨⟨H1, H2⟩, H3, H4, H5⟩, H6⟩
  isplitl [H1 H2]
  · isplitl [H1]; · iexact H1
    iexact H2
  isplitl [H3]; · iexact H3
  isplitl [H4]; · iexact H4
  isplitl [H5]; · iexact H5
  iexact H6

theorem launchToks_of (c : Dev nD) :
    iprop((bigSep Finset.univ fun k : HS × Fin 31 => dutyTok ER (sendCell c k.1.1 k.1.2) k.2.val 0)
      ∗ (bigSep Finset.univ fun k : HS × Fin 31 => dutyTok ER (recvCell (nxt c) k.1.1 k.1.2) k.2.val 0) ∗ writes (nxt c))
    ⊢ (bigSep Finset.univ fun h : Fin 4 => bigSep (Finset.Ico 0 62) fun v => launchTok c h v : sProp 𝕄) := by
  unfold writes launchTok
  rw [← bigSep_sep', ← bigSep_sep']
  exact steps_flows fun h s n => iprop(dutyTok ER (sendCell c h s) n 0 ∗ dutyTok ER (recvCell (nxt c) h s) n 0 ∗ writeTok ES (nxt c, h, s) (n + 1))

theorem creditToks_of (c : Dev nD) : (bigSep Finset.univ fun k : Fin 4 × Fin 60 => dutyTok ER (credCell (prv c) k.1) 0 k.2.val)
    ⊢ (bigSep Finset.univ fun h : Fin 4 => bigSep (Finset.Ico 0 60) fun v => creditTok c h v : sProp 𝕄) := by
  refine (Entails.of_eq (bigSep_univ_prod _)).trans (Entails.of_eq (bigSep_congr fun h _ => ?_))
  show (bigSep Finset.univ fun v : Fin 60 => dutyTok ER (credCell (prv c) h) 0 v.val) = _
  rw [of_fin 60 fun v => dutyTok ER (credCell (prv c) h) 0 v, Finset.range_eq_Ico]; rfl

/-- The positions of a device's cells, and what else stays with it. -/
def stays (c : Dev nD) : sProp 𝕄 :=
  iprop((bigSep Finset.univ fun k : CK => atPos ER (kcell (c, k)) 0 ∅ 0) ∗ (bigSep Finset.univ fun k : HS => readerAt ES (c, k) 0) ∗ lastWrite c)

def G' (c : Dev nD) : sProp 𝕄 := iprop(∃ K KS, ghost o K KS c)

theorem atPos_of (c : Dev nD) : (bigSep Finset.univ fun k : CK => (atPos ER (kcell (c, k)) 0 ∅ 0 : sProp 𝕄))
    = iprop(atPos ER (barCell c) 0 ∅ 0 ∗ (bigSep Finset.univ fun h : Fin 4 => atPos ER (credCell c h) 0 ∅ 0)
      ∗ (bigSep Finset.univ fun k : HS => atPos ER (sendCell c k.1 k.2) 0 ∅ 0) ∗ (bigSep Finset.univ fun k : HS => atPos ER (recvCell c k.1 k.2) 0 ∅ 0)) := by
  rw [of_option, bigSep_univ_sum, bigSep_univ_sum]; rfl

theorem ghost_intro (K : Dev nD × CK → ℕ) (KS : Key → ℕ) (c : Dev nD) : iprop(records o K KS ∗ (pays c ∗ stays c)) ⊢ G' m c := by
  unfold pays stays G' ghost lastWrite
  rw [atPos_of]
  iintro ⟨HR, ⟨⟨Hb0, Hb1⟩, Hs, Hr, Hc, Hw⟩, ⟨Hab, Hac, Has, Har⟩, Hrd, Hlw⟩
  iexists K
  iexists KS
  isplitl [HR]; · iexact HR
  isplitl [Hb0]; · iexact Hb0
  isplitl [Hb1]; · iexact Hb1
  isplitl [Hab]; · iexact Hab
  isplitl [Hs Hr Hw Hc Hac]
  · unfold flowToks
    simp only [bigSep_sep']
    isplitl [Hs Hr Hw]
    · iapply (launchToks_of c)
      isplitl [Hs]; · iexact Hs
      isplitl [Hr]; · iexact Hr
      iexact Hw
    isplitl [Hc]; · iapply (creditToks_of c); iexact Hc
    iexact Hac
  isplitl [Has Har Hrd]
  · unfold slotStart
    simp only [bigSep_sep']
    isplitl [Has]; · iexact Has
    isplitl [Har]; · iexact Har
    iexact Hrd
  iexact Hlw

theorem regroup : (bigSep Finset.univ fun c : Dev nD => alloc m c) ⊢ bigSep Finset.univ (G' m) := by
  unfold alloc slotDeal
  simp only [writes_split, bigSep_sep']
  iintro ⟨HI, ⟨Hat, HR⟩, Htok, HS, Hrd, Hlw, Hw⟩
  ihave HI := (Entails.of_eq (bigSep_univ_prod (fun ck : Dev nD × CK => (iprop(∃ κ : ℕ, cellInv ER (sched o) κ (kcell ck)) : sProp 𝕄))).symm) $$ HI
  ihave HS := (Entails.of_eq (bigSep_univ_prod (fun k : Key => (iprop(∃ κ : ℕ, slotInv ES κ k (commAny (F := F) k)) : sProp 𝕄))).symm) $$ HS
  ihave HR := (Entails.of_eq (bigSep_univ_prod (fun ck : Dev nD × CK => (reached ER (kcell ck) 0 : sProp 𝕄))).symm) $$ HR
  ihave HI := (BI.bigSep_exists_pi Finset.univ (fun (ck : Dev nD × CK) (κ : ℕ) => (cellInv ER (sched o) κ (kcell ck) : sProp 𝕄))) $$ HI
  ihave HS := (BI.bigSep_exists_pi Finset.univ (fun (k : Key) (κ : ℕ) => (slotInv ES κ k (commAny (F := F) k) : sProp 𝕄))) $$ HS
  icases HI with ⟨%K, HI⟩
  icases HS with ⟨%KS, HS⟩
  ihave Htk := (around (F := F)) $$ [Htok Hw]
  · isplitl [Htok]; · iexact Htok
    iexact Hw
  iapply (bigSep_with (R := records o K KS) (Φ := fun c => iprop(pays c ∗ stays c)) fun c _ => ghost_intro m K KS c)
  isplitl [HI HS HR]
  · unfold records
    isplitl [HI]; · iexact HI
    isplitl [HR]; · iexact HR
    iexact HS
  unfold stays
  simp only [bigSep_sep']
  isplitl [Htk]; · iexact Htk
  isplitl [Hat]; · iexact Hat
  isplitl [Hrd]; · iexact Hrd
  iexact Hlw

theorem glob : (bigSep Finset.univ fun c => iprop(Pipeline.ownSems0 (Ix := ℕ) (Name := ℕ) (U := UU) (Lvl := ℕ) (Val := Elt F) (τ := τ) osem c ∗ unscopedSems0 c ∗ G o c) : sProp 𝕄)
    ⊢ |={Set.univ}=> bigSep Finset.univ (G' m) :=
  ((bigSep_mono fun c _ => core_alloc m c).trans (bigSep_fupd _ _)).trans (BI.fupd_mono (regroup m))

end Deal

/-! ## What is owed at the launch is what each device may wait for -/

theorem creds_flow (c : Dev nD) (h : Fin 4) : (Pipeline.launchCred (fun d => owedF d h (cnt 0 h)) c : sProp 𝕄) ⊢ flowCreds c h := by
  have h0 : (fun d : Dev nD => owedF d h (cnt 0 h)) = fun d => owR d h 0 + owC d h 0 := by
    have : cnt 0 h = 0 := by have := h.isLt; show (0 + 3 - h.val) / 4 = 0; omega
    funext d; rw [this]; rfl
  rw [h0, Pipeline.launchCred_add]
  unfold owR owC flowCreds
  rw [Pipeline.launchCred_sum, Pipeline.launchCred_sum]
  exact BI.sep_mono (bigSep_mono fun v _ => Pipeline.launchCred_tallyAt (SemLoc.dma (recvSem h (par v))) nxt prv nxt_prv prv_nxt v N c)
    (bigSep_mono fun v _ => Pipeline.launchCred_tallyAt (SemLoc.reg (creditSem h)) prv nxt prv_nxt nxt_prv v 1 c)

theorem creds_of (c : Dev nD) : (Pipeline.launchCred O₀ c : sProp 𝕄) ⊢ creds c := by
  rw [show (O₀ : Dev nD → Tally') = fun c => ((∑ h, owedF c h (cnt 0 h)) + tallyAt (barCell (nxt c)) 0 1) + tallyAt (barCell (prv c)) 0 1 from rfl,
    Pipeline.launchCred_add, Pipeline.launchCred_add, Pipeline.launchCred_sum]
  unfold creds
  iintro ⟨⟨H1, H2⟩, H3⟩
  ihave H2 := (Pipeline.launchCred_tallyAt (SemLoc.reg barS) nxt prv nxt_prv prv_nxt 0 1 c) $$ H2
  ihave H3 := (Pipeline.launchCred_tallyAt (SemLoc.reg barS) prv nxt prv_nxt nxt_prv 0 1 c) $$ H3
  isplitl [H2 H3]
  · rw [show tallyAt (barCell c) (0 : ℕ) 2 = tallyAt (barCell c) 0 1 + tallyAt (barCell c) 0 1 from by
      unfold tallyAt; rw [← tallyOn_add, ← Finsupp.single_add]]
    iapply (cred_add _ _).2
    isplitl [H2]; · iexact H2
    iexact H3
  iapply (show (bigSep Finset.univ fun h => (Pipeline.launchCred (fun d => owedF d h (cnt 0 h)) c : sProp 𝕄)) ⊢ bigSep Finset.univ fun h => flowCreds c h from
    bigSep_mono fun h _ => creds_flow c h)
  iexact H1

/-! ## The run -/

section Run
variable (m : ∀ ℓ : Loc nD τ sig, Buf (Elt F) ℓ) (ρ : Dev nD → PrngReg)

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begins m c ∗ emp) := by
  iintro ⟨-, Hlev, Hcr, -, HG⟩
  ihave Hc := (creds_of (F := F) c) $$ Hcr
  imodintro
  unfold begins G'
  isplitl
  · isplitl [HG]; · iexact HG
    isplitl [Hc]; · iexact Hc
    iexact Hlev
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch commBuf stageBuf
  iintro ⟨Hs, -, H1, H2⟩
  isplitl [Hs]; · iexact Hs
  isplitl [H1]; · iexact H1
  iexact H2

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ allEnd
  iintro ⟨⟨H1, H2, H3⟩, HzB⟩
  isplitl [HzB]; · iexact HzB
  isplitl [H1]; · iexact H1
  isplitl [H2]; · iexact H2
  iexact H3

theorem above_O₀ (c : Dev nD) : Above 0 (O₀ c) := by
  have hb : ∀ d : Dev nD, 0 < lv (barCell d) 0 := fun d => by unfold lv; rw [show role (SemLoc.reg barS) = _ from role_bar]; decide
  have h1 : Above 0 (loopOwed c) := fun g i hp => ⟨(above_loopOwed c g i hp).1, lt_trans Nat.one_pos (above_loopOwed c g i hp).2⟩
  exact (h1.add (Above.at (by decide) (hb _))).add (Above.at (by decide) (hb _))

theorem waits (c : Dev nD) : (levAts L lv : sProp 𝕄) ⊢ Pipeline.cellsWaits cfgs (dats m) 0 0 c :=
  Pipeline.cellsWaits_intro cfgs (dats m) 0 0 c fun w s t =>
    mayWait c _ (n := 0) (by decide) (by unfold lv; dsimp only; fin_cases w <;> fin_cases s <;> decide) (by
      rcases t with ⟨_ | _, ht⟩
      · exact above_O₀ c
      · exact Above.zero 0)

def finalA (c : Dev nD) (w : Fin cfg0.W) : Buf (Elt F) ((cfg0.win w).arr.view.loc (c : Thread nD τ)) := (dats m 0 c).arrAt w cfg0.N

theorem share_eq (c : Dev nD) (w : Fin cfg0.W) : (dats m 0 c).share w = fullShare := by unfold Dat.share; split <;> rfl

attribute [local irreducible] cc0_body in
set_option maxRecDepth 100000 in
/-- Every fair run of the kernels on their ring ends, and then every array of a window holds what the pipeline's data
    say and every semaphore is at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (part m)) (G' := G' m) (u₀ := u₀)
    (hu₀ := fund_all (part m))
    (hglob := glob m)
    (hA := fun _ _ => rfl) (hpf := fun _ k => k.elim0)
    (X := begins m) (Y := fun c => unscopedSems0 c) (Z := fun _ => iprop(emp))
    (hX := begin_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- A device's result, and its inputs as they were. -/
theorem run_args : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _)⟩, h.2⟩) (run_main m ρ)

end Run

end Cert.KernelIdeal.AllReduce
-- ==== Proof.Sum.lean ====
/- What the ring leaves on a device, over the extended reals: narrowing and widening are the identity there, so that every
   block of rows ends as the sum of that block over all devices. -/
module

public import proofs.«01_k».proof.Proof.Whole
public import Idealize.ShloMosaic.Lib.ValueIdx

@[expose] public section

noncomputable section

namespace Cert.KernelIdeal.AllReduce

open Cert.KernelIdeal.Gen
open Idealize.ShloMosaic
open Idealize.ShloMosaic.TcCoe
open Facts₀ Facts
open scoped BigOperators

variable (o : Dev nD → OutC Ideal)

/-- The device that is `k` places before `c` on the ring. -/
def back (c : Dev nD) (k : ℕ) : Dev nD := ⟨(c.val + 32 - k % 32) % 32, Nat.mod_lt _ (by decide)⟩

theorem back_prv (c : Dev nD) (k : ℕ) : back (prv c) k = back c (k + 1) := by
  refine Fin.ext ?_
  show ((c.val + 31) % 32 + 32 - k % 32) % 32 = (c.val + 32 - (k + 1) % 32) % 32
  have := c.isLt
  omega

theorem back_zero (c : Dev nD) : back c 0 = c := by
  refine Fin.ext ?_
  show (c.val + 32 - 0 % 32) % 32 = c.val
  have := c.isLt
  have h : c.val < 32 := this
  omega

theorem sendIdx_prv (c : Dev nD) {u : ℕ} (hu : u < 64) : sendIdx (prv c) u = sendIdx c (u + 1) := by
  refine Fin.ext ?_
  show ((c.val + 31) % 32 + 64 - u) % 32 = (c.val + 64 - (u + 1)) % 32
  have := c.isLt
  have h : c.val < 32 := this
  omega

theorem wide_narrow (v : Vec Ideal S32x2048 .f32) : wide (F := Ideal) (narrow v) = v := by
  show shapeCast S32x2048 v _ = v
  exact shapeCast_self v _

theorem plusV_apply (a b : Vec Ideal S32x2048 .f32) (x : S32x2048.Idx) : plusV (F := Ideal) a b x = (show EReal from a x) + (show EReal from b x) := by
  show addf (F := Ideal) (shapeCast S32x2048 a _) b x = _
  rw [shapeCast_self]
  rfl

/-- One element of the rows of group `i`, flow `h`, of what device `d` computed. -/
def elt (d : Dev nD) (i : Fin 32) (h : Fin 4) (x : S32x2048.Idx) : EReal := rows (o d) i h x

/-- While the sums are being formed: the devices met so far. -/
theorem acc_sum (h : Fin 4) (x : S32x2048.Idx) : ∀ u, u ≤ 31 → ∀ c,
    acc o h u c x = ∑ k ∈ Finset.range (u + 1), elt o (back c k) (sendIdx c u) h x
  | 0, _, c => by
    rw [Finset.sum_range_one, back_zero, sendIdx_zero]; rfl
  | u + 1, hu, c => by
    have hlt : u < 31 := hu
    show (if u < 31 then plusV (rows (o c) (recvIdx c u) h) (wide (narrow (acc o h u (prv c)))) else _) x = _
    rw [if_pos hlt, wide_narrow, plusV_apply, acc_sum h x u (by omega) (prv c)]
    refine Eq.trans (add_comm _ _) ?_
    refine Eq.trans ?_ (Finset.sum_range_succ' (fun k => elt o (back c k) (sendIdx c (u + 1)) h x) (u + 1)).symm
    refine congrArg₂ (fun a b : EReal => a + b) (Finset.sum_congr rfl fun k _ => ?_) ?_
    · rw [back_prv, sendIdx_prv c (by omega)]
    · show elt o c (recvIdx c u) h x = _
      rw [back_zero, sendIdx_succ]

/-- The sum of one element of the rows of a block over all devices. -/
def total (i : Fin 32) (h : Fin 4) (x : S32x2048.Idx) : EReal := ∑ d : Dev nD, elt o d i h x

theorem sum_back (c : Dev nD) (f : Dev nD → EReal) : ∑ k ∈ Finset.range 32, f (back c k) = ∑ d : Dev nD, f d := by
  rw [Finset.sum_range (fun k => f (back c k))]
  have e : Function.Bijective fun k : Fin 32 => back c k.val := by revert c; decide
  exact Fintype.sum_bijective _ e _ _ fun _ => rfl

/-- From the last step of the sums on: the whole sum. -/
theorem acc_total (h : Fin 4) (x : S32x2048.Idx) : ∀ u, 31 ≤ u → u ≤ 62 → ∀ c, acc o h u c x = total o (sendIdx c u) h x := by
  refine Nat.le_induction ?_ ?_
  · intro _ c
    rw [acc_sum o h x 31 le_rfl c]
    exact sum_back c fun d => elt o d (sendIdx c 31) h x
  · intro u hu ih hle c
    show (if u < 31 then _ else wide (narrow (acc o h u (prv c)))) x = _
    rw [if_neg (by omega), wide_narrow, ih (by omega) (prv c), sendIdx_prv c (by omega)]

/-- A block once received from step 30 on. -/
theorem blk_total (h : Fin 4) (x : S32x2048.Idx) (c : Dev nD) (i : Fin 32) {k : ℕ} (hk : 30 ≤ k) (hi : i = recvIdx c k) :
    ∀ n, k < n → n ≤ 62 → blk o h c i n x = total o i h x := by
  refine Nat.le_induction ?_ ?_
  · intro hle
    show (if i = recvIdx c k then acc o h (k + 1) c else _) x = _
    rw [if_pos hi, acc_total o h x (k + 1) (by omega) hle c, sendIdx_succ, ← hi]
  · intro n hn ih hle
    show (if i = recvIdx c n then acc o h (n + 1) c else blk o h c i n) x = _
    have hn' : k < n := hn
    by_cases hc : i = recvIdx c n
    · rw [if_pos hc, acc_total o h x (n + 1) (by omega) hle c, sendIdx_succ, ← hc]
    · rw [if_neg hc, ih (by omega)]

theorem recv_all (c : Dev nD) (i : Fin 32) : ∃ k, 30 ≤ k ∧ k < 62 ∧ i = recvIdx c k := by
  have hc : c.val < 32 := c.isLt
  have hi := i.isLt
  refine ⟨30 + (c.val + 33 - i.val) % 32, by omega, by omega, Fin.ext ?_⟩
  show i.val = (c.val + 63 - (30 + (c.val + 33 - i.val) % 32)) % 32
  omega

/-- A device's result: the sum of all the devices' products. -/
theorem outAt_sum (c : Dev nD) (y : S4096x2048.Idx) : outAt o c y = ∑ d : Dev nD, (show EReal from o d y) := by
  obtain ⟨k, hk, hlt, hi⟩ := recv_all c (grpOf y)
  show blk o (flowOf y) c (grpOf y) 62 (inOf y) = _
  rw [blk_total o (flowOf y) (inOf y) c (grpOf y) hk hi 62 hlt le_rfl]
  exact Finset.sum_congr rfl fun d _ => rows_apply (o d) y

end Cert.KernelIdeal.AllReduce
-- ==== Proof.KerValue.lean ====
/- What the kernel leaves on a device, over the extended reals: the devices' partial products added up. -/
module

public import proofs.«01_k».proof.Proof.Deal
public import proofs.«01_k».proof.Proof.Sum
public import Idealize.ShloMosaic.Lib.MatmulPlain
public import Idealize.ShloMosaic.Lib.Pipeline.Value

@[expose] public section

noncomputable section

namespace Cert.KernelIdeal.AllReduce

open Cert.KernelIdeal.Gen
open Idealize.ShloMosaic Idealize.ShloMosaic.TcCoe Idealize.ShloMosaic.ValueIdx
open Idealize.ShloMosaic.Pipeline (Dat)
open Idealize.SL.Sem
open scoped BigOperators

/-- The one index of a scale. -/
abbrev z0 : S1.Idx := Shape.Idx.first (numel1_S1.symm ▸ Nat.one_pos)

theorem idx_S1 (i j : S1.Idx) : i = j := funext fun a => by
  obtain rfl : a = (0 : Fin 1) := Subsingleton.elim _ _
  have h1 : (i 0).val < 1 := (i 0).isLt
  have h2 : (j 0).val < 1 := (j 0).isLt
  exact Fin.ext (by omega)

section Generic
variable {F : FTy → Type} [FloatOps F] (m : ∀ ℓ : Loc nD τ sig, Buf (Elt F) ℓ) (ρ : Dev nD → PrngReg)

theorem idx_facts : ∀ t : Fin cfg0.N, win0_0.index t (0 : Fin 2) = 0 ∧ win0_0.index t (1 : Fin 2) = 0 ∧ win0_1.index t (0 : Fin 2) = 0
    ∧ win0_1.index t (1 : Fin 2) = 0 ∧ win0_4.index t (0 : Fin 2) = 0 ∧ win0_4.index t (1 : Fin 2) = 0 :=
  (by decide +kernel : ∀ t : Fin grid0.N, _)

theorem emb0 (y : S4096x128.Idx) : ((cfg0.win 0).blk t0_0).view.emb y = y := by
  obtain ⟨e0, e1, _⟩ := idx_facts t0_0
  funext a; apply Fin.ext
  match a with
  | ⟨0, _⟩ => show win0_0.index t0_0 (0 : Fin 2) * 4096 + 1 * (y 0).val = (y 0).val; omega
  | ⟨1, _⟩ => show win0_0.index t0_0 (1 : Fin 2) * 128 + 1 * (y 1).val = (y 1).val; omega
theorem emb1 (y : S128x2048.Idx) : ((cfg0.win 1).blk t0_0).view.emb y = y := by
  obtain ⟨_, _, e0, e1, _⟩ := idx_facts t0_0
  funext a; apply Fin.ext
  match a with
  | ⟨0, _⟩ => show win0_1.index t0_0 (0 : Fin 2) * 128 + 1 * (y 0).val = (y 0).val; omega
  | ⟨1, _⟩ => show win0_1.index t0_0 (1 : Fin 2) * 2048 + 1 * (y 1).val = (y 1).val; omega
theorem emb4 (y : S4096x2048.Idx) : ((cfg0.win 4).blk t0_0).view.emb y = y := by
  obtain ⟨_, _, _, _, e0, e1⟩ := idx_facts t0_0
  funext a; apply Fin.ext
  match a with
  | ⟨0, _⟩ => show win0_4.index t0_0 (0 : Fin 2) * 4096 + 1 * (y 0).val = (y 0).val; omega
  | ⟨1, _⟩ => show win0_4.index t0_0 (1 : Fin 2) * 2048 + 1 * (y 1).val = (y 1).val; omega

theorem in0_eq (c : Dev nD) : in0 m c = m ((c : Thread nD τ).loc main_arg0) := funext fun (y : S4096x128.Idx) => by
  show V m c main_arg0 (((cfg0.win 0).blk t0_0).view.emb y) = _
  rw [emb0]
theorem in1_eq (c : Dev nD) : in1 m c = m ((c : Thread nD τ).loc main_arg1) := funext fun (y : S128x2048.Idx) => by
  show V m c main_arg1 (((cfg0.win 1).blk t0_0).view.emb y) = _
  rw [emb1]
theorem in2_eq (c : Dev nD) (i : S1.Idx) : in2 m c i = m ((c : Thread nD τ).loc main_arg2) z0 := by
  show V m c main_arg2 (((cfg0.win 2).blk t0_0).view.emb i) = _
  exact congrArg (V m c main_arg2) (idx_S1 _ _)
theorem in3_eq (c : Dev nD) (i : S1.Idx) : in3 m c i = m ((c : Thread nD τ).loc main_arg3) z0 := by
  show V m c main_arg3 (((cfg0.win 3).blk t0_0).view.emb i) = _
  exact congrArg (V m c main_arg3) (idx_S1 _ _)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => absurd ((fin_N0 t).trans (fin_N0 t').symm) hne

theorem final_out (c : Dev nD) (y : S4096x2048.Idx) : finalA m c 4 y = outAt (part m) c y := by
  have b := congrFun ((dats m 0 c).read_blk_arrAt_eq_flushed 4 disjoint4 cfg0.N t0_0 t0_0.isLt (flush0_4 _)) y
  have b' : (dats m 0 c).arrAt 4 cfg0.N (((cfg0.win 4).blk t0_0).view.emb y) = (dats m 0 c).after 4 t0_0 y := b
  rw [emb4] at b'
  exact b'

/-- A device's result, and its inputs as they were. -/
theorem run_value : θ_run defs (onTc (τ := τ) (main (F := F))) ⟨m, fun _ => 0, ρ⟩ (fun r =>
    ∀ c : Dev nD, r.2.mem ((c : Thread nD τ).loc main_v1) = outAt (part m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c 4).trans (funext (final_out m c)), (h.1 c 0).trans ((dats m 0 c).arrAt_in 0 rfl _),
    (h.1 c 1).trans ((dats m 0 c).arrAt_in 1 rfl _), (h.1 c 2).trans ((dats m 0 c).arrAt_in 2 rfl _),
    (h.1 c 3).trans ((dats m 0 c).arrAt_in 3 rfl _)⟩) (run_main m ρ)

end Generic

theorem dot_plain : (dot_S4096x128_S128x2048_S4096x2048_1_0_0_1_n_n : DotDims S4096x128 S128x2048 S4096x2048) = DotDims.plain 4096 128 2048 := rfl

theorem dotV_apply (sx sw : Elt Ideal .f32) (x : Vec Ideal S4096x128 .fp8e4m3) (w : Vec Ideal S128x2048 .fp8e4m3) (r : Fin 4096) (j : Fin 2048) :
    dotV (F := Ideal) sx sw x w (ix2 r j)
      = ∑ k : Fin 128, @HMul.hMul EReal EReal EReal _ (@HMul.hMul EReal EReal EReal _ (x (ix2 r k)) (@HMul.hMul EReal EReal EReal _ sx sw)) (w (ix2 k j)) := by
  unfold dotV
  rw [shapeCast_self, shapeCast_self]
  have h := Ideal.matmul_plain_apply (M := 4096) (K := 128) (N := 2048) (φ₁ := .f32) (φ₂ := .fp8e4m3) none
    (mulf (extf .f32 x Facts₀.bitsLt_fp8e4m3_f32) (broadcast S4096x128 (Scalar.mulf sx sw))) w (constant S4096x2048 .f32 0x00000000#32) r j
  have e : (constant (F := Ideal) S4096x2048 .f32 0x00000000#32 (ix2 r j) : EReal) = 0 := Ideal.ofBits_zero_f32
  rw [e, zero_add] at h
  exact h

variable (m : ∀ ℓ : Loc nD τ sig, Buf (Elt Ideal) ℓ)

/-- The product of the two scales on a device. -/
def scale (c : Dev nD) : EReal :=
  @HMul.hMul EReal EReal EReal _ (m ((c : Thread nD τ).loc main_arg2) z0) (m ((c : Thread nD τ).loc main_arg3) z0)

/-- One element of a device's partial product. -/
def partAt (x : S4096x128.Idx → EReal) (w : S128x2048.Idx → EReal) (s : EReal) (r : Fin 4096) (j : Fin 2048) : EReal :=
  ∑ k : Fin 128, (x (ix2 r k) * s) * w (ix2 k j)

theorem scal2_eq (s : X2 Ideal) : scal2 s = s z0 := congrArg s (idx_S1 _ _)
theorem scal3_eq (s : X3 Ideal) : scal3 s = s z0 := congrArg s (idx_S1 _ _)

theorem part_apply (c : Dev nD) (r : Fin 4096) (j : Fin 2048) :
    part m c (ix2 r j) = partAt (m ((c : Thread nD τ).loc main_arg0)) (m ((c : Thread nD τ).loc main_arg1)) (scale m c) r j := by
  unfold part partOf
  rw [in0_eq, in1_eq, scal2_eq, scal3_eq, in2_eq, in3_eq]
  exact dotV_apply _ _ _ _ r j

theorem sum_eq {f g : Dev nD → EReal} (h : ∀ d, f d = g d) : ∑ d : Dev nD, f d = ∑ d : Dev nD, g d :=
  Finset.sum_congr rfl fun d _ => h d

/-- One element of the result: the devices' partial products added up. -/
def outVal (r : Fin 4096) (j : Fin 2048) : EReal :=
  ∑ d : Dev nD, partAt (m ((d : Thread nD τ).loc main_arg0)) (m ((d : Thread nD τ).loc main_arg1)) (scale m d) r j

theorem out_apply (c : Dev nD) (r : Fin 4096) (j : Fin 2048) : outAt (part m) c (ix2 r j) = outVal m r j :=
  (outAt_sum (part m) c (ix2 r j)).trans (sum_eq fun d => part_apply m d r j)

end Cert.KernelIdeal.AllReduce
-- ==== Proof.RefValue.lean ====
/- What the reference leaves, over the extended reals: at row `r` and column `j` the product of the arrays there, times the
   product of the two scales. -/
module

public import proofs.«01_k».proof.Proof.Gen.ReferenceIdeal.Value
public import Idealize.ShloMosaic.Lib.VecWindow
public import Idealize.ShloMosaic.Lib.ValueIdx
public import Idealize.ShloMosaic.Lib.MatmulPlain
public import Idealize.ShloMosaic.Lib.Pipeline.ValueKit.Tiles

@[expose] public section

noncomputable section

namespace Cert.ReferenceIdeal.Product

open Cert.ReferenceIdeal Cert.ReferenceIdeal.Gen
open Idealize.ShloMosaic Idealize.ShloMosaic.TcCoe Idealize.ShloMosaic.ValueIdx
open scoped BigOperators

/-- The one index of a scale. -/
abbrev z0 : S1.Idx := Shape.Idx.first (numel1_S1.symm ▸ Nat.one_pos)

theorem idx_S1 (i j : S1.Idx) : i = j := funext fun a => by
  obtain rfl : a = (0 : Fin 1) := Subsingleton.elim _ _
  have h1 : (i 0).val < 1 := (i 0).isLt
  have h2 : (j 0).val < 1 := (j 0).isLt
  exact Fin.ext (by omega)

theorem hz2 : (![0, 0] : Fin 2 → Nat) = fun _ => 0 := funext fun a => by fin_cases a <;> rfl

section Generic
variable {F : FTy → Type} [FloatOps F]

theorem load_x (a : Memref sig .tc .vmem S4096x4096 .fp8e4m3) (ha : a.IsWhole) (x : Vec F S4096x4096 .fp8e4m3) :
    a.view.readAt (Elt F) (Rect.unit (s := S4096x4096) ![0, 0] S4096x4096.size inb_S4096x4096_S4096x4096_0_0).toLoadRect (ha.unread x) = x := by
  rw [View.readAt_eq_ld, ha.read_unread, View.ld_unit_zero hz2]
theorem load_w (a : Memref sig .tc .vmem S4096x2048 .fp8e4m3) (ha : a.IsWhole) (x : Vec F S4096x2048 .fp8e4m3) :
    a.view.readAt (Elt F) (Rect.unit (s := S4096x2048) ![0, 0] S4096x2048.size inb_S4096x2048_S4096x2048_0_0).toLoadRect (ha.unread x) = x := by
  rw [View.readAt_eq_ld, ha.read_unread, View.ld_unit_zero hz2]
theorem load_s (a : Memref sig .tc .smem S1 .f32) (ha : a.IsWhole) (x : Vec F S1 .f32) (i : S1.Idx) :
    a.view.readAt (Elt F) (Rect.unit (s := S1) ![0] S1.size inb_S1_S1_0).toLoadRect (ha.unread x) i = x z0 := by
  rw [View.readAt_apply, ha.read_unread]
  exact congrArg x (idx_S1 _ _)

theorem out_eq (c : Dev nD) (arg0 : Memref sig .tc .vmem S4096x4096 .fp8e4m3) (harg0 : arg0.IsWhole) (arg1 : Memref sig .tc .vmem S4096x2048 .fp8e4m3)
    (harg1 : arg1.IsWhole) (arg2 : Memref sig .tc .smem S1 .f32) (harg2 : arg2.IsWhole) (arg3 : Memref sig .tc .smem S1 .f32) (harg3 : arg3.IsWhole)
    (arg4 : Memref sig .tc .vmem S4096x2048 .f32) (harg4 : arg4.IsWhole)
    (x0 : Vec F S4096x4096 .fp8e4m3) (x1 : Vec F S4096x2048 .fp8e4m3) (x2 : Vec F S1 .f32) (x3 : Vec F S1 .f32) (y : S4096x2048.Idx) :
    out0_A_4 c arg0 harg0 arg1 harg1 arg2 harg2 arg3 harg3 arg4 harg4 x0 x1 x2 x3 y = k0_pay1 x0 x1 (x2 z0) (x3 z0) y := by
  unfold out0_A_4 kernelRun0_A
  have h := View.read_writes_cons_emb (v := VO0_4) (f := VO0_4.junk) (Val := Elt F)
    (Rect.unit (s := S4096x2048) ![0, 0] S4096x2048.size inb_S4096x2048_S4096x2048_0_0)
    (k0_pay1
      (arg0.view.readAt (Elt F) (Rect.unit (s := S4096x4096) ![0, 0] S4096x4096.size inb_S4096x4096_S4096x4096_0_0).toLoadRect (harg0.unread x0))
      (arg1.view.readAt (Elt F) (Rect.unit (s := S4096x2048) ![0, 0] S4096x2048.size inb_S4096x2048_S4096x2048_0_0).toLoadRect (harg1.unread x1))
      (arg2.view.readAt (Elt F) (Rect.unit (s := S1) ![0] S1.size inb_S1_S1_0).toLoadRect (harg2.unread x2) z0)
      (arg3.view.readAt (Elt F) (Rect.unit (s := S1) ![0] S1.size inb_S1_S1_0).toLoadRect (harg3.unread x3) z0)) [] y
  rw [Rect.emb_unit_full] at h
  refine h.trans ?_
  rw [load_x, load_w, load_s, load_s]

abbrev t0 : Fin cfg0.N := ⟨0, by decide⟩
variable (m : (ℓ : Loc nD τ sig) → Buf (Elt F) ℓ)

theorem idx_facts : ∀ t : Fin cfg0.N, win0_0.index t (0 : Fin 2) = 0 ∧ win0_0.index t (1 : Fin 2) = 0 ∧ win0_1.index t (0 : Fin 2) = 0
    ∧ win0_1.index t (1 : Fin 2) = 0 ∧ win0_4.index t (0 : Fin 2) = 0 ∧ win0_4.index t (1 : Fin 2) = 0 :=
  (by decide +kernel : ∀ t : Fin grid0.N, _)

theorem emb0 (y : S4096x4096.Idx) : ((cfg0.win 0).blk t0).view.emb y = y := by
  obtain ⟨e0, e1, _⟩ := idx_facts t0
  funext a; apply Fin.ext
  match a with
  | ⟨0, _⟩ => show win0_0.index t0 (0 : Fin 2) * 4096 + 1 * (y 0).val = (y 0).val; omega
  | ⟨1, _⟩ => show win0_0.index t0 (1 : Fin 2) * 4096 + 1 * (y 1).val = (y 1).val; omega
theorem emb1 (y : S4096x2048.Idx) : ((cfg0.win 1).blk t0).view.emb y = y := by
  obtain ⟨_, _, e0, e1, _⟩ := idx_facts t0
  funext a; apply Fin.ext
  match a with
  | ⟨0, _⟩ => show win0_1.index t0 (0 : Fin 2) * 4096 + 1 * (y 0).val = (y 0).val; omega
  | ⟨1, _⟩ => show win0_1.index t0 (1 : Fin 2) * 2048 + 1 * (y 1).val = (y 1).val; omega
theorem emb4 (y : S4096x2048.Idx) : ((cfg0.win 4).blk t0).view.emb y = y := by
  obtain ⟨_, _, _, _, e0, e1⟩ := idx_facts t0
  funext a; apply Fin.ext
  match a with
  | ⟨0, _⟩ => show win0_4.index t0 (0 : Fin 2) * 4096 + 1 * (y 0).val = (y 0).val; omega
  | ⟨1, _⟩ => show win0_4.index t0 (1 : Fin 2) * 2048 + 1 * (y 1).val = (y 1).val; omega

theorem iblk0_eq (c : Dev nD) (y : S4096x4096.Idx) : iblk m c 0 t0 y = m ((c : Thread nD τ).loc main_arg0) y := by
  show V m c main_arg0 (((cfg0.win 0).blk t0).view.emb y) = _
  rw [emb0]
theorem iblk1_eq (c : Dev nD) (y : S4096x2048.Idx) : iblk m c 1 t0 y = m ((c : Thread nD τ).loc main_arg1) y := by
  show V m c main_arg1 (((cfg0.win 1).blk t0).view.emb y) = _
  rw [emb1]
theorem iblk2_eq (c : Dev nD) (i : S1.Idx) : iblk m c 2 t0 i = m ((c : Thread nD τ).loc main_arg2) z0 := by
  show V m c main_arg2 (((cfg0.win 2).blk t0).view.emb i) = _
  exact congrArg (V m c main_arg2) (idx_S1 _ _)
theorem iblk3_eq (c : Dev nD) (i : S1.Idx) : iblk m c 3 t0 i = m ((c : Thread nD τ).loc main_arg3) z0 := by
  show V m c main_arg3 (((cfg0.win 3).blk t0).view.emb i) = _
  exact congrArg (V m c main_arg3) (idx_S1 _ _)

theorem final_eq (c : Dev nD) (y : S4096x2048.Idx) :
    (dats m 0 c).arrAt 4 cfg0.N y
      = k0_pay1 (F := F) (m ((c : Thread nD τ).loc main_arg0)) (m ((c : Thread nD τ).loc main_arg1)) (m ((c : Thread nD τ).loc main_arg2) z0)
          (m ((c : Thread nD τ).loc main_arg3) z0) y := by
  have b := congrFun (Cert.ReferenceIdeal.Value.blocks4 m c t0 rfl) y
  rw [Cert.ReferenceIdeal.Value.flushed4_A] at b
  have b' : (dats m 0 c).arrAt 4 cfg0.N (((cfg0.win 4).blk t0).view.emb y) = _ := b
  rw [emb4] at b'
  refine b'.trans ?_
  refine (out_eq c _ _ _ _ _ _ _ _ _ _ (iblk m c 0 t0) (iblk m c 1 t0) (iblk m c 2 t0) (iblk m c 3 t0) y).trans ?_
  rw [show (iblk m c 0 t0 : S4096x4096.Idx → Elt F .fp8e4m3) = m ((c : Thread nD τ).loc main_arg0) from funext (iblk0_eq m c),
    show (iblk m c 1 t0 : S4096x2048.Idx → Elt F .fp8e4m3) = m ((c : Thread nD τ).loc main_arg1) from funext (iblk1_eq m c)]
  rw [iblk2_eq, iblk3_eq]
end Generic

/-- The reference's result at row `r` and column `j`. -/
def val (x : S4096x4096.Idx → EReal) (w : S4096x2048.Idx → EReal) (s : EReal) (r : Fin 4096) (j : Fin 2048) : EReal :=
  (∑ k : Fin 4096, x (ix2 r k) * w (ix2 k j)) * s

theorem dot_plain : (dot_S4096x4096_S4096x2048_S4096x2048_1_0_0_1_n_n : DotDims S4096x4096 S4096x2048 S4096x2048) = DotDims.plain 4096 4096 2048 := rfl

theorem pay_apply (x : Vec Ideal S4096x4096 .fp8e4m3) (w : Vec Ideal S4096x2048 .fp8e4m3) (s2 s3 : Elt Ideal .f32) (r : Fin 4096) (j : Fin 2048) :
    k0_pay1 (F := Ideal) x w s2 s3 (ix2 r j) = val x w (@HMul.hMul EReal EReal EReal _ s2 s3) r j := by
  have h := Ideal.matmul_plain_apply (M := 4096) (K := 4096) (N := 2048) (φ₁ := .f32) (φ₂ := .f32) none x w (constant S4096x2048 .f32 0x00000000#32) r j
  have e : (constant (F := Ideal) S4096x2048 .f32 0x00000000#32 (ix2 r j) : EReal) = 0 := Ideal.ofBits_zero_f32
  rw [e, zero_add] at h
  exact congrArg (fun a : EReal => a * (@HMul.hMul EReal EReal EReal _ s2 s3)) h

variable (m : (ℓ : Loc nD τ sig) → Buf (Elt Ideal) ℓ)

theorem final_apply (c : Dev nD) (r : Fin 4096) (j : Fin 2048) :
    (dats m 0 c).arrAt 4 cfg0.N (ix2 r j)
      = val (m ((c : Thread nD τ).loc main_arg0)) (m ((c : Thread nD τ).loc main_arg1))
          (@HMul.hMul EReal EReal EReal _ (m ((c : Thread nD τ).loc main_arg2) z0) (m ((c : Thread nD τ).loc main_arg3) z0)) r j :=
  (final_eq m c (ix2 r j)).trans (pay_apply _ _ _ _ r j)

end Cert.ReferenceIdeal.Product
-- ==== Proof.Bridge.lean ====
/- The kernel's sum and the reference's, over the extended reals: the devices' partial products of their blocks, the scale
   inside, add up to the product of the whole arrays, the scale outside, for a scale that is finite and not negative. -/
module

public import proofs.«01_k».proof.Defs
public import proofs.«01_k».proof.Proof.KerValue
public import proofs.«01_k».proof.Proof.RefValue
public import Idealize.ShloMosaic.Lib.Layout

@[expose] public section

noncomputable section

namespace Cert.Proof

open Idealize.ShloMosaic Idealize.ShloMosaic.TcCoe Idealize.ShloMosaic.ValueIdx
open Idealize.SL.Sem
open scoped BigOperators

/-- A scale that is finite and not negative goes into a sum. -/
theorem sum_mul_scale {n : ℕ} (f : Fin n → EReal) {s : EReal} (h0 : 0 ≤ s) (h1 : s ≠ ⊤) : (∑ k, f k) * s = ∑ k, f k * s := by
  induction n with
  | zero => simp
  | succ n ih => rw [Fin.sum_univ_succ, Fin.sum_univ_succ, EReal.right_distrib_of_nonneg_of_ne_top h0 h1, ih]

/-- Position `128 d + k` of the contracted axis. -/
def at128 (d : Fin 32) (k : Fin 128) : Fin 4096 := ⟨d.val * 128 + k.val, by omega⟩

theorem sum_blocks (f : Fin 4096 → EReal) : ∑ K, f K = ∑ d : Fin 32, ∑ k : Fin 128, f (at128 d k) := by
  rw [← Fintype.sum_prod_type' (f := fun d k => f (at128 d k))]
  refine (Fintype.sum_equiv (finProdFinEquiv (m := 32) (n := 128)) _ _ fun p => congrArg f (Fin.ext ?_)).symm
  show p.1.val * 128 + p.2.val = p.2.val + 128 * p.1.val
  omega

theorem block_x (X : (⟨2, ![4096, 4096]⟩ : Shape).Idx → EReal) (d : Fin 32) (r : Fin 4096) (k : Fin 128) :
    Layout.block ⟨2, ![4096, 128]⟩ ⟨2, ![4096, 4096]⟩ 1 32 d X (by decide) (ix2 r k) = X (ix2 r (at128 d k)) := by
  rw [Layout.block_apply]
  refine congrArg X (funext fun a => Fin.ext ?_)
  match a with
  | ⟨0, _⟩ => rfl
  | ⟨1, _⟩ => rfl

theorem block_w (W : (⟨2, ![4096, 2048]⟩ : Shape).Idx → EReal) (d : Fin 32) (k : Fin 128) (j : Fin 2048) :
    Layout.block ⟨2, ![128, 2048]⟩ ⟨2, ![4096, 2048]⟩ 0 32 d W (by decide) (ix2 k j) = W (ix2 (at128 d k) j) := by
  rw [Layout.block_apply]
  refine congrArg W (funext fun a => Fin.ext ?_)
  match a with
  | ⟨0, _⟩ => rfl
  | ⟨1, _⟩ => rfl

open Cert.KernelIdeal.AllReduce (partAt) in
open Cert.ReferenceIdeal.Product (val) in
theorem sums_agree (X : (⟨2, ![4096, 4096]⟩ : Shape).Idx → EReal) (W : (⟨2, ![4096, 2048]⟩ : Shape).Idx → EReal) {s : EReal} (h0 : 0 ≤ s) (h1 : s ≠ ⊤)
    (r : Fin 4096) (j : Fin 2048) :
    ∑ d : Fin 32, partAt (Layout.block ⟨2, ![4096, 128]⟩ ⟨2, ![4096, 4096]⟩ 1 32 d X) (Layout.block ⟨2, ![128, 2048]⟩ ⟨2, ![4096, 2048]⟩ 0 32 d W) s r j
      = val X W s r j := by
  unfold val
  rw [sum_mul_scale _ h0 h1, sum_blocks]
  refine Finset.sum_congr rfl fun d _ => Finset.sum_congr rfl fun k _ => ?_
  rw [block_x, block_w, mul_assoc, mul_assoc, mul_comm s]

/-! ## The precondition -/

/-- What the two comparisons say of a product of two scales. -/
theorem of_cmp {p : EReal} (h : Ideal.cmp .oge p (Ideal.ofBits .f32 0x00000000#32) &&& Ideal.cmp .olt p (Ideal.ofBits .f32 0x7F800000#32) = 1#1) :
    0 ≤ p ∧ p ≠ ⊤ := by
  have hz : Ideal.ofBits .f32 0x00000000#32 = 0 := Ideal.ofBits_zero_f32
  have ht : Ideal.ofBits .f32 0x7F800000#32 = ⊤ := by simp [Ideal.ofBits, Ideal.ieee]
  rw [hz, ht] at h
  unfold Ideal.cmp at h
  by_cases h0 : 0 ≤ p
  · by_cases h1 : p < ⊤
    · exact ⟨h0, h1.ne⟩
    · simp [h0, h1] at h
  · simp [h0] at h

open Cert.Pre_scale_is_finite_and_not_negative_KernelIdeal (S1 S_) in
theorem cast_scale (v : S1.Idx → EReal) (h : S1.ShapeCasts S_) (i : S_.Idx) (j : S1.Idx) : shapeCast S_ v h i = v j :=
  congrArg v (Cert.KernelIdeal.AllReduce.idx_S1 _ _)

theorem pre_scale [Cert.Pre_scale_is_finite_and_not_negative_KernelIdeal.Facts] (m : (ℓ : Loc Cert.KernelIdeal.nD Cert.KernelIdeal.τ Cert.KernelIdeal.sig) → Buf (Elt Ideal) ℓ)
    (h : Cert.Pre_KernelIdeal_scale_is_finite_and_not_negative_KernelIdeal m) (c : Dev Cert.KernelIdeal.nD) :
    0 ≤ Cert.KernelIdeal.AllReduce.scale m c ∧ Cert.KernelIdeal.AllReduce.scale m c ≠ ⊤ := by
  have hc := congrFun (h c) ix0
  unfold Cert.Pre_scale_is_finite_and_not_negative_KernelIdeal.fn at hc
  refine of_cmp ?_
  unfold Cert.KernelIdeal.AllReduce.scale
  rw [← cast_scale (m ((c.tc : Thread Cert.KernelIdeal.nD Cert.KernelIdeal.τ).loc Cert.KernelIdeal.main_arg2))
      Cert.Pre_scale_is_finite_and_not_negative_KernelIdeal.Facts.shapeCasts_S1_S_ ix0,
    ← cast_scale (m ((c.tc : Thread Cert.KernelIdeal.nD Cert.KernelIdeal.τ).loc Cert.KernelIdeal.main_arg3))
      Cert.Pre_scale_is_finite_and_not_negative_KernelIdeal.Facts.shapeCasts_S1_S_ ix0]
  exact hc

end Cert.Proof
-- ==== Proof.lean ====
/- The claim: the kernel's frame at the machine's numbers and over the extended reals, the reference's frame, and that every
   device ends with the reference's result. -/
module

public import proofs.«01_k».proof.Defs
public import proofs.«01_k».proof.Proof.Deal
public import proofs.«01_k».proof.Proof.Bits.Deal
public import proofs.«01_k».proof.Proof.Bridge
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.ShloMosaic.ValueIdx
open Idealize.SL.Sem
open scoped BigOperators

/-- What the reference leaves. -/
abbrev refOut (m' : (ℓ : Loc Cert.ReferenceIdeal.nD Cert.ReferenceIdeal.τ Cert.ReferenceIdeal.sig) → Buf (Elt Ideal) ℓ) : (⟨2, ![4096, 2048]⟩ : Shape).Idx → EReal :=
  (Cert.ReferenceIdeal.Gen.dats m' 0 0).arrAt 4 Cert.ReferenceIdeal.cfg0.N

theorem value [Cert.Pre_scale_is_finite_and_not_negative_KernelIdeal.Facts] :
    Cert.algebraic_KernelIdeal_ReferenceIdeal_pre_scale_is_finite_and_not_negative_KernelIdeal := by
  intro m g m' g' hpre hargs
  refine ⟨refOut m', ?_, ?_⟩
  · refine (θ_run _ _ _).mono (fun r h c => ⟨(h c).1.trans ?_, (h c).2⟩) (Cert.KernelIdeal.AllReduce.run_value m g)
    funext y
    obtain ⟨h0, h1⟩ := pre_scale m hpre c
    have hs : ∀ d, Cert.KernelIdeal.AllReduce.scale m d = Cert.KernelIdeal.AllReduce.scale m c := fun d => by
      unfold Cert.KernelIdeal.AllReduce.scale
      rw [(hargs d).2.2.1, (hargs d).2.2.2, (hargs c).2.2.1, (hargs c).2.2.2]
    obtain ⟨i, j, rfl⟩ : ∃ (i : Fin 4096) (j : Fin 2048), y = ix2 i j := ⟨y 0, y 1, eq_ix2 y⟩
    refine (Cert.KernelIdeal.AllReduce.out_apply m c i j).trans ?_
    refine Eq.trans ?_ (Cert.ReferenceIdeal.Product.final_apply m' 0 i j).symm
    refine Eq.trans (Cert.KernelIdeal.AllReduce.sum_eq fun d => ?_) ((sums_agree
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) h0 h1 i j).trans ?_)
    · rw [(hargs d).1, (hargs d).2.1, hs d]
    · unfold Cert.KernelIdeal.AllReduce.scale
      rw [(hargs c).2.2.1, (hargs c).2.2.2]
  · exact (θ_run _ _ _).mono (fun r h => h 0) (Cert.ReferenceIdeal.Value.run_blocks m' g')

theorem claim : Cert.Claim :=
  ⟨Cert.Kernel.Gen.facts, Cert.KernelIdeal.Gen.facts, Cert.ReferenceIdeal.Gen.facts, ⟨by decide⟩, ⟨by decide⟩,
    fun m g _ => Cert.Kernel.AllReduce.run_args m g,
    fun m g _ => Cert.KernelIdeal.AllReduce.run_args m g,
    fun m g _ => Cert.KernelIdeal.AllReduce.run_args m g,
    fun m g _ => Cert.ReferenceIdeal.Gen.frame m g,
    fun m g _ => Cert.ReferenceIdeal.Gen.frame m g,
    trivial,
    @value ⟨by decide⟩⟩

end Cert.Proof
